-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x8192x512 : Shape := ⟨3, ![8, 8192, 512]⟩
abbrev S8x8192x4x128 : Shape := ⟨4, ![8, 8192, 4, 128]⟩
abbrev S1x128 : Shape := ⟨2, ![1, 128]⟩
abbrev S1x64 : Shape := ⟨2, ![1, 64]⟩
abbrev S8x8192x1024 : Shape := ⟨3, ![8, 8192, 1024]⟩
abbrev S1x1024x1024 : Shape := ⟨3, ![1, 1024, 1024]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S8x8192x4x128 : S_.BroadcastsInDim S8x8192x4x128 (![] : Fin 0 → Fin S8x8192x4x128.rank)
  reducesTo_S8x8192x4x128_S_d0_1_2_3 : S8x8192x4x128.ReducesTo [0, 1, 2, 3] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg6 : FVec F S1x64 .f32) (main_arg7 : FVec F S1x64 .f32) (main_arg8 : FVec F S1x64 .f32) (main_v3 : IVec S_ 1) (main_v7 : IVec S_ 1) (main_v11 : IVec S_ 1) (main_v15 : IVec S_ 1) : IVec S_ 1 :=
  let main_v16 : FVec F S1x64 .f32 := Host.absf main_arg6
  let main_cst_6 : FVec F S_ .f32 := constant S_ .f32 0x7F800000#32
  let main_v17 : FVec F S1x64 .f32 := broadcastInDim S1x64 ![] bcast_S_S1x64 main_cst_6
  let main_v18 : IVec S1x64 1 := cmpf .olt main_v16 main_v17
  let main_c_7 : IVec S_ 1 := constantI S_ 1 1#1
  let main_v19 : IVec S_ 1 := (fun x v => Host.reduce IntOp.andi x v reducesTo_S1x64_S_d0_1 h_S_) main_v18 main_c_7
  let main_v20 : FVec F S1x64 .f32 := Host.absf main_arg7
  let main_cst_8 : FVec F S_ .f32 := constant S_ .f32 0x7F800000#32
  let main_v21 : FVec F S1x64 .f32 := broadcastInDim S1x64 ![] bcast_S_S1x64 main_cst_8
  let main_v22 : IVec S1x64 1 := cmpf .olt main_v20 main_v21
  let main_c_9 : IVec S_ 1 := constantI S_ 1 1#1
  let main_v23 : IVec S_ 1 := (fun x v => Host.reduce IntOp.andi x v reducesTo_S1x64_S_d0_1 h_S_) main_v22 main_c_9
  let main_v24 : FVec F S1x64 .f32 := Host.absf main_arg8
  let main_cst_10 : FVec F S_ .f32 := constant S_ .f32 0x7F800000#32
  let main_v25 : FVec F S1x64 .f32 := broadcastInDim S1x64 ![] bcast_S_S1x64 main_cst_10
  let main_v26 : IVec S1x64 1 := cmpf .olt main_v24 main_v25
  let main_c_11 : IVec S_ 1 := constantI S_ 1 1#1
  let main_v27 : IVec S_ 1 := (fun x v => Host.reduce IntOp.andi x v reducesTo_S1x64_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8x8192x512 .f32) (main_arg1 : FVec F S8x8192x512 .f32) (main_arg2 : FVec F S8x8192x4x128 .f32) (main_arg3 : FVec F S8x8192x512 .f32) (main_arg4 : FVec F S1x128 .f32) (main_arg5 : FVec F S1x64 .f32) (main_arg6 : FVec F S1x64 .f32) (main_arg7 : FVec F S1x64 .f32) (main_arg8 : FVec F S1x64 .f32) (main_arg9 : FVec F S8x8192x1024 .f32) (main_arg10 : FVec F S8x8192x512 .f32) (main_arg11 : FVec F S1x1024x1024 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S8x8192x512 .f32 := Host.absf main_arg1
  let main_cst_0 : FVec F S_ .f32 := constant S_ .f32 0x7F800000#32
  let main_v5 : FVec F S8x8192x512 .f32 := broadcastInDim S8x8192x512 ![] bcast_S_S8x8192x512 main_cst_0
  let main_v6 : IVec S8x8192x512 1 := cmpf .olt main_v4 main_v5
  let main_c_1 : IVec S_ 1 := constantI S_ 1 1#1
  let main_v7 : IVec S_ 1 := (fun x v => Host.reduce IntOp.andi x v reducesTo_S8x8192x512_S_d0_1_2 h_S_) main_v6 main_c_1
  let main_v8 : FVec F S8x8192x4x128 .f32 := Host.absf main_arg2
  let main_cst_2 : FVec F S_ .f32 := constant S_ .f32 0x7F800000#32
  let main_v9 : FVec F S8x8192x4x128 .f32 := broadcastInDim S8x8192x4x128 ![] bcast_S_S8x8192x4x128 main_cst_2
  let main_v10 : IVec S8x8192x4x128 1 := cmpf .olt main_v8 main_v9
  let main_c_3 : IVec S_ 1 := constantI S_ 1 1#1
  let main_v11 : IVec S_ 1 := (fun x v => Host.reduce IntOp.andi x v reducesTo_S8x8192x4x128_S_d0_1_2_3 h_S_) main_v10 main_c_3
  let main_v12 : FVec F S1x64 .f32 := Host.absf main_arg5
  let main_cst_4 : FVec F S_ .f32 := constant S_ .f32 0x7F800000#32
  let main_v13 : FVec F S1x64 .f32 := broadcastInDim S1x64 ![] bcast_S_S1x64 main_cst_4
  let main_v14 : IVec S1x64 1 := cmpf .olt main_v12 main_v13
  let main_c_5 : IVec S_ 1 := constantI S_ 1 1#1
  let main_v15 : IVec S_ 1 := (fun x v => Host.reduce IntOp.andi x v reducesTo_S1x64_S_d0_1 h_S_) main_v14 main_c_5
  fn_part1 (F := F) main_arg6 main_arg7 main_arg8 main_v3 main_v7 main_v11 main_v15
-- ==== Kernel.lean ====
abbrev S8x8192x512 : Shape := ⟨3, ![8, 8192, 512]⟩
abbrev S8x8192x4x128 : Shape := ⟨4, ![8, 8192, 4, 128]⟩
abbrev S1x128 : Shape := ⟨2, ![1, 128]⟩
abbrev S1x64 : Shape := ⟨2, ![1, 64]⟩
abbrev S8x8192x1024 : Shape := ⟨3, ![8, 8192, 1024]⟩
abbrev S1x1024x1024 : Shape := ⟨3, ![1, 1024, 1024]⟩
abbrev S8x16x512x4x128 : Shape := ⟨5, ![8, 16, 512, 4, 128]⟩
abbrev S8x4x16x128x512 : Shape := ⟨5, ![8, 4, 16, 128, 512]⟩
abbrev S_ : Shape := ⟨0, ![]⟩
abbrev S8x4x16x16x512 : Shape := ⟨5, ![8, 4, 16, 16, 512]⟩
abbrev S8x4x16x144x512 : Shape := ⟨5, ![8, 4, 16, 144, 512]⟩
abbrev S64 : Shape := ⟨1, ![64]⟩
abbrev S4x64 : Shape := ⟨2, ![4, 64]⟩
abbrev S1024x1024 : Shape := ⟨2, ![1024, 1024]⟩
abbrev S8192x128 : Shape := ⟨2, ![8192, 128]⟩
abbrev S1x512x512 : Shape := ⟨3, ![1, 512, 512]⟩
abbrev S1x8192x512 : Shape := ⟨3, ![1, 8192, 512]⟩
abbrev S1x4x16x144x512 : Shape := ⟨5, ![1, 4, 16, 144, 512]⟩
abbrev S1x512x1024 : Shape := ⟨3, ![1, 512, 1024]⟩
abbrev S2x4x1024x256 : Shape := ⟨4, ![2, 4, 1024, 256]⟩
abbrev S512x4096 : Shape := ⟨2, ![512, 4096]⟩
abbrev S1x4096 : Shape := ⟨2, ![1, 4096]⟩
abbrev S144x4096 : Shape := ⟨2, ![144, 4096]⟩
abbrev S512x128 : Shape := ⟨2, ![512, 128]⟩
abbrev S1x512x128 : Shape := ⟨3, ![1, 512, 128]⟩
abbrev S512x256 : Shape := ⟨2, ![512, 256]⟩
abbrev S1024x256 : Shape := ⟨2, ![1024, 256]⟩
abbrev S1x1x1024x256 : Shape := ⟨4, ![1, 1, 1024, 256]⟩
abbrev S1x1x256x256 : Shape := ⟨4, ![1, 1, 256, 256]⟩
abbrev S256x256 : Shape := ⟨2, ![256, 256]⟩
abbrev S256 : Shape := ⟨1, ![256]⟩
abbrev S1x256 : Shape := ⟨2, ![1, 256]⟩
abbrev S144x256 : Shape := ⟨2, ![144, 256]⟩
abbrev S1x1x1x144x256 : Shape := ⟨5, ![1, 1, 1, 144, 256]⟩
abbrev S512x1024 : Shape := ⟨2, ![512, 1024]⟩
abbrev S512x512 : Shape := ⟨2, ![512, 512]⟩
abbrev S128x4096 : Shape := ⟨2, ![128, 4096]⟩
abbrev S1 : Shape := ⟨1, ![1]⟩
abbrev S1x1 : Shape := ⟨2, ![1, 1]⟩
abbrev S128x512 : Shape := ⟨2, ![128, 512]⟩
abbrev S512 : Shape := ⟨1, ![512]⟩
abbrev S1x512 : Shape := ⟨2, ![1, 512]⟩

abbrev nBuf : Space → Nat
  | .hbm => 45
  | .vmem => 23
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x4x128, .f32⟩
  | .hbm, ⟨3, _⟩ => ⟨S8x8192x512, .f32⟩
  | .hbm, ⟨4, _⟩ => ⟨S1x128, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S8x8192x1024, .f32⟩
  | .hbm, ⟨10, _⟩ => ⟨S8x8192x512, .f32⟩
  | .hbm, ⟨11, _⟩ => ⟨S1x1024x1024, .f32⟩
  | .hbm, ⟨12, _⟩ => ⟨S8x8192x512, .bf16⟩
  | .hbm, ⟨13, _⟩ => ⟨S8x16x512x4x128, .f32⟩
  | .hbm, ⟨14, _⟩ => ⟨S8x4x16x128x512, .f32⟩
  | .hbm, ⟨15, _⟩ => ⟨S_, .f32⟩
  | .hbm, ⟨16, _⟩ => ⟨S8x4x16x16x512, .f32⟩
  | .hbm, ⟨17, _⟩ => ⟨S8x4x16x144x512, .f32⟩
  | .hbm, ⟨18, _⟩ => ⟨S8x4x16x144x512, .bf16⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S4x64, .f32⟩
  | .hbm, ⟨28, _⟩ => ⟨S8x8192x512, .bf16⟩
  | .hbm, ⟨29, _⟩ => ⟨S8x8192x512, .bf16⟩
  | .hbm, ⟨30, _⟩ => ⟨S1024x1024, .f32⟩
  | .hbm, ⟨31, _⟩ => ⟨S1024x1024, .bf16⟩
  | .hbm, ⟨32, _⟩ => ⟨S8192x128, .i32⟩
  | .hbm, ⟨33, _⟩ => ⟨S_, .i32⟩
  | .hbm, ⟨34, _⟩ => ⟨S8192x128, .i32⟩
  | .hbm, ⟨35, _⟩ => ⟨S8192x128, .i32⟩
  | .hbm, ⟨36, _⟩ => ⟨S8192x128, .i32⟩
  | .hbm, ⟨37, _⟩ => ⟨S8192x128, .i1⟩
  | .hbm, ⟨38, _⟩ => ⟨S_, .f32⟩
  | .hbm, ⟨39, _⟩ => ⟨S_, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S8192x128, .bf16⟩
  | .hbm, ⟨44, _⟩ => ⟨S8x8192x1024, .f32⟩
  | .local _ .vmem, ⟨0, _⟩ => ⟨S1x512x512, .f32⟩
  | .local _ .vmem, ⟨1, _⟩ => ⟨S1x512x512, .f32⟩
  | .local _ .vmem, ⟨2, _⟩ => ⟨S1x8192x512, .bf16⟩
  | .local _ .vmem, ⟨3, _⟩ => ⟨S1x4x16x144x512, .bf16⟩
  | .local _ .vmem, ⟨4, _⟩ => ⟨S8192x128, .bf16⟩
  | .local _ .vmem, ⟨5, _⟩ => ⟨S1024x1024, .bf16⟩
  | .local _ .vmem, ⟨6, _⟩ => ⟨S1x512x512, .f32⟩
  | .local _ .vmem, ⟨7, _⟩ => ⟨S1x512x512, .f32⟩
  | .local _ .vmem, ⟨8, _⟩ => ⟨S1x512x512, .bf16⟩
  | .local _ .vmem, ⟨9, _⟩ => ⟨S1x512x512, .bf16⟩
  | .local _ .vmem, ⟨10, _⟩ => ⟨S1x128, .f32⟩
  | .local _ .vmem, ⟨11, _⟩ => ⟨S4x64, .f32⟩
  | .local _ .vmem, ⟨12, _⟩ => ⟨S1x512x1024, .f32⟩
  | .local _ .vmem, ⟨13, _⟩ => ⟨S1x512x1024, .f32⟩
  | .local _ .vmem, ⟨14, _⟩ => ⟨S1x512x512, .bf16⟩
  | .local _ .vmem, ⟨15, _⟩ => ⟨S1x512x512, .bf16⟩
  | .local _ .vmem, ⟨16, _⟩ => ⟨S1x512x1024, .f32⟩
  | .local _ .vmem, ⟨17, _⟩ => ⟨S1x512x1024, .f32⟩
  | .local _ .vmem, ⟨18, _⟩ => ⟨S2x4x1024x256, .bf16⟩
  | .local _ .vmem, ⟨19, _⟩ => ⟨S512x4096, .f32⟩
  | .local _ .vmem, ⟨20, _⟩ => ⟨S1x4096, .f32⟩
  | .local _ .vmem, ⟨21, _⟩ => ⟨S1x4096, .f32⟩
  | .local _ .vmem, ⟨22, _⟩ => ⟨S144x4096, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_cst_1 : Ref sig .tc := ⟨.hbm, 39, rfl⟩
abbrev main_call0_v0 : Ref sig .tc := ⟨.hbm, 40, rfl⟩
abbrev main_call0_v1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨3, ![8, 1, 16], ![false, false, false]⟩

def k0_cond1 (i : grid0.Coords) : BitVec 1 :=
  let arg2 : BitVec 32 := BitVec.ofNat 32 (i 2).val
  let c0_i32_14 : BitVec 32 := 0#32
  let v34 : BitVec 1 := Scalar.cmpi .eq arg2 c0_i32_14
  let v35 : BitVec 32 := Scalar.extui v34
  let c0_i32_15 : BitVec 32 := 0#32
  let v36 : BitVec 1 := Scalar.cmpi .ne v35 c0_i32_15
  v36

def k0_mult1 : BitVec 32 :=
  let c0_i32_175 : BitVec 32 := 0#32
  c0_i32_175
def k0_mult2 : BitVec 32 :=
  let c0_i32_218 : BitVec 32 := 0#32
  c0_i32_218
def k0_mult3 : BitVec 32 :=
  let c0_i32_258 : BitVec 32 := 0#32
  c0_i32_258
def k0_mult4 : BitVec 32 :=
  let c0_i32_298 : BitVec 32 := 0#32
  c0_i32_298
def k0_off1 (i : grid0.Coords) : Fin 4 → Nat :=
  let c1_i32_3 : BitVec 32 := 1#32
  let arg2 : BitVec 32 := BitVec.ofNat 32 (i 2).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v63 : Index := Scalar.indexCast v12
  let c0_24 : Index := 0#32
  let c0_25 : Index := 0#32
  let c0_26 : Index := 0#32
  ![v63.toNat, 0, 0, 0]
def k0_off2 (i : grid0.Coords) : Fin 4 → Nat :=
  let c1_i32_3 : BitVec 32 := 1#32
  let arg2 : BitVec 32 := BitVec.ofNat 32 (i 2).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v82 : Index := Scalar.indexCast v12
  let c1 : Index := 1#32
  let c0_33 : Index := 0#32
  let c0_34 : Index := 0#32
  ![v82.toNat, 1, 0, 0]
def k0_off3 (i : grid0.Coords) : Fin 4 → Nat :=
  let c1_i32_3 : BitVec 32 := 1#32
  let arg2 : BitVec 32 := BitVec.ofNat 32 (i 2).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v101 : Index := Scalar.indexCast v12
  let c2 : Index := 2#32
  let c0_41 : Index := 0#32
  let c0_42 : Index := 0#32
  ![v101.toNat, 2, 0, 0]
def k0_off4 (i : grid0.Coords) : Fin 4 → Nat :=
  let c1_i32_3 : BitVec 32 := 1#32
  let arg2 : BitVec 32 := BitVec.ofNat 32 (i 2).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v120 : Index := Scalar.indexCast v12
  let c3 : Index := 3#32
  let c0_49 : Index := 0#32
  let c0_50 : Index := 0#32
  ![v120.toNat, 3, 0, 0]
@[reducible] def k0_t1_loop (i : grid0.Coords) : Scf.Loop 32 :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_61 : BitVec 32 := 1#32
  ⟨c0_i32_59, v139, c1_i32_61⟩
def k0_mult5 (i : grid0.Coords) (k0_t1 : Fin (k0_t1_loop i).trips) : BitVec 32 :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_136 : BitVec 32 := 512#32
  let v302 : BitVec 32 := Scalar.muli v300 c512_i32_136
  v302
def k0_off5 (i : grid0.Coords) (k0_t1 : Fin (k0_t1_loop i).trips) : Fin 3 → Nat :=
  let c0_137 : Index := 0#32
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_136 : BitVec 32 := 512#32
  let v302 : BitVec 32 := Scalar.muli v300 c512_i32_136
  let v303 : BitVec 32 := v302
  let v304 : Index := Scalar.indexCast v303
  let c0_138 : Index := 0#32
  ![0, v304.toNat, 0]
def k0_off6 (i : grid0.Coords) (k0_t1 : Fin (k0_t1_loop i).trips) : Fin 2 → Nat :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_136 : BitVec 32 := 512#32
  let v302 : BitVec 32 := Scalar.muli v300 c512_i32_136
  let v303 : BitVec 32 := v302
  let v307 : Index := Scalar.indexCast v303
  let c0_139 : Index := 0#32
  ![v307.toNat, 0]
def k0_off7 (i : grid0.Coords) (k0_t1 : Fin (k0_t1_loop i).trips) : Fin 5 → Nat :=
  let c0_144 : Index := 0#32
  let c0_145 : Index := 0#32
  let c0_i32_59 : BitVec 32 := 0#32
  let c1_i32_61 : BitVec 32 := 1#32
  let arg20 : BitVec 32 := Scf.iv c0_i32_59 c1_i32_61 k0_t1
  let v321 : Index := Scalar.indexCast arg20
  let c0_146 : Index := 0#32
  let c0_147 : Index := 0#32
  ![0, 0, v321.toNat, 0, 0]
def k0_off8 (i : grid0.Coords) (k0_t1 : Fin (k0_t1_loop i).trips) : Fin 5 → Nat :=
  let c0_151 : Index := 0#32
  let c0_152 : Index := 0#32
  let c0_i32_59 : BitVec 32 := 0#32
  let c1_i32_61 : BitVec 32 := 1#32
  let arg20 : BitVec 32 := Scf.iv c0_i32_59 c1_i32_61 k0_t1
  let v332 : Index := Scalar.indexCast arg20
  let c0_153 : Index := 0#32
  let c256_154 : Index := 256#32
  ![0, 0, v332.toNat, 0, 256]
def k0_off9 (i : grid0.Coords) (k0_t1 : Fin (k0_t1_loop i).trips) : Fin 4 → Nat :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v340 : Index := Scalar.indexCast v301
  let c0_158 : Index := 0#32
  let c0_159 : Index := 0#32
  let c0_160 : Index := 0#32
  ![v340.toNat, 0, 0, 0]
def k0_off10 (i : grid0.Coords) (k0_t1 : Fin (k0_t1_loop i).trips) : Fin 4 → Nat :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v381 : Index := Scalar.indexCast v301
  let c0_185 : Index := 0#32
  let c256_186 : Index := 256#32
  let c0_187 : Index := 0#32
  ![v381.toNat, 0, 256, 0]
def k0_off11 (i : grid0.Coords) (k0_t1 : Fin (k0_t1_loop i).trips) : Fin 4 → Nat :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v422 : Index := Scalar.indexCast v301
  let c0_212 : Index := 0#32
  let c512_213 : Index := 512#32
  let c0_214 : Index := 0#32
  ![v422.toNat, 0, 512, 0]
def k0_off12 (i : grid0.Coords) (k0_t1 : Fin (k0_t1_loop i).trips) : Fin 4 → Nat :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v463 : Index := Scalar.indexCast v301
  let c0_238 : Index := 0#32
  let c768_239 : Index := 768#32
  let c0_240 : Index := 0#32
  ![v463.toNat, 0, 768, 0]
def k0_mult6 (i : grid0.Coords) (k0_t1 : Fin (k0_t1_loop i).trips) : BitVec 32 :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_247 : BitVec 32 := 512#32
  let v475 : BitVec 32 := Scalar.muli v300 c512_i32_247
  v475
def k0_off13 (i : grid0.Coords) (k0_t1 : Fin (k0_t1_loop i).trips) : Fin 3 → Nat :=
  let c0_248 : Index := 0#32
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_247 : BitVec 32 := 512#32
  let v475 : BitVec 32 := Scalar.muli v300 c512_i32_247
  let v476 : BitVec 32 := v475
  let v477 : Index := Scalar.indexCast v476
  let c128_249 : Index := 128#32
  ![0, v477.toNat, 128]
def k0_off14 (i : grid0.Coords) (k0_t1 : Fin (k0_t1_loop i).trips) : Fin 5 → Nat :=
  let c0_254 : Index := 0#32
  let c1_255 : Index := 1#32
  let c0_i32_59 : BitVec 32 := 0#32
  let c1_i32_61 : BitVec 32 := 1#32
  let arg20 : BitVec 32 := Scf.iv c0_i32_59 c1_i32_61 k0_t1
  let v494 : Index := Scalar.indexCast arg20
  let c0_256 : Index := 0#32
  let c0_257 : Index := 0#32
  ![0, 1, v494.toNat, 0, 0]
def k0_off15 (i : grid0.Coords) (k0_t1 : Fin (k0_t1_loop i).trips) : Fin 5 → Nat :=
  let c0_261 : Index := 0#32
  let c1_262 : Index := 1#32
  let c0_i32_59 : BitVec 32 := 0#32
  let c1_i32_61 : BitVec 32 := 1#32
  let arg20 : BitVec 32 := Scf.iv c0_i32_59 c1_i32_61 k0_t1
  let v505 : Index := Scalar.indexCast arg20
  let c0_263 : Index := 0#32
  let c256_264 : Index := 256#32
  ![0, 1, v505.toNat, 0, 256]
def k0_off16 (i : grid0.Coords) (k0_t1 : Fin (k0_t1_loop i).trips) : Fin 4 → Nat :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v513 : Index := Scalar.indexCast v301
  let c1_268 : Index := 1#32
  let c0_269 : Index := 0#32
  let c0_270 : Index := 0#32
  ![v513.toNat, 1, 0, 0]
def k0_off17 (i : grid0.Coords) (k0_t1 : Fin (k0_t1_loop i).trips) : Fin 4 → Nat :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v554 : Index := Scalar.indexCast v301
  let c1_294 : Index := 1#32
  let c256_295 : Index := 256#32
  let c0_296 : Index := 0#32
  ![v554.toNat, 1, 256, 0]
def k0_off18 (i : grid0.Coords) (k0_t1 : Fin (k0_t1_loop i).trips) : Fin 4 → Nat :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v595 : Index := Scalar.indexCast v301
  let c1_320 : Index := 1#32
  let c512_321 : Index := 512#32
  let c0_322 : Index := 0#32
  ![v595.toNat, 1, 512, 0]
def k0_off19 (i : grid0.Coords) (k0_t1 : Fin (k0_t1_loop i).trips) : Fin 4 → Nat :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v636 : Index := Scalar.indexCast v301
  let c1_346 : Index := 1#32
  let c768_347 : Index := 768#32
  let c0_348 : Index := 0#32
  ![v636.toNat, 1, 768, 0]
def k0_mult7 (i : grid0.Coords) (k0_t1 : Fin (k0_t1_loop i).trips) : BitVec 32 :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_355 : BitVec 32 := 512#32
  let v648 : BitVec 32 := Scalar.muli v300 c512_i32_355
  v648
def k0_off20 (i : grid0.Coords) (k0_t1 : Fin (k0_t1_loop i).trips) : Fin 3 → Nat :=
  let c0_356 : Index := 0#32
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_355 : BitVec 32 := 512#32
  let v648 : BitVec 32 := Scalar.muli v300 c512_i32_355
  let v649 : BitVec 32 := v648
  let v650 : Index := Scalar.indexCast v649
  let c256_357 : Index := 256#32
  ![0, v650.toNat, 256]
def k0_off21 (i : grid0.Coords) (k0_t1 : Fin (k0_t1_loop i).trips) : Fin 5 → Nat :=
  let c0_362 : Index := 0#32
  let c2_363 : Index := 2#32
  let c0_i32_59 : BitVec 32 := 0#32
  let c1_i32_61 : BitVec 32 := 1#32
  let arg20 : BitVec 32 := Scf.iv c0_i32_59 c1_i32_61 k0_t1
  let v667 : Index := Scalar.indexCast arg20
  let c0_364 : Index := 0#32
  let c0_365 : Index := 0#32
  ![0, 2, v667.toNat, 0, 0]
def k0_off22 (i : grid0.Coords) (k0_t1 : Fin (k0_t1_loop i).trips) : Fin 5 → Nat :=
  let c0_369 : Index := 0#32
  let c2_370 : Index := 2#32
  let c0_i32_59 : BitVec 32 := 0#32
  let c1_i32_61 : BitVec 32 := 1#32
  let arg20 : BitVec 32 := Scf.iv c0_i32_59 c1_i32_61 k0_t1
  let v678 : Index := Scalar.indexCast arg20
  let c0_371 : Index := 0#32
  let c256_372 : Index := 256#32
  ![0, 2, v678.toNat, 0, 256]
def k0_off23 (i : grid0.Coords) (k0_t1 : Fin (k0_t1_loop i).trips) : Fin 4 → Nat :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v686 : Index := Scalar.indexCast v301
  let c2_376 : Index := 2#32
  let c0_377 : Index := 0#32
  let c0_378 : Index := 0#32
  ![v686.toNat, 2, 0, 0]
def k0_off24 (i : grid0.Coords) (k0_t1 : Fin (k0_t1_loop i).trips) : Fin 4 → Nat :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v727 : Index := Scalar.indexCast v301
  let c2_402 : Index := 2#32
  let c256_403 : Index := 256#32
  let c0_404 : Index := 0#32
  ![v727.toNat, 2, 256, 0]
def k0_off25 (i : grid0.Coords) (k0_t1 : Fin (k0_t1_loop i).trips) : Fin 4 → Nat :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v768 : Index := Scalar.indexCast v301
  let c2_428 : Index := 2#32
  let c512_429 : Index := 512#32
  let c0_430 : Index := 0#32
  ![v768.toNat, 2, 512, 0]
def k0_off26 (i : grid0.Coords) (k0_t1 : Fin (k0_t1_loop i).trips) : Fin 4 → Nat :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v809 : Index := Scalar.indexCast v301
  let c2_454 : Index := 2#32
  let c768_455 : Index := 768#32
  let c0_456 : Index := 0#32
  ![v809.toNat, 2, 768, 0]
def k0_mult8 (i : grid0.Coords) (k0_t1 : Fin (k0_t1_loop i).trips) : BitVec 32 :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_463 : BitVec 32 := 512#32
  let v821 : BitVec 32 := Scalar.muli v300 c512_i32_463
  v821
def k0_off27 (i : grid0.Coords) (k0_t1 : Fin (k0_t1_loop i).trips) : Fin 3 → Nat :=
  let c0_464 : Index := 0#32
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_463 : BitVec 32 := 512#32
  let v821 : BitVec 32 := Scalar.muli v300 c512_i32_463
  let v822 : BitVec 32 := v821
  let v823 : Index := Scalar.indexCast v822
  let c384_465 : Index := 384#32
  ![0, v823.toNat, 384]
def k0_off28 (i : grid0.Coords) (k0_t1 : Fin (k0_t1_loop i).trips) : Fin 5 → Nat :=
  let c0_470 : Index := 0#32
  let c3_471 : Index := 3#32
  let c0_i32_59 : BitVec 32 := 0#32
  let c1_i32_61 : BitVec 32 := 1#32
  let arg20 : BitVec 32 := Scf.iv c0_i32_59 c1_i32_61 k0_t1
  let v840 : Index := Scalar.indexCast arg20
  let c0_472 : Index := 0#32
  let c0_473 : Index := 0#32
  ![0, 3, v840.toNat, 0, 0]
def k0_off29 (i : grid0.Coords) (k0_t1 : Fin (k0_t1_loop i).trips) : Fin 5 → Nat :=
  let c0_477 : Index := 0#32
  let c3_478 : Index := 3#32
  let c0_i32_59 : BitVec 32 := 0#32
  let c1_i32_61 : BitVec 32 := 1#32
  let arg20 : BitVec 32 := Scf.iv c0_i32_59 c1_i32_61 k0_t1
  let v851 : Index := Scalar.indexCast arg20
  let c0_479 : Index := 0#32
  let c256_480 : Index := 256#32
  ![0, 3, v851.toNat, 0, 256]
def k0_off30 (i : grid0.Coords) (k0_t1 : Fin (k0_t1_loop i).trips) : Fin 4 → Nat :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v859 : Index := Scalar.indexCast v301
  let c3_484 : Index := 3#32
  let c0_485 : Index := 0#32
  let c0_486 : Index := 0#32
  ![v859.toNat, 3, 0, 0]
def k0_off31 (i : grid0.Coords) (k0_t1 : Fin (k0_t1_loop i).trips) : Fin 4 → Nat :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v900 : Index := Scalar.indexCast v301
  let c3_510 : Index := 3#32
  let c256_511 : Index := 256#32
  let c0_512 : Index := 0#32
  ![v900.toNat, 3, 256, 0]
def k0_off32 (i : grid0.Coords) (k0_t1 : Fin (k0_t1_loop i).trips) : Fin 4 → Nat :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v941 : Index := Scalar.indexCast v301
  let c3_536 : Index := 3#32
  let c512_537 : Index := 512#32
  let c0_538 : Index := 0#32
  ![v941.toNat, 3, 512, 0]
def k0_off33 (i : grid0.Coords) (k0_t1 : Fin (k0_t1_loop i).trips) : Fin 4 → Nat :=
  let c0_i32_59 : BitVec 32 := 0#32
  let c1_i32_61 : BitVec 32 := 1#32
  let arg20 : BitVec 32 := Scf.iv c0_i32_59 c1_i32_61 k0_t1
  let c1_i32_133 : BitVec 32 := 1#32
  let v297 : BitVec 32 := Scalar.addi arg20 c1_i32_133
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v982 : Index := Scalar.indexCast v301
  let c3_562 : Index := 3#32
  let c768_563 : Index := 768#32
  let c0_564 : Index := 0#32
  ![v982.toNat, 3, 768, 0]
@[reducible] def k0_t2_loop (i : grid0.Coords) : Scf.Loop 32 :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let v136 : BitVec 32 := Scalar.addi c0_i32_59 v135
  let c1_i32_62 : BitVec 32 := 1#32
  ⟨v139, v136, c1_i32_62⟩
def k0_mult9 (i : grid0.Coords) (k0_t2 : Fin (k0_t2_loop i).trips) : BitVec 32 :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_136 : BitVec 32 := 512#32
  let v302 : BitVec 32 := Scalar.muli v300 c512_i32_136
  v302
def k0_off34 (i : grid0.Coords) (k0_t2 : Fin (k0_t2_loop i).trips) : Fin 3 → Nat :=
  let c0_137 : Index := 0#32
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_136 : BitVec 32 := 512#32
  let v302 : BitVec 32 := Scalar.muli v300 c512_i32_136
  let v303 : BitVec 32 := v302
  let v304 : Index := Scalar.indexCast v303
  let c0_138 : Index := 0#32
  ![0, v304.toNat, 0]
def k0_off35 (i : grid0.Coords) (k0_t2 : Fin (k0_t2_loop i).trips) : Fin 2 → Nat :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_136 : BitVec 32 := 512#32
  let v302 : BitVec 32 := Scalar.muli v300 c512_i32_136
  let v303 : BitVec 32 := v302
  let v307 : Index := Scalar.indexCast v303
  let c0_139 : Index := 0#32
  ![v307.toNat, 0]
def k0_off36 (i : grid0.Coords) (k0_t2 : Fin (k0_t2_loop i).trips) : Fin 5 → Nat :=
  let c0_144 : Index := 0#32
  let c0_145 : Index := 0#32
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let v321 : Index := Scalar.indexCast arg20
  let c0_146 : Index := 0#32
  let c0_147 : Index := 0#32
  ![0, 0, v321.toNat, 0, 0]
def k0_off37 (i : grid0.Coords) (k0_t2 : Fin (k0_t2_loop i).trips) : Fin 5 → Nat :=
  let c0_151 : Index := 0#32
  let c0_152 : Index := 0#32
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let v332 : Index := Scalar.indexCast arg20
  let c0_153 : Index := 0#32
  let c256_154 : Index := 256#32
  ![0, 0, v332.toNat, 0, 256]
def k0_off38 (i : grid0.Coords) (k0_t2 : Fin (k0_t2_loop i).trips) : Fin 4 → Nat :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v340 : Index := Scalar.indexCast v301
  let c0_158 : Index := 0#32
  let c0_159 : Index := 0#32
  let c0_160 : Index := 0#32
  ![v340.toNat, 0, 0, 0]
def k0_off39 (i : grid0.Coords) (k0_t2 : Fin (k0_t2_loop i).trips) : Fin 4 → Nat :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v381 : Index := Scalar.indexCast v301
  let c0_185 : Index := 0#32
  let c256_186 : Index := 256#32
  let c0_187 : Index := 0#32
  ![v381.toNat, 0, 256, 0]
def k0_off40 (i : grid0.Coords) (k0_t2 : Fin (k0_t2_loop i).trips) : Fin 4 → Nat :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v422 : Index := Scalar.indexCast v301
  let c0_212 : Index := 0#32
  let c512_213 : Index := 512#32
  let c0_214 : Index := 0#32
  ![v422.toNat, 0, 512, 0]
def k0_off41 (i : grid0.Coords) (k0_t2 : Fin (k0_t2_loop i).trips) : Fin 4 → Nat :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v463 : Index := Scalar.indexCast v301
  let c0_238 : Index := 0#32
  let c768_239 : Index := 768#32
  let c0_240 : Index := 0#32
  ![v463.toNat, 0, 768, 0]
def k0_mult10 (i : grid0.Coords) (k0_t2 : Fin (k0_t2_loop i).trips) : BitVec 32 :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_247 : BitVec 32 := 512#32
  let v475 : BitVec 32 := Scalar.muli v300 c512_i32_247
  v475
def k0_off42 (i : grid0.Coords) (k0_t2 : Fin (k0_t2_loop i).trips) : Fin 3 → Nat :=
  let c0_248 : Index := 0#32
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_247 : BitVec 32 := 512#32
  let v475 : BitVec 32 := Scalar.muli v300 c512_i32_247
  let v476 : BitVec 32 := v475
  let v477 : Index := Scalar.indexCast v476
  let c128_249 : Index := 128#32
  ![0, v477.toNat, 128]
def k0_off43 (i : grid0.Coords) (k0_t2 : Fin (k0_t2_loop i).trips) : Fin 5 → Nat :=
  let c0_254 : Index := 0#32
  let c1_255 : Index := 1#32
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let v494 : Index := Scalar.indexCast arg20
  let c0_256 : Index := 0#32
  let c0_257 : Index := 0#32
  ![0, 1, v494.toNat, 0, 0]
def k0_off44 (i : grid0.Coords) (k0_t2 : Fin (k0_t2_loop i).trips) : Fin 5 → Nat :=
  let c0_261 : Index := 0#32
  let c1_262 : Index := 1#32
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let v505 : Index := Scalar.indexCast arg20
  let c0_263 : Index := 0#32
  let c256_264 : Index := 256#32
  ![0, 1, v505.toNat, 0, 256]
def k0_off45 (i : grid0.Coords) (k0_t2 : Fin (k0_t2_loop i).trips) : Fin 4 → Nat :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v513 : Index := Scalar.indexCast v301
  let c1_268 : Index := 1#32
  let c0_269 : Index := 0#32
  let c0_270 : Index := 0#32
  ![v513.toNat, 1, 0, 0]
def k0_off46 (i : grid0.Coords) (k0_t2 : Fin (k0_t2_loop i).trips) : Fin 4 → Nat :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v554 : Index := Scalar.indexCast v301
  let c1_294 : Index := 1#32
  let c256_295 : Index := 256#32
  let c0_296 : Index := 0#32
  ![v554.toNat, 1, 256, 0]
def k0_off47 (i : grid0.Coords) (k0_t2 : Fin (k0_t2_loop i).trips) : Fin 4 → Nat :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v595 : Index := Scalar.indexCast v301
  let c1_320 : Index := 1#32
  let c512_321 : Index := 512#32
  let c0_322 : Index := 0#32
  ![v595.toNat, 1, 512, 0]
def k0_off48 (i : grid0.Coords) (k0_t2 : Fin (k0_t2_loop i).trips) : Fin 4 → Nat :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v636 : Index := Scalar.indexCast v301
  let c1_346 : Index := 1#32
  let c768_347 : Index := 768#32
  let c0_348 : Index := 0#32
  ![v636.toNat, 1, 768, 0]
def k0_mult11 (i : grid0.Coords) (k0_t2 : Fin (k0_t2_loop i).trips) : BitVec 32 :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_355 : BitVec 32 := 512#32
  let v648 : BitVec 32 := Scalar.muli v300 c512_i32_355
  v648
def k0_off49 (i : grid0.Coords) (k0_t2 : Fin (k0_t2_loop i).trips) : Fin 3 → Nat :=
  let c0_356 : Index := 0#32
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_355 : BitVec 32 := 512#32
  let v648 : BitVec 32 := Scalar.muli v300 c512_i32_355
  let v649 : BitVec 32 := v648
  let v650 : Index := Scalar.indexCast v649
  let c256_357 : Index := 256#32
  ![0, v650.toNat, 256]
def k0_off50 (i : grid0.Coords) (k0_t2 : Fin (k0_t2_loop i).trips) : Fin 5 → Nat :=
  let c0_362 : Index := 0#32
  let c2_363 : Index := 2#32
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let v667 : Index := Scalar.indexCast arg20
  let c0_364 : Index := 0#32
  let c0_365 : Index := 0#32
  ![0, 2, v667.toNat, 0, 0]
def k0_off51 (i : grid0.Coords) (k0_t2 : Fin (k0_t2_loop i).trips) : Fin 5 → Nat :=
  let c0_369 : Index := 0#32
  let c2_370 : Index := 2#32
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let v678 : Index := Scalar.indexCast arg20
  let c0_371 : Index := 0#32
  let c256_372 : Index := 256#32
  ![0, 2, v678.toNat, 0, 256]
def k0_off52 (i : grid0.Coords) (k0_t2 : Fin (k0_t2_loop i).trips) : Fin 4 → Nat :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v686 : Index := Scalar.indexCast v301
  let c2_376 : Index := 2#32
  let c0_377 : Index := 0#32
  let c0_378 : Index := 0#32
  ![v686.toNat, 2, 0, 0]
def k0_off53 (i : grid0.Coords) (k0_t2 : Fin (k0_t2_loop i).trips) : Fin 4 → Nat :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v727 : Index := Scalar.indexCast v301
  let c2_402 : Index := 2#32
  let c256_403 : Index := 256#32
  let c0_404 : Index := 0#32
  ![v727.toNat, 2, 256, 0]
def k0_off54 (i : grid0.Coords) (k0_t2 : Fin (k0_t2_loop i).trips) : Fin 4 → Nat :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v768 : Index := Scalar.indexCast v301
  let c2_428 : Index := 2#32
  let c512_429 : Index := 512#32
  let c0_430 : Index := 0#32
  ![v768.toNat, 2, 512, 0]
def k0_off55 (i : grid0.Coords) (k0_t2 : Fin (k0_t2_loop i).trips) : Fin 4 → Nat :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v809 : Index := Scalar.indexCast v301
  let c2_454 : Index := 2#32
  let c768_455 : Index := 768#32
  let c0_456 : Index := 0#32
  ![v809.toNat, 2, 768, 0]
def k0_mult12 (i : grid0.Coords) (k0_t2 : Fin (k0_t2_loop i).trips) : BitVec 32 :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_463 : BitVec 32 := 512#32
  let v821 : BitVec 32 := Scalar.muli v300 c512_i32_463
  v821
def k0_off56 (i : grid0.Coords) (k0_t2 : Fin (k0_t2_loop i).trips) : Fin 3 → Nat :=
  let c0_464 : Index := 0#32
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c0_i32_135 : BitVec 32 := 0#32
  let c1_i32_134 : BitVec 32 := 1#32
  let v299 : BitVec 32 := Scalar.addi arg20 c1_i32_134
  let v300 : BitVec 32 := Scalar.select v298 c0_i32_135 v299
  let c512_i32_463 : BitVec 32 := 512#32
  let v821 : BitVec 32 := Scalar.muli v300 c512_i32_463
  let v822 : BitVec 32 := v821
  let v823 : Index := Scalar.indexCast v822
  let c384_465 : Index := 384#32
  ![0, v823.toNat, 384]
def k0_off57 (i : grid0.Coords) (k0_t2 : Fin (k0_t2_loop i).trips) : Fin 5 → Nat :=
  let c0_470 : Index := 0#32
  let c3_471 : Index := 3#32
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let v840 : Index := Scalar.indexCast arg20
  let c0_472 : Index := 0#32
  let c0_473 : Index := 0#32
  ![0, 3, v840.toNat, 0, 0]
def k0_off58 (i : grid0.Coords) (k0_t2 : Fin (k0_t2_loop i).trips) : Fin 5 → Nat :=
  let c0_477 : Index := 0#32
  let c3_478 : Index := 3#32
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let v851 : Index := Scalar.indexCast arg20
  let c0_479 : Index := 0#32
  let c256_480 : Index := 256#32
  ![0, 3, v851.toNat, 0, 256]
def k0_off59 (i : grid0.Coords) (k0_t2 : Fin (k0_t2_loop i).trips) : Fin 4 → Nat :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v859 : Index := Scalar.indexCast v301
  let c3_484 : Index := 3#32
  let c0_485 : Index := 0#32
  let c0_486 : Index := 0#32
  ![v859.toNat, 3, 0, 0]
def k0_off60 (i : grid0.Coords) (k0_t2 : Fin (k0_t2_loop i).trips) : Fin 4 → Nat :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v900 : Index := Scalar.indexCast v301
  let c3_510 : Index := 3#32
  let c256_511 : Index := 256#32
  let c0_512 : Index := 0#32
  ![v900.toNat, 3, 256, 0]
def k0_off61 (i : grid0.Coords) (k0_t2 : Fin (k0_t2_loop i).trips) : Fin 4 → Nat :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v941 : Index := Scalar.indexCast v301
  let c3_536 : Index := 3#32
  let c512_537 : Index := 512#32
  let c0_538 : Index := 0#32
  ![v941.toNat, 3, 512, 0]
def k0_off62 (i : grid0.Coords) (k0_t2 : Fin (k0_t2_loop i).trips) : Fin 4 → Nat :=
  let c0_i32_59 : BitVec 32 := 0#32
  let arg2 : BitVec 32 := BitVec.ofNat 32 (i 2).val
  let c1_i32_4 : BitVec 32 := 1#32
  let v13 : BitVec 32 := Scalar.addi arg2 c1_i32_4
  let c512_i32 : BitVec 32 := 512#32
  let v14 : BitVec 32 := Scalar.muli v13 c512_i32
  let c512_i32_5 : BitVec 32 := 512#32
  let v15 : BitVec 32 := Scalar.addi v14 c512_i32_5
  let c1_i32_6 : BitVec 32 := 1#32
  let v16 : BitVec 32 := Scalar.subi v15 c1_i32_6
  let c0_i32_8 : BitVec 32 := 0#32
  let v18 : BitVec 1 := Scalar.cmpi .sgt v16 c0_i32_8
  let v19 : BitVec 32 := Scalar.extui v18
  let c0_i32_9 : BitVec 32 := 0#32
  let v20 : BitVec 1 := Scalar.cmpi .slt v16 c0_i32_9
  let v21 : BitVec 32 := Scalar.extui v20
  let v22 : BitVec 32 := Scalar.subi v19 v21
  let c512_i32_7 : BitVec 32 := 512#32
  let c0_i32_10 : BitVec 32 := 0#32
  let v23 : BitVec 1 := Scalar.cmpi .sgt c512_i32_7 c0_i32_10
  let v24 : BitVec 32 := Scalar.extui v23
  let c0_i32_11 : BitVec 32 := 0#32
  let v25 : BitVec 1 := Scalar.cmpi .slt c512_i32_7 c0_i32_11
  let v26 : BitVec 32 := Scalar.extui v25
  let v27 : BitVec 32 := Scalar.subi v24 v26
  let v28 : BitVec 1 := Scalar.cmpi .ne v22 v27
  let v29 : BitVec 32 := Scalar.remsi v16 c512_i32_7
  let c0_i32_12 : BitVec 32 := 0#32
  let v30 : BitVec 1 := Scalar.cmpi .ne v29 c0_i32_12
  let v31 : BitVec 1 := Scalar.andi v28 v30
  let v17 : BitVec 32 := Scalar.divsi v16 c512_i32_7
  let c1_i32_13 : BitVec 32 := 1#32
  let v32 : BitVec 32 := Scalar.subi v17 c1_i32_13
  let v33 : BitVec 32 := Scalar.select v31 v32 v17
  let v135 : BitVec 32 := Scalar.subi v33 c0_i32_59
  let c1_i32_60 : BitVec 32 := 1#32
  let v137 : BitVec 32 := Scalar.divsi v135 c1_i32_60
  let v138 : BitVec 32 := Scalar.muli v137 c1_i32_60
  let v139 : BitVec 32 := Scalar.addi c0_i32_59 v138
  let c1_i32_62 : BitVec 32 := 1#32
  let arg20 : BitVec 32 := Scf.iv v139 c1_i32_62 k0_t2
  let c1_i32_133 : BitVec 32 := 1#32
  let v297 : BitVec 32 := Scalar.addi arg20 c1_i32_133
  let v298 : BitVec 1 := Scalar.cmpi .sge v297 v33
  let c1_i32_3 : BitVec 32 := 1#32
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg2 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi c1_i32_3 v11
  let v301 : BitVec 32 := Scalar.select v298 v12 v11
  let v982 : Index := Scalar.indexCast v301
  let c3_562 : Index := 3#32
  let c768_563 : Index := 768#32
  let c0_564 : Index := 0#32
  ![v982.toNat, 3, 768, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  ![arg0.toNat, v1.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x4x16x144x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S4x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, true]
-- ==== KernelIdeal.lean ====
variable {F : FTy → Type} [FloatOps F] [Named F]
def κ : String → Option EReal := fun
  | "mask" => some ⊥
  | "scale" => some (((8 * (Real.log 2))⁻¹ : ℝ) : EReal)
  | _ => none
-- ==== ReferenceIdeal.lean ====
abbrev S8x8192x512 : Shape := ⟨3, ![8, 8192, 512]⟩
abbrev S8x8192x4x128 : Shape := ⟨4, ![8, 8192, 4, 128]⟩
abbrev S1x128 : Shape := ⟨2, ![1, 128]⟩
abbrev S1x64 : Shape := ⟨2, ![1, 64]⟩
abbrev S8x8192x1024 : Shape := ⟨3, ![8, 8192, 1024]⟩
abbrev S1x1024x1024 : Shape := ⟨3, ![1, 1024, 1024]⟩
abbrev S8x8192x4x2x64 : Shape := ⟨5, ![8, 8192, 4, 2, 64]⟩
abbrev S8192 : Shape := ⟨1, ![8192]⟩
abbrev S_ : Shape := ⟨0, ![]⟩
abbrev S64 : Shape := ⟨1, ![64]⟩
abbrev S8x4x2x8192x8192 : Shape := ⟨5, ![8, 4, 2, 8192, 8192]⟩
abbrev S1x8192 : Shape := ⟨2, ![1, 8192]⟩
abbrev S8192x1 : Shape := ⟨2, ![8192, 1]⟩
abbrev S8192x8192 : Shape := ⟨2, ![8192, 8192]⟩
abbrev S1x1x1x8192x8192 : Shape := ⟨5, ![1, 1, 1, 8192, 8192]⟩
abbrev S8x4x2x8192 : Shape := ⟨4, ![8, 4, 2, 8192]⟩
abbrev S8x4x2x8192x1 : Shape := ⟨5, ![8, 4, 2, 8192, 1]⟩
abbrev S8x4x1x8192x8192 : Shape := ⟨5, ![8, 4, 1, 8192, 8192]⟩
abbrev S8x4x8192x8192 : Shape := ⟨4, ![8, 4, 8192, 8192]⟩
abbrev S8x4x128x8192 : Shape := ⟨4, ![8, 4, 128, 8192]⟩
abbrev S128 : Shape := ⟨1, ![128]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩
abbrev S1024x1024 : Shape := ⟨2, ![1024, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x4x128, .f32⟩
  | .hbm, ⟨3, _⟩ => ⟨S8x8192x512, .f32⟩
  | .hbm, ⟨4, _⟩ => ⟨S1x128, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S8x8192x1024, .f32⟩
  | .hbm, ⟨10, _⟩ => ⟨S8x8192x512, .f32⟩
  | .hbm, ⟨11, _⟩ => ⟨S1x1024x1024, .f32⟩
  | .hbm, ⟨12, _⟩ => ⟨S8x8192x4x2x64, .f32⟩
  | .hbm, ⟨13, _⟩ => ⟨S8x8192x4x2x64, .f32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8x4x2x8192x8192, .f32⟩
  | .hbm, ⟨34, _⟩ => ⟨S_, .f32⟩
  | .hbm, ⟨35, _⟩ => ⟨S8x4x2x8192x8192, .f32⟩
  | .hbm, ⟨36, _⟩ => ⟨S8x4x2x8192x8192, .f32⟩
  | .hbm, ⟨37, _⟩ => ⟨S1x8192, .i32⟩
  | .hbm, ⟨38, _⟩ => ⟨S8192x1, .i32⟩
  | .hbm, ⟨39, _⟩ => ⟨S8192x8192, .i32⟩
  | .hbm, ⟨40, _⟩ => ⟨S8192x8192, .i32⟩
  | .hbm, ⟨41, _⟩ => ⟨S8192x8192, .i1⟩
  | .hbm, ⟨42, _⟩ => ⟨S1x1x1x8192x8192, .i1⟩
  | .hbm, ⟨43, _⟩ => ⟨S_, .f32⟩
  | .hbm, ⟨44, _⟩ => ⟨S_, .f32⟩
  | .hbm, ⟨45, _⟩ => ⟨S8x4x2x8192x8192, .i1⟩
  | .hbm, ⟨46, _⟩ => ⟨S8x4x2x8192x8192, .f32⟩
  | .hbm, ⟨47, _⟩ => ⟨S8x4x2x8192x8192, .f32⟩
  | .hbm, ⟨48, _⟩ => ⟨S_, .f32⟩
  | .hbm, ⟨49, _⟩ => ⟨S8x4x2x8192, .f32⟩
  | .hbm, ⟨50, _⟩ => ⟨S_, .f32⟩
  | .hbm, ⟨51, _⟩ => ⟨S8x4x2x8192, .f32⟩
  | .hbm, ⟨52, _⟩ => ⟨S8x4x2x8192, .f32⟩
  | .hbm, ⟨53, _⟩ => ⟨S8x4x2x8192x1, .f32⟩
  | .hbm, ⟨54, _⟩ => ⟨S8x4x2x8192x8192, .f32⟩
  | .hbm, ⟨55, _⟩ => ⟨S8x4x2x8192x8192, .f32⟩
  | .hbm, ⟨56, _⟩ => ⟨S8x4x2x8192x8192, .f32⟩
  | .hbm, ⟨57, _⟩ => ⟨S_, .f32⟩
  | .hbm, ⟨58, _⟩ => ⟨S8x4x2x8192, .f32⟩
  | .hbm, ⟨59, _⟩ => ⟨S8x4x2x8192x1, .f32⟩
  | .hbm, ⟨60, _⟩ => ⟨S8x4x2x8192x8192, .f32⟩
  | .hbm, ⟨61, _⟩ => ⟨S8x4x2x8192x8192, .f32⟩
  | .hbm, ⟨62, _⟩ => ⟨S8x4x1x8192x8192, .f32⟩
  | .hbm, ⟨63, _⟩ => ⟨S8x4x8192x8192, .f32⟩
  | .hbm, ⟨64, _⟩ => ⟨S8x4x1x8192x8192, .f32⟩
  | .hbm, ⟨65, _⟩ => ⟨S8x4x8192x8192, .f32⟩
  | .hbm, ⟨66, _⟩ => ⟨S8x4x8192x8192, .f32⟩
  | .hbm, ⟨67, _⟩ => ⟨S8x4x8192x8192, .f32⟩
  | .hbm, ⟨68, _⟩ => ⟨S8x4x8192x8192, .f32⟩
  | .hbm, ⟨69, _⟩ => ⟨S8x4x128x8192, .f32⟩
  | .hbm, ⟨70, _⟩ => ⟨S8x8192x4x128, .f32⟩
  | .hbm, ⟨71, _⟩ => ⟨S128, .f32⟩
  | .hbm, ⟨72, _⟩ => ⟨S8x8192x4x128, .f32⟩
  | .hbm, ⟨73, _⟩ => ⟨S_, .f32⟩
  | .hbm, ⟨74, _⟩ => ⟨S8x8192x4, .f32⟩
  | .hbm, ⟨75, _⟩ => ⟨S8x8192x4x1, .f32⟩
  | .hbm, ⟨76, _⟩ => ⟨S_, .f32⟩
  | .hbm, ⟨77, _⟩ => ⟨S8x8192x4x1, .f32⟩
  | .hbm, ⟨78, _⟩ => ⟨S8x8192x4x1, .f32⟩
  | .hbm, ⟨79, _⟩ => ⟨S_, .f32⟩
  | .hbm, ⟨80, _⟩ => ⟨S8x8192x4x1, .f32⟩
  | .hbm, ⟨81, _⟩ => ⟨S8x8192x4x1, .f32⟩
  | .hbm, ⟨82, _⟩ => ⟨S8x8192x4x1, .f32⟩
  | .hbm, ⟨83, _⟩ => ⟨S8x8192x4x128, .f32⟩
  | .hbm, ⟨84, _⟩ => ⟨S8x8192x4x128, .f32⟩
  | .hbm, ⟨85, _⟩ => ⟨S1x1x1x128, .f32⟩
  | .hbm, ⟨86, _⟩ => ⟨S8x8192x4x128, .f32⟩
  | .hbm, ⟨87, _⟩ => ⟨S8x8192x4x128, .f32⟩
  | .hbm, ⟨88, _⟩ => ⟨S_, .f32⟩
  | .hbm, ⟨89, _⟩ => ⟨S8x8192x4x128, .f32⟩
  | .hbm, ⟨90, _⟩ => ⟨S8x8192x4x128, .f32⟩
  | .hbm, ⟨91, _⟩ => ⟨S8x8192x512, .f32⟩
  | .hbm, ⟨92, _⟩ => ⟨S8x8192x512, .f32⟩
  | .hbm, ⟨93, _⟩ => ⟨S8x8192x1024, .f32⟩
  | .hbm, ⟨94, _⟩ => ⟨S1024x1024, .f32⟩
  | .hbm, ⟨95, _⟩ => ⟨S8x8192x1024, .f32⟩
  | .hbm, ⟨96, _⟩ => ⟨S8x8192x1024, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== Kernel2.lean ====
abbrev S8x256x1024 : Shape := ⟨3, ![8, 256, 1024]⟩
abbrev S1x1024 : Shape := ⟨2, ![1, 1024]⟩
abbrev S1x1024x512 : Shape := ⟨3, ![1, 1024, 512]⟩
abbrev S1x64 : Shape := ⟨2, ![1, 64]⟩
abbrev S256x256 : Shape := ⟨2, ![256, 256]⟩
abbrev S1024 : Shape := ⟨1, ![1024]⟩
abbrev S1024x512 : Shape := ⟨2, ![1024, 512]⟩
abbrev S64 : Shape := ⟨1, ![64]⟩
abbrev S4x64 : Shape := ⟨2, ![4, 64]⟩
abbrev S256 : Shape := ⟨1, ![256]⟩
abbrev S1x256 : Shape := ⟨2, ![1, 256]⟩
abbrev S8x256x256 : Shape := ⟨3, ![8, 256, 256]⟩
abbrev S1x256x1024 : Shape := ⟨3, ![1, 256, 1024]⟩
abbrev S1x256x256 : Shape := ⟨3, ![1, 256, 256]⟩
abbrev S256x1024 : Shape := ⟨2, ![256, 1024]⟩
abbrev S256x1 : Shape := ⟨2, ![256, 1]⟩
abbrev S256x512 : Shape := ⟨2, ![256, 512]⟩

abbrev nBuf : Space → Nat
  | .hbm => 16
  | .vmem => 10
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x512, .f32⟩
  | .hbm, ⟨3, _⟩ => ⟨S1x64, .f32⟩
  | .hbm, ⟨4, _⟩ => ⟨S256x256, .bf16⟩
  | .hbm, ⟨5, _⟩ => ⟨S1024, .f32⟩
  | .hbm, ⟨6, _⟩ => ⟨S1x1024, .f32⟩
  | .hbm, ⟨7, _⟩ => ⟨S1024x512, .f32⟩
  | .hbm, ⟨8, _⟩ => ⟨S1024x512, .bf16⟩
  | .hbm, ⟨9, _⟩ => ⟨S64, .f32⟩
  | .hbm, ⟨10, _⟩ => ⟨S1x64, .f32⟩
  | .hbm, ⟨11, _⟩ => ⟨S4x64, .f32⟩
  | .hbm, ⟨12, _⟩ => ⟨S256, .f32⟩
  | .hbm, ⟨13, _⟩ => ⟨S1x256, .f32⟩
  | .hbm, ⟨14, _⟩ => ⟨S8x256x256, .f32⟩
  | .hbm, ⟨15, _⟩ => ⟨S8x256x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x512, .bf16⟩
  | .local _ .vmem, ⟨4, _⟩ => ⟨S1x256, .f32⟩
  | .local _ .vmem, ⟨5, _⟩ => ⟨S256x256, .bf16⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x256x1024 : Shape := ⟨3, ![8, 256, 1024]⟩
abbrev S1x1024 : Shape := ⟨2, ![1, 1024]⟩
abbrev S1x1024x512 : Shape := ⟨3, ![1, 1024, 512]⟩
abbrev S1x64 : Shape := ⟨2, ![1, 64]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x512 : Shape := ⟨2, ![1024, 512]⟩
abbrev S8x256x512 : Shape := ⟨3, ![8, 256, 512]⟩
abbrev S8x256x256 : Shape := ⟨3, ![8, 256, 256]⟩
abbrev S8x256x4x64 : Shape := ⟨4, ![8, 256, 4, 64]⟩
abbrev S64 : Shape := ⟨1, ![64]⟩
abbrev S8x256x4 : Shape := ⟨3, ![8, 256, 4]⟩
abbrev S8x256x4x1 : Shape := ⟨4, ![8, 256, 4, 1]⟩
abbrev S1x1x1x64 : Shape := ⟨4, ![1, 1, 1, 64]⟩

abbrev nBuf : Space → Nat
  | .hbm => 46
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x512, .f32⟩
  | .hbm, ⟨3, _⟩ => ⟨S1x64, .f32⟩
  | .hbm, ⟨4, _⟩ => ⟨S1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1024x512, .f32⟩
  | .hbm, ⟨22, _⟩ => ⟨S8x256x512, .f32⟩
  | .hbm, ⟨23, _⟩ => ⟨S8x256x256, .f32⟩
  | .hbm, ⟨24, _⟩ => ⟨S8x256x4x64, .f32⟩
  | .hbm, ⟨25, _⟩ => ⟨S64, .f32⟩
  | .hbm, ⟨26, _⟩ => ⟨S8x256x4x64, .f32⟩
  | .hbm, ⟨27, _⟩ => ⟨S_, .f32⟩
  | .hbm, ⟨28, _⟩ => ⟨S8x256x4, .f32⟩
  | .hbm, ⟨29, _⟩ => ⟨S8x256x4x1, .f32⟩
  | .hbm, ⟨30, _⟩ => ⟨S_, .f32⟩
  | .hbm, ⟨31, _⟩ => ⟨S8x256x4x1, .f32⟩
  | .hbm, ⟨32, _⟩ => ⟨S8x256x4x1, .f32⟩
  | .hbm, ⟨33, _⟩ => ⟨S_, .f32⟩
  | .hbm, ⟨34, _⟩ => ⟨S8x256x4x1, .f32⟩
  | .hbm, ⟨35, _⟩ => ⟨S8x256x4x1, .f32⟩
  | .hbm, ⟨36, _⟩ => ⟨S8x256x4x1, .f32⟩
  | .hbm, ⟨37, _⟩ => ⟨S8x256x4x64, .f32⟩
  | .hbm, ⟨38, _⟩ => ⟨S8x256x4x64, .f32⟩
  | .hbm, ⟨39, _⟩ => ⟨S1x1x1x64, .f32⟩
  | .hbm, ⟨40, _⟩ => ⟨S8x256x4x64, .f32⟩
  | .hbm, ⟨41, _⟩ => ⟨S8x256x4x64, .f32⟩
  | .hbm, ⟨42, _⟩ => ⟨S8x256x256, .f32⟩
  | .hbm, ⟨43, _⟩ => ⟨S8x256x256, .f32⟩
  | .hbm, ⟨44, _⟩ => ⟨S8x256x256, .f32⟩
  | .hbm, ⟨45, _⟩ => ⟨S8x256x256, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel3.lean ====
abbrev S32x32x1024 : Shape := ⟨3, ![32, 32, 1024]⟩
abbrev S32x32x512 : Shape := ⟨3, ![32, 32, 512]⟩
abbrev S1x1024x1024 : Shape := ⟨3, ![1, 1024, 1024]⟩
abbrev S1024x1024 : Shape := ⟨2, ![1024, 1024]⟩
abbrev S1x32x1024 : Shape := ⟨3, ![1, 32, 1024]⟩
abbrev S1x32x512 : Shape := ⟨3, ![1, 32, 512]⟩
abbrev S32x1024 : Shape := ⟨2, ![32, 1024]⟩
abbrev S32x512 : Shape := ⟨2, ![32, 512]⟩
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S32x32x1024, .f32⟩
  | .hbm, ⟨1, _⟩ => ⟨S32x32x512, .f32⟩
  | .hbm, ⟨2, _⟩ => ⟨S32x32x512, .f32⟩
  | .hbm, ⟨3, _⟩ => ⟨S1x1024x1024, .f32⟩
  | .hbm, ⟨4, _⟩ => ⟨S32x32x512, .bf16⟩
  | .hbm, ⟨5, _⟩ => ⟨S32x32x512, .bf16⟩
  | .hbm, ⟨6, _⟩ => ⟨S1024x1024, .f32⟩
  | .hbm, ⟨7, _⟩ => ⟨S1024x1024, .bf16⟩
  | .hbm, ⟨8, _⟩ => ⟨S32x32x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x32x512, .bf16⟩
  | .local _ .vmem, ⟨3, _⟩ => ⟨S1x32x512, .bf16⟩
  | .local _ .vmem, ⟨4, _⟩ => ⟨S1x32x512, .bf16⟩
  | .local _ .vmem, ⟨5, _⟩ => ⟨S1x32x512, .bf16⟩
  | .local _ .vmem, ⟨6, _⟩ => ⟨S1024x1024, .bf16⟩
  | .local _ .vmem, ⟨7, _⟩ => ⟨S1x32x1024, .f32⟩
  | .local _ .vmem, ⟨8, _⟩ => ⟨S1x32x1024, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S32x32x1024 : Shape := ⟨3, ![32, 32, 1024]⟩
abbrev S32x32x512 : Shape := ⟨3, ![32, 32, 512]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S32x32x512, .f32⟩
  | .hbm, ⟨2, _⟩ => ⟨S32x32x512, .f32⟩
  | .hbm, ⟨3, _⟩ => ⟨S1x1024x1024, .f32⟩
  | .hbm, ⟨4, _⟩ => ⟨S32x32x1024, .f32⟩
  | .hbm, ⟨5, _⟩ => ⟨S1024x1024, .f32⟩
  | .hbm, ⟨6, _⟩ => ⟨S32x32x1024, .f32⟩
  | .hbm, ⟨7, _⟩ => ⟨S32x32x1024, .f32⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.KernelIdeal.Run.lean ====
/-
  Hand-written, untrusted. The body of `KernelIdeal`'s kernel run once at a symbolic grid point, by the generated
  skeleton and the generated invariant of its key loop. Three cases: the very first point (the accumulator is cleared), the
  first query tile of a batch (its own queries are staged), and every other point. Each run hands back, per
  memref the body writes, the list of the pieces it wrote.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 65536
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-- The point is the first query tile of its batch. -/
abbrev isFirst (i : grid0.Coords) : Prop := k0_cond1 i = 1#1

/-- The point is the first of the whole grid. -/
abbrev isStart (i : grid0.Coords) : Prop :=
  Scalar.cmpi .ne (Scalar.extui (Scalar.andi (Scalar.andi (Scalar.cmpi .eq (BitVec.ofNat 32 (i 0).val) 0#32)
    (Scalar.cmpi .eq (BitVec.ofNat 32 (i 1).val) 0#32)) (Scalar.cmpi .eq (BitVec.ofNat 32 (i 2).val) 0#32)) : BitVec 32) 0#32 = 1#1

/-- A memref's cells on core `c` held whole at the buffer contents `f`. -/
abbrev held (c : Dev nD) {sp : Space} {S : Shape} {e : EltTy} (M : Memref sig .tc sp S e)
    (f : BufTy.Contents (Elt F) M.view.ty) : sProp 𝕄 :=
  M.view.loc (c : Thread nD τ) ↦[M.view.set]{fullShare} f

variable (c : Dev nD) (i : grid0.Coords)
  (arg3 : Memref sig .tc .vmem S1x512x512 .f32) (harg3 : arg3.IsWhole) (arg4 : Memref sig .tc .vmem S1x8192x512 .bf16) (harg4 : arg4.IsWhole) (arg5 : Memref sig .tc .vmem S1x4x16x144x512 .bf16) (harg5 : arg5.IsWhole) (arg6 : Memref sig .tc .vmem S8192x128 .bf16) (harg6 : arg6.IsWhole) (arg7 : Memref sig .tc .vmem S1024x1024 .bf16) (harg7 : arg7.IsWhole) (arg8 : Memref sig .tc .vmem S1x512x512 .f32) (harg8 : arg8.IsWhole) (arg9 : Memref sig .tc .vmem S1x512x512 .bf16) (harg9 : arg9.IsWhole) (arg10 : Memref sig .tc .vmem S1x128 .f32) (harg10 : arg10.IsWhole) (arg11 : Memref sig .tc .vmem S4x64 .f32) (harg11 : arg11.IsWhole) (arg12 : Memref sig .tc .vmem S1x512x1024 .f32) (harg12 : arg12.IsWhole) (arg13 : Memref sig .tc .vmem S1x512x512 .bf16) (harg13 : arg13.IsWhole) (arg14 : Memref sig .tc .vmem S1x512x1024 .f32) (harg14 : arg14.IsWhole) (arg15 : Memref sig .tc .vmem S2x4x1024x256 .bf16) (harg15 : arg15.IsWhole) (arg16 : Memref sig .tc .vmem S512x4096 .f32) (harg16 : arg16.IsWhole) (arg17 : Memref sig .tc .vmem S1x4096 .f32) (harg17 : arg17.IsWhole) (arg18 : Memref sig .tc .vmem S1x4096 .f32) (harg18 : arg18.IsWhole) (arg19 : Memref sig .tc .vmem S144x4096 .f32) (harg19 : arg19.IsWhole)
  (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty)

/-- The body run at the first point of the grid: what it leaves, memref by memref, and the triple. -/
@[irreducible] def runStart (hf : isFirst i) (hs : isStart i) :
    Σ' (C14 : BufTy.Contents (Elt F) arg14.view.ty) (C15 : BufTy.Contents (Elt F) arg15.view.ty) (C16 : BufTy.Contents (Elt F) arg16.view.ty) (C17 : BufTy.Contents (Elt F) arg17.view.ty) (C18 : BufTy.Contents (Elt F) arg18.view.ty), { C19 : BufTy.Contents (Elt F) arg19.view.ty // ∀ (E : Set ℕ) (K : PUnit → sProp 𝕄),
      iprop(held c arg3 X3 ∗ held c arg4 X4 ∗ held c arg5 X5 ∗ held c arg6 X6 ∗ held c arg7 X7 ∗ held c arg8 X8 ∗ held c arg9 X9 ∗ held c arg10 X10 ∗ held c arg11 X11 ∗ held c arg12 X12 ∗ held c arg13 X13 ∗ held c arg14 X14 ∗ held c arg15 X15 ∗ held c arg16 X16 ∗ held c arg17 X17 ∗ held c arg18 X18 ∗ held c arg19 X19
        ∗ (iprop(held c arg3 X3 ∗ held c arg4 X4 ∗ held c arg5 X5 ∗ held c arg6 X6 ∗ held c arg7 X7 ∗ held c arg8 X8 ∗ held c arg9 X9 ∗ held c arg10 X10 ∗ held c arg11 X11 ∗ held c arg12 X12 ∗ held c arg13 X13 ∗ held c arg14 C14 ∗ held c arg15 C15 ∗ held c arg16 C16 ∗ held c arg17 C17 ∗ held c arg18 C18 ∗ held c arg19 C19) -∗ K ⟨⟩))
      ⊢ wp frame (wpE (defs₀ (F := F)) Variants.none (c : Thread nD τ) none) E (cc0_diff_attn_prompt (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    simp only [cc0_diff_attn_prompt_eq_skeleton]; unfold cc0_diff_attn_prompt_skel
    iintro ⟨H3, H4, H5, H6, H7, H8, H9, H10, H11, H12, H13, H14, H15, H16, H17, H18, H19, Hk⟩
    sl_exec (disch := first | sl_exact hf | sl_exact hs)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

/-- The body run at the first query tile of a batch other than the first: what it leaves, memref by memref, and the triple. -/
@[irreducible] def runFirst (hf : isFirst i) (hs : ¬isStart i) :
    Σ' (C14 : BufTy.Contents (Elt F) arg14.view.ty) (C15 : BufTy.Contents (Elt F) arg15.view.ty) (C16 : BufTy.Contents (Elt F) arg16.view.ty) (C17 : BufTy.Contents (Elt F) arg17.view.ty) (C18 : BufTy.Contents (Elt F) arg18.view.ty), { C19 : BufTy.Contents (Elt F) arg19.view.ty // ∀ (E : Set ℕ) (K : PUnit → sProp 𝕄),
      iprop(held c arg3 X3 ∗ held c arg4 X4 ∗ held c arg5 X5 ∗ held c arg6 X6 ∗ held c arg7 X7 ∗ held c arg8 X8 ∗ held c arg9 X9 ∗ held c arg10 X10 ∗ held c arg11 X11 ∗ held c arg12 X12 ∗ held c arg13 X13 ∗ held c arg14 X14 ∗ held c arg15 X15 ∗ held c arg16 X16 ∗ held c arg17 X17 ∗ held c arg18 X18 ∗ held c arg19 X19
        ∗ (iprop(held c arg3 X3 ∗ held c arg4 X4 ∗ held c arg5 X5 ∗ held c arg6 X6 ∗ held c arg7 X7 ∗ held c arg8 X8 ∗ held c arg9 X9 ∗ held c arg10 X10 ∗ held c arg11 X11 ∗ held c arg12 X12 ∗ held c arg13 X13 ∗ held c arg14 C14 ∗ held c arg15 C15 ∗ held c arg16 C16 ∗ held c arg17 C17 ∗ held c arg18 C18 ∗ held c arg19 C19) -∗ K ⟨⟩))
      ⊢ wp frame (wpE (defs₀ (F := F)) Variants.none (c : Thread nD τ) none) E (cc0_diff_attn_prompt (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    simp only [cc0_diff_attn_prompt_eq_skeleton]; unfold cc0_diff_attn_prompt_skel
    iintro ⟨H3, H4, H5, H6, H7, H8, H9, H10, H11, H12, H13, H14, H15, H16, H17, H18, H19, Hk⟩
    sl_exec (disch := first | sl_exact hf | sl_exact hs)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

/-- The body run at a query tile that is not the first of its batch: what it leaves, memref by memref, and the triple. -/
@[irreducible] def runNext (hf : ¬isFirst i) (hs : ¬isStart i) :
    Σ' (C14 : BufTy.Contents (Elt F) arg14.view.ty) (C15 : BufTy.Contents (Elt F) arg15.view.ty) (C16 : BufTy.Contents (Elt F) arg16.view.ty) (C17 : BufTy.Contents (Elt F) arg17.view.ty) (C18 : BufTy.Contents (Elt F) arg18.view.ty), { C19 : BufTy.Contents (Elt F) arg19.view.ty // ∀ (E : Set ℕ) (K : PUnit → sProp 𝕄),
      iprop(held c arg3 X3 ∗ held c arg4 X4 ∗ held c arg5 X5 ∗ held c arg6 X6 ∗ held c arg7 X7 ∗ held c arg8 X8 ∗ held c arg9 X9 ∗ held c arg10 X10 ∗ held c arg11 X11 ∗ held c arg12 X12 ∗ held c arg13 X13 ∗ held c arg14 X14 ∗ held c arg15 X15 ∗ held c arg16 X16 ∗ held c arg17 X17 ∗ held c arg18 X18 ∗ held c arg19 X19
        ∗ (iprop(held c arg3 X3 ∗ held c arg4 X4 ∗ held c arg5 X5 ∗ held c arg6 X6 ∗ held c arg7 X7 ∗ held c arg8 X8 ∗ held c arg9 X9 ∗ held c arg10 X10 ∗ held c arg11 X11 ∗ held c arg12 X12 ∗ held c arg13 X13 ∗ held c arg14 C14 ∗ held c arg15 C15 ∗ held c arg16 C16 ∗ held c arg17 C17 ∗ held c arg18 C18 ∗ held c arg19 C19) -∗ K ⟨⟩))
      ⊢ wp frame (wpE (defs₀ (F := F)) Variants.none (c : Thread nD τ) none) E (cc0_diff_attn_prompt (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    simp only [cc0_diff_attn_prompt_eq_skeleton]; unfold cc0_diff_attn_prompt_skel
    iintro ⟨H3, H4, H5, H6, H7, H8, H9, H10, H11, H12, H13, H14, H15, H16, H17, H18, H19, Hk⟩
    sl_exec (disch := first | sl_exact hf | sl_exact hs)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

end Cert.KernelIdeal.Hand

end
-- ==== Proof.KernelIdeal.Step.lean ====
/-
  The three runs of the body in `Run` put together as one step.
-/
module

public import proofs.«01_k».proof.Proof.KernelIdeal.Run

@[expose] public section

set_option maxRecDepth 65536
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-- The first point of the grid is the first query tile of its batch. -/
theorem isFirst_of_isStart : ∀ i : grid0.Coords, isStart i → isFirst i := by decide +kernel

/-- A memref held at some contents is owned at what it reads. -/
theorem owns_of_held (c : Dev nD) {S : Shape} {e : EltTy} (M : Memref sig .tc .vmem S e) (f : BufTy.Contents (Elt F) M.view.ty) :
    held c M f ⊢ owns (c : Thread nD τ) M fullShare (M.view.read (Elt F) f) := by
  unfold owns
  iintro H
  iexists f
  isplitr
  · ipureintro; rfl
  · iexact H

/-- ONE STEP: from input windows holding `d3` to `d13`, an output window and scratches, the body leaves the inputs as they are
and in the output and the scratches contents satisfying `Q`, given that each of the three runs does. -/
theorem bodyStep (c : Dev nD) (i : grid0.Coords)
    (arg3 : Memref sig .tc .vmem S1x512x512 .f32) (harg3 : arg3.IsWhole) (arg4 : Memref sig .tc .vmem S1x8192x512 .bf16) (harg4 : arg4.IsWhole) (arg5 : Memref sig .tc .vmem S1x4x16x144x512 .bf16) (harg5 : arg5.IsWhole) (arg6 : Memref sig .tc .vmem S8192x128 .bf16) (harg6 : arg6.IsWhole) (arg7 : Memref sig .tc .vmem S1024x1024 .bf16) (harg7 : arg7.IsWhole) (arg8 : Memref sig .tc .vmem S1x512x512 .f32) (harg8 : arg8.IsWhole) (arg9 : Memref sig .tc .vmem S1x512x512 .bf16) (harg9 : arg9.IsWhole) (arg10 : Memref sig .tc .vmem S1x128 .f32) (harg10 : arg10.IsWhole) (arg11 : Memref sig .tc .vmem S4x64 .f32) (harg11 : arg11.IsWhole) (arg12 : Memref sig .tc .vmem S1x512x1024 .f32) (harg12 : arg12.IsWhole) (arg13 : Memref sig .tc .vmem S1x512x512 .bf16) (harg13 : arg13.IsWhole) (arg14 : Memref sig .tc .vmem S1x512x1024 .f32) (harg14 : arg14.IsWhole) (arg15 : Memref sig .tc .vmem S2x4x1024x256 .bf16) (harg15 : arg15.IsWhole) (arg16 : Memref sig .tc .vmem S512x4096 .f32) (harg16 : arg16.IsWhole) (arg17 : Memref sig .tc .vmem S1x4096 .f32) (harg17 : arg17.IsWhole) (arg18 : Memref sig .tc .vmem S1x4096 .f32) (harg18 : arg18.IsWhole) (arg19 : Memref sig .tc .vmem S144x4096 .f32) (harg19 : arg19.IsWhole)
    (d3 : S1x512x512.Idx → Elt F .f32) (d4 : S1x8192x512.Idx → Elt F .bf16) (d5 : S1x4x16x144x512.Idx → Elt F .bf16) (d6 : S8192x128.Idx → Elt F .bf16) (d7 : S1024x1024.Idx → Elt F .bf16) (d8 : S1x512x512.Idx → Elt F .f32) (d9 : S1x512x512.Idx → Elt F .bf16) (d10 : S1x128.Idx → Elt F .f32) (d11 : S4x64.Idx → Elt F .f32) (d12 : S1x512x1024.Idx → Elt F .f32) (d13 : S1x512x512.Idx → Elt F .bf16)
    (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty)
    (Q : BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → Prop)
    (hQ : ∀ (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty), arg3.view.read (Elt F) X3 = d3 → arg4.view.read (Elt F) X4 = d4 → arg5.view.read (Elt F) X5 = d5 → arg6.view.read (Elt F) X6 = d6 → arg7.view.read (Elt F) X7 = d7 → arg8.view.read (Elt F) X8 = d8 → arg9.view.read (Elt F) X9 = d9 → arg10.view.read (Elt F) X10 = d10 → arg11.view.read (Elt F) X11 = d11 → arg12.view.read (Elt F) X12 = d12 → arg13.view.read (Elt F) X13 = d13 →
      (∀ (hf : isFirst i) (hs : isStart i), Q (runStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).1 (runStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.1 (runStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.1 (runStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.1 (runStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.2.1 (runStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.2.2.1)
      ∧ (∀ (hf : isFirst i) (hs : ¬isStart i), Q (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).1 (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.1 (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.1 (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.1 (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.2.1 (runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.2.2.1)
      ∧ (∀ (hf : ¬isFirst i) (hs : ¬isStart i), Q (runNext c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).1 (runNext c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.1 (runNext c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.1 (runNext c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.1 (runNext c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.2.1 (runNext c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.2.2.1))
    (E : Set ℕ) (K : PUnit → sProp 𝕄) :
    iprop(owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d14, owns (c : Thread nD τ) arg14 fullShare d14) ∗ held c arg15 X15 ∗ held c arg16 X16 ∗ held c arg17 X17 ∗ held c arg18 X18 ∗ held c arg19 X19
        ∗ (iprop(owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ (C14 : BufTy.Contents (Elt F) arg14.view.ty) (C15 : BufTy.Contents (Elt F) arg15.view.ty) (C16 : BufTy.Contents (Elt F) arg16.view.ty) (C17 : BufTy.Contents (Elt F) arg17.view.ty) (C18 : BufTy.Contents (Elt F) arg18.view.ty) (C19 : BufTy.Contents (Elt F) arg19.view.ty), ⌜Q C14 C15 C16 C17 C18 C19⌝ ∗ held c arg14 C14 ∗ held c arg15 C15 ∗ held c arg16 C16 ∗ held c arg17 C17 ∗ held c arg18 C18 ∗ held c arg19 C19)) -∗ K ⟨⟩))
      ⊢ wp frame (wpE (defs₀ (F := F)) Variants.none (c : Thread nD τ) none) E (cc0_diff_attn_prompt (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  unfold owns
  iintro ⟨⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, ⟨%X12, %h12, H12⟩, ⟨%X13, %h13, H13⟩, ⟨%d14, %X14, -, H14⟩, H15, H16, H17, H18, H19, Hk⟩
  have HQ := hQ X3 X4 X5 X6 X7 X8 X9 X10 X11 X12 X13 X14 h3 h4 h5 h6 h7 h8 h9 h10 h11 h12 h13
  by_cases hf : isFirst i
  · by_cases hs : isStart i
    · iapply ((runStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.2.2.2 E K)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iintro ⟨H3, H4, H5, H6, H7, H8, H9, H10, H11, H12, H13, H14, H15, H16, H17, H18, H19⟩
      iapply Hk
      isplitl [H3]
      · iexists _
        isplitr
        · ipureintro; exact h3
        · iexact H3
      isplitl [H4]
      · iexists _
        isplitr
        · ipureintro; exact h4
        · iexact H4
      isplitl [H5]
      · iexists _
        isplitr
        · ipureintro; exact h5
        · iexact H5
      isplitl [H6]
      · iexists _
        isplitr
        · ipureintro; exact h6
        · iexact H6
      isplitl [H7]
      · iexists _
        isplitr
        · ipureintro; exact h7
        · iexact H7
      isplitl [H8]
      · iexists _
        isplitr
        · ipureintro; exact h8
        · iexact H8
      isplitl [H9]
      · iexists _
        isplitr
        · ipureintro; exact h9
        · iexact H9
      isplitl [H10]
      · iexists _
        isplitr
        · ipureintro; exact h10
        · iexact H10
      isplitl [H11]
      · iexists _
        isplitr
        · ipureintro; exact h11
        · iexact H11
      isplitl [H12]
      · iexists _
        isplitr
        · ipureintro; exact h12
        · iexact H12
      isplitl [H13]
      · iexists _
        isplitr
        · ipureintro; exact h13
        · iexact H13
      iexists _, _, _, _, _, _
      isplitr
      · ipureintro; exact HQ.1 hf hs
      isplitl [H14]; · iexact H14
      isplitl [H15]; · iexact H15
      isplitl [H16]; · iexact H16
      isplitl [H17]; · iexact H17
      isplitl [H18]; · iexact H18
      iexact H19
    · iapply ((runFirst c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.2.2.2 E K)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iintro ⟨H3, H4, H5, H6, H7, H8, H9, H10, H11, H12, H13, H14, H15, H16, H17, H18, H19⟩
      iapply Hk
      isplitl [H3]
      · iexists _
        isplitr
        · ipureintro; exact h3
        · iexact H3
      isplitl [H4]
      · iexists _
        isplitr
        · ipureintro; exact h4
        · iexact H4
      isplitl [H5]
      · iexists _
        isplitr
        · ipureintro; exact h5
        · iexact H5
      isplitl [H6]
      · iexists _
        isplitr
        · ipureintro; exact h6
        · iexact H6
      isplitl [H7]
      · iexists _
        isplitr
        · ipureintro; exact h7
        · iexact H7
      isplitl [H8]
      · iexists _
        isplitr
        · ipureintro; exact h8
        · iexact H8
      isplitl [H9]
      · iexists _
        isplitr
        · ipureintro; exact h9
        · iexact H9
      isplitl [H10]
      · iexists _
        isplitr
        · ipureintro; exact h10
        · iexact H10
      isplitl [H11]
      · iexists _
        isplitr
        · ipureintro; exact h11
        · iexact H11
      isplitl [H12]
      · iexists _
        isplitr
        · ipureintro; exact h12
        · iexact H12
      isplitl [H13]
      · iexists _
        isplitr
        · ipureintro; exact h13
        · iexact H13
      iexists _, _, _, _, _, _
      isplitr
      · ipureintro; exact HQ.2.1 hf hs
      isplitl [H14]; · iexact H14
      isplitl [H15]; · iexact H15
      isplitl [H16]; · iexact H16
      isplitl [H17]; · iexact H17
      isplitl [H18]; · iexact H18
      iexact H19
  · have hs : ¬ isStart i := fun h => hf (isFirst_of_isStart _ h)
    iapply ((runNext c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.2.2.2 E K)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iintro ⟨H3, H4, H5, H6, H7, H8, H9, H10, H11, H12, H13, H14, H15, H16, H17, H18, H19⟩
    iapply Hk
    isplitl [H3]
    · iexists _
      isplitr
      · ipureintro; exact h3
      · iexact H3
    isplitl [H4]
    · iexists _
      isplitr
      · ipureintro; exact h4
      · iexact H4
    isplitl [H5]
    · iexists _
      isplitr
      · ipureintro; exact h5
      · iexact H5
    isplitl [H6]
    · iexists _
      isplitr
      · ipureintro; exact h6
      · iexact H6
    isplitl [H7]
    · iexists _
      isplitr
      · ipureintro; exact h7
      · iexact H7
    isplitl [H8]
    · iexists _
      isplitr
      · ipureintro; exact h8
      · iexact H8
    isplitl [H9]
    · iexists _
      isplitr
      · ipureintro; exact h9
      · iexact H9
    isplitl [H10]
    · iexists _
      isplitr
      · ipureintro; exact h10
      · iexact H10
    isplitl [H11]
    · iexists _
      isplitr
      · ipureintro; exact h11
      · iexact H11
    isplitl [H12]
    · iexists _
      isplitr
      · ipureintro; exact h12
      · iexact H12
    isplitl [H13]
    · iexists _
      isplitr
      · ipureintro; exact h13
      · iexact H13
    iexists _, _, _, _, _, _
    isplitr
    · ipureintro; exact HQ.2.2 hf hs
    isplitl [H14]; · iexact H14
    isplitl [H15]; · iexact H15
    isplitl [H16]; · iexact H16
    isplitl [H17]; · iexact H17
    isplitl [H18]; · iexact H18
    iexact H19

end Cert.KernelIdeal.Hand

end
-- ==== Proof.KernelIdeal.Frame.lean ====
/-
  Hand-written, untrusted. `KernelIdeal`'s frame: the pipeline's input windows keep their blocks, what the body leaves
  in the output window and in the scratches is not named. The body obligation is `Run`'s three triples; the launch is
  the library's for windows that share an array among inputs.
-/
module

public import proofs.«01_k».proof.Proof.KernelIdeal.Step

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output window alone is forgotten. -/
def forgets0 : Fin 12 → Bool := fun w => w == 11

/-- The proof data on core `c`: each input window keeps its block, the output is unnamed, the scratches hold
    something. -/
def fdats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => Pipeline.Dat.unnamed (cfg := cfg0) 11 t
  Φ _ := Pipeline.ΦA spec0 c
  q w := Pipeline.shareOf spec0 w
  owed _ := 0

theorem fA_eq (c : Dev nD) (w : Fin cfg0.W) : (fdats m 0 c).A w = V m c (Pipeline.arrRef spec0 w) := by dsimp only [fdats]

theorem fbefore0_0 (c : Dev nD) (t : Fin cfg0.N) (d) : (fdats m 0 c).before 0 t d = iblk m c 0 t :=
  before0_0_of m (fdats m 0 c) (fA_eq m c 0) (fun _ => rfl) t d
theorem fbefore0_1 (c : Dev nD) (t : Fin cfg0.N) (d) : (fdats m 0 c).before 1 t d = iblk m c 1 t :=
  before0_1_of m (fdats m 0 c) (fA_eq m c 1) (fun _ => rfl) t d
theorem fbefore0_2 (c : Dev nD) (t : Fin cfg0.N) (d) : (fdats m 0 c).before 2 t d = iblk m c 2 t :=
  before0_2_of m (fdats m 0 c) (fA_eq m c 2) (fun _ => rfl) t d
theorem fbefore0_3 (c : Dev nD) (t : Fin cfg0.N) (d) : (fdats m 0 c).before 3 t d = iblk m c 3 t :=
  before0_3_of m (fdats m 0 c) (fA_eq m c 3) (fun _ => rfl) t d
theorem fbefore0_4 (c : Dev nD) (t : Fin cfg0.N) (d) : (fdats m 0 c).before 4 t d = iblk m c 4 t :=
  before0_4_of m (fdats m 0 c) (fA_eq m c 4) (fun _ => rfl) t d
theorem fbefore0_5 (c : Dev nD) (t : Fin cfg0.N) (d) : (fdats m 0 c).before 5 t d = iblk m c 5 t :=
  before0_5_of m (fdats m 0 c) (fA_eq m c 5) (fun _ => rfl) t d
theorem fbefore0_6 (c : Dev nD) (t : Fin cfg0.N) (d) : (fdats m 0 c).before 6 t d = iblk m c 6 t :=
  before0_6_of m (fdats m 0 c) (fA_eq m c 6) (fun _ => rfl) t d
theorem fbefore0_7 (c : Dev nD) (t : Fin cfg0.N) (d) : (fdats m 0 c).before 7 t d = iblk m c 7 t :=
  before0_7_of m (fdats m 0 c) (fA_eq m c 7) (fun _ => rfl) t d
theorem fbefore0_8 (c : Dev nD) (t : Fin cfg0.N) (d) : (fdats m 0 c).before 8 t d = iblk m c 8 t :=
  before0_8_of m (fdats m 0 c) (fA_eq m c 8) (fun _ => rfl) t d
theorem fbefore0_9 (c : Dev nD) (t : Fin cfg0.N) (d) : (fdats m 0 c).before 9 t d = iblk m c 9 t :=
  before0_9_of m (fdats m 0 c) (fA_eq m c 9) (fun _ => rfl) t d
theorem fbefore0_10 (c : Dev nD) (t : Fin cfg0.N) (d) : (fdats m 0 c).before 10 t d = iblk m c 10 t :=
  before0_10_of m (fdats m 0 c) (fA_eq m c 10) (fun _ => rfl) t d

/-- The scratches and the generator register, conjunct by conjunct. -/
theorem PhiA0_eq (c : Dev nD) :
    (Pipeline.ΦA spec0 c : sProp 𝕄)
      = iprop(iprop((∃ f, held c (Memref.whole cc0_scratch0) f) ∗ (∃ f, held c (Memref.whole cc0_scratch1) f) ∗ (∃ f, held c (Memref.whole cc0_scratch2) f) ∗ (∃ f, held c (Memref.whole cc0_scratch3) f) ∗ (∃ f, held c (Memref.whole cc0_scratch4) f)) ∗ (∃ r, prngReg c r)) := by
  unfold Pipeline.ΦA; rw [scopedRest0_eq]
  simp only [held, View.set_whole]; try rfl

/-- What the body is called with at point `t`. -/
def fbodyPre (c : Dev nD) (t : Fin cfg0.N) : sProp 𝕄 :=
  iprop((fdats m 0 c).Φ t.castSucc ∗ (fdats m 0 c).owesAt () t.castSucc
    ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ (∃ d, owns (c : Thread nD τ) (st0_11 t) fullShare d))
/-- What the body returns at point `t`. -/
def fbodyPost (c : Dev nD) (t : Fin cfg0.N) : sProp 𝕄 :=
  iprop((fdats m 0 c).Φ t.succ ∗ (fdats m 0 c).owesAt () t.succ
    ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ (∃ d, owns (c : Thread nD τ) (st0_11 t) fullShare d))

/-- The body at any point: the three runs of `Run`, the contents of the inputs kept. -/
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  rw [show (fdats m 0 c).Φ t.succ = (fdats m 0 c).Φ t.castSucc from rfl,
    show (fdats m 0 c).owesAt () t.succ = (fdats m 0 c).owesAt () t.castSucc from rfl,
    show (fdats m 0 c).Φ t.castSucc = Pipeline.ΦA spec0 c from rfl, PhiA0_eq]
  iintro ⟨⟨⟨⟨%X15, H15⟩, ⟨%X16, H16⟩, ⟨%X17, H17⟩, ⟨%X18, H18⟩, ⟨%X19, H19⟩⟩, Hg⟩, HO, H3, H4, H5, H6, H7, H8, H9, H10, H11, H12, H13, H14⟩
  iapply (bodyStep c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) X15 X16 X17 X18 X19 (fun _ _ _ _ _ _ => True)
    (by intros; exact ⟨fun _ _ => trivial, fun _ _ => trivial, fun _ _ => trivial⟩) Set.univ _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H3, H4, H5, H6, H7, H8, H9, H10, H11, H12, H13, ⟨%C14, %C15, %C16, %C17, %C18, %C19, -, H14, H15, H16, H17, H18, H19⟩⟩
  isplitl [H15 H16 H17 H18 H19 Hg]
  · isplitl [H15 H16 H17 H18 H19]
    · isplitl [H15]; · iexists _; iexact H15
      isplitl [H16]; · iexists _; iexact H16
      isplitl [H17]; · iexists _; iexact H17
      isplitl [H18]; · iexists _; iexact H18
      iexists _; iexact H19
    iexact Hg
  isplitl [HO]; · iexact HO
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists _
  iapply (owns_of_held c (st0_11 t) C14)
  iexact H14

/-- The body table's row at the point is the body as the kit spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten. -/
theorem fbody_obligation (c : Dev nD) :
    BodyObligation (fdats (F := F) m 0 c) (defs₀ (F := F)) Variants.none () Set.univ forgets0 := fun t => by
  rw [bigSep_W0, bigSep_W0, defs₀_row]
  refine triple_restated (fsound_body m c t) rfl ?_ fun _ => .rfl
  unfold fbodyPre
  simp only [show forgets0 0 = false from rfl, show forgets0 1 = false from rfl, show forgets0 2 = false from rfl, show forgets0 3 = false from rfl, show forgets0 4 = false from rfl, show forgets0 5 = false from rfl, show forgets0 6 = false from rfl, show forgets0 7 = false from rfl, show forgets0 8 = false from rfl, show forgets0 9 = false from rfl, show forgets0 10 = false from rfl, show forgets0 11 = true from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  isplitl [HΦ]; · iexact HΦ
  isplitl [HO]; · iexact HO

  isplitl [H0]; · rw [← fbefore0_0 m c t d0]; iexact H0
  isplitl [H1]; · rw [← fbefore0_1 m c t d1]; iexact H1
  isplitl [H2]; · rw [← fbefore0_2 m c t d2]; iexact H2
  isplitl [H3]; · rw [← fbefore0_3 m c t d3]; iexact H3
  isplitl [H4]; · rw [← fbefore0_4 m c t d4]; iexact H4
  isplitl [H5]; · rw [← fbefore0_5 m c t d5]; iexact H5
  isplitl [H6]; · rw [← fbefore0_6 m c t d6]; iexact H6
  isplitl [H7]; · rw [← fbefore0_7 m c t d7]; iexact H7
  isplitl [H8]; · rw [← fbefore0_8 m c t d8]; iexact H8
  isplitl [H9]; · rw [← fbefore0_9 m c t d9]; iexact H9
  isplitl [H10]; · rw [← fbefore0_10 m c t d10]; iexact H10
  iexact H11

set_option backward.isDefEq.respectTransparency.types false in
/-- From any memory with zero counters every weakly fair execution of @main terminates, the input arrays and the buffers
    no window stages unchanged and every counter zero. -/
theorem run_main :
    θ_run defs (onTc (τ := τ) (main (F := F))) (s₀ m ρ)
      (fun r => Pipeline.RDat.FramePost (cfgs 0) (fun c => (fdats m 0 c).toRForget forgets0) (V m) r ∧ r.2.sem = fun _ => 0) :=
  Pipeline.θ_run_frame_forget_shared (Q' := _) cfgs (fdats m) (0 : Fin 1) launch₀0 defs₀ Variants.none forgets0 m ρ main
    (hbody := fun c => (fbody_obligation m c).loose) (hq := fun _ _ _ => rfl)
    (howed := fun _ _ => rfl) (V := V m) (hmain := hmain m Variants.none) (hA := fA_eq m) (hΦ := fun _ _ => rfl)

/-- The frame: every argument array as launched, every counter zero. -/
theorem frame_main :
    θ_run defs (onTc (τ := τ) (main (F := F))) ⟨m, fun _ => 0, ρ⟩ (fun r => (∀ c : Dev nD,

r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨
    (h.1.arr_in c 5 rfl).trans ((fA_eq m c 5).trans (V_main_arg0 m c)),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    (h.1.arr_in c 7 rfl).trans ((fA_eq m c 7).trans (V_main_arg4 m c)),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    (h.1.arr_in c 9 rfl).trans ((fA_eq m c 9).trans (V_main_arg9 m c)),
    ((h.1 c).2 main_arg10 (Pipeline.mem_restRefs_of main_arg10 (by decide) (by decide))).trans (V_main_arg10 m c),
    ((h.1 c).2 main_arg11 (Pipeline.mem_restRefs_of main_arg11 (by decide) (by decide))).trans (V_main_arg11 m c)⟩, h.2⟩) (run_main m ρ)

end Cert.KernelIdeal.Hand

end
-- ==== Proof.Layer.lean ====
module

public import Idealize.ShloMosaic.PureOps.Ideal.Laws

@[expose] public section

/-! # The layer both programs compute, at one output element

Differential attention with a mask by chunks of 64 rows, a root-mean-square norm of each head, a gate, and the output
projection of the heads beside the mixing branch, added to the input. -/

noncomputable section

namespace Cert.Layer

open Idealize.ShloMosaic

section Attention

variable (q k : Fin 8192 → Fin 512 → ℝ) (v : Fin 8192 → Fin 4 → Fin 128 → ℝ)

/-- The product of query row `n` and key row `j` in component `c` of head `h`. -/
def logit (h : Fin 4) (c : Fin 2) (n j : Fin 8192) : ℝ :=
  ∑ f : Fin 64, k j ⟨128 * h.val + (64 * c.val + f.val), by omega⟩ * q n ⟨128 * h.val + (64 * c.val + f.val), by omega⟩

/-- The weight of key row `j` for query row `n`: nothing for a key of a later chunk. -/
def weight (h : Fin 4) (c : Fin 2) (n j : Fin 8192) : ℝ :=
  if n.val / 64 < j.val / 64 then 0 else Real.exp (logit q k h c n j / 8)

/-- The attention of component `c` of head `h`, feature `e`. -/
def attn (h : Fin 4) (c : Fin 2) (n : Fin 8192) (e : Fin 128) : ℝ :=
  (∑ j : Fin 8192, weight q k h c n j * v j h e) / ∑ j : Fin 8192, weight q k h c n j

/-- The first component's attention less `L` times the second's. -/
def diff (L : EReal) (h : Fin 4) (n : Fin 8192) (e : Fin 128) : EReal :=
  (attn q k v h 0 n e : EReal) - L * (attn q k v h 1 n e : EReal)

theorem weight_nonneg (h : Fin 4) (c : Fin 2) (n j : Fin 8192) : 0 ≤ weight q k h c n j := by
  unfold weight
  split
  · exact le_rfl
  · exact (Real.exp_pos _).le

/-- Key row 0 is never masked, so the weights' sum is positive. -/
theorem sum_weight_pos (h : Fin 4) (c : Fin 2) (n : Fin 8192) : 0 < ∑ j : Fin 8192, weight q k h c n j := by
  refine Finset.sum_pos' (fun j _ => weight_nonneg q k h c n j) ⟨0, Finset.mem_univ _, ?_⟩
  unfold weight
  rw [if_neg (by show ¬ n.val / 64 < 0 / 64; omega)]
  exact Real.exp_pos _

end Attention

/-- The differential weight from its four parameter rows. -/
def lam (a b c d : Fin 64 → EReal) : EReal :=
  Ideal.exp (∑ x, a x * b x) - Ideal.exp (∑ x, c x * d x) + Ideal.ofBits .f32 0x3E4CCCCD#32

/-- A head's output feature `f`: normalised, scaled by `s` and by 0.8, and gated by `g`. -/
def head (o : Fin 128 → EReal) (s g : EReal) (f : Fin 128) : EReal :=
  o f * Ideal.rsqrt (Ideal.div (∑ x : Fin 128, o x * o x) (Ideal.ofBits .f32 0x43000000#32) + Ideal.ofBits .f32 0x358637BD#32)
    * (s * Ideal.ofBits .f32 0x3F4CCCCD#32) * g

/-- An element of the layer's result in row `n`, from the head outputs and the mixing branch through one column `wo` of the projection. -/
def out (q k : Fin 8192 → Fin 512 → ℝ) (v : Fin 8192 → Fin 4 → Fin 128 → ℝ) (L : EReal) (sg : Fin 128 → EReal)
    (gd mix : Fin 512 → EReal) (wo : Fin 1024 → EReal) (x : EReal) (n : Fin 8192) : EReal :=
  x + ∑ d : Fin 512, mix d * wo ⟨512 + d.val, by omega⟩
    + ∑ d : Fin 512, head (diff q k v L ⟨d.val / 128, by omega⟩ n) (sg ⟨d.val % 128, by omega⟩) (gd d) ⟨d.val % 128, by omega⟩ * wo ⟨d.val, by omega⟩

end Cert.Layer

end
-- ==== Proof.KernelIdeal.Chunk.lean ====
module

public import proofs.«01_k».proof.Proof.Gen.KernelIdeal.Frame
public import proofs.«01_k».proof.Proof.Gen.KernelIdeal.Loops
public import Idealize.ShloMosaic.Lib.Pointwise
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe

/-- A load through a unit-stride rectangle reads the view at the place the rectangle puts the index. -/
theorem readAt_unit_apply {sp : Space} {s : Shape} {e : EltTy} (v : View sig .tc sp s e) (f : v.ty.Contents (Elt Ideal))
    {off size : Fin s.rank → ℕ} (inb : ∀ a, off a + size a ≤ s.size a) (x : (Rect.unit off size inb).shape.Idx) (y : s.Idx)
    (h : ∀ a, (y a).val = off a + (x a).val) :
    v.readAt (Elt Ideal) (Rect.unit off size inb).toLoadRect f x = v.read (Elt Ideal) f y := by
  rw [View.readAt_apply]
  refine congrArg _ (funext fun a => Fin.ext ?_)
  rw [h a]
  show off a + 1 * (x a).val = _
  rw [Nat.one_mul]

/-- One column chunk of the accumulator after a trip: the old chunk rescaled plus the two half-blocks' products. -/
def accChunk (m tm : FVec Ideal S1x4096 .f32) (ac : FVec Ideal S144x256 .f32) (w0 w1 : FVec Ideal S1x1x1x144x256 .bf16)
    (s0 s1 : FVec Ideal S256x256 .f32) (o : ℕ) (hs : S1x4096.Slices ![0, o] S1x256) : FVec Ideal S144x256 .f32 :=
  shapeCast S144x256
    (addf
      (addf (mulf (broadcastTo S144x256 (extractStridedSlice S1x256 ![0, o] (exp2 (subf m (maximumf m tm))) hs) broadcasts_S1x256_S144x256) ac)
        (matmul dot_S144x256_S256x256_S144x256_1_0_0_1_n_n none (shapeCast S144x256 w0 shapeCasts_S1x1x1x144x256_S144x256)
          (truncf FTy.bf16 (exp2 (subf s0 (broadcastTo S256x256 (extractStridedSlice S1x256 ![0, o] (maximumf m tm) hs) broadcasts_S1x256_S256x256))) bitsLt_bf16_f32)
          (constant S144x256 FTy.f32 0#32)))
      (matmul dot_S144x256_S256x256_S144x256_1_0_0_1_n_n none (shapeCast S144x256 w1 shapeCasts_S1x1x1x144x256_S144x256)
        (truncf FTy.bf16 (exp2 (subf s1 (broadcastTo S256x256 (extractStridedSlice S1x256 ![0, o] (maximumf m tm) hs) broadcasts_S1x256_S256x256))) bitsLt_bf16_f32)
        (constant S144x256 FTy.f32 0#32)))
    shapeCasts_S144x256_S144x256

/-- The key block's 512 rows beside its one-hot chunk rows. -/
def keyRows (w4 : FVec Ideal S1x512x128 .bf16) (w6 : FVec Ideal S512x128 .bf16) : FVec Ideal S512x256 .bf16 :=
  concatenate S512x256 1 [⟨S512x128, shapeCast S512x128 w4 shapeCasts_S1x512x128_S512x128⟩, ⟨S512x128, shapeCast S512x128 w6 shapeCasts_S512x128_S512x128⟩]
    concatenates_S512x128_S512x128_S512x256_d1

/-- One column chunk of scores. -/
def scoreChunk (w4 : FVec Ideal S1x512x128 .bf16) (w6 : FVec Ideal S512x128 .bf16) (w15 : FVec Ideal S1x1x256x256 .bf16) : FVec Ideal S512x256 .f32 :=
  matmul dot_S512x256_S256x256_S512x256_1_1_0_0_n_n none (keyRows w4 w6) (shapeCast S256x256 w15 shapeCasts_S1x1x256x256_S256x256)
    (constant S512x256 FTy.f32 0#32)

/-- The column maxima of one chunk of scores. -/
def maxChunk (w4 : FVec Ideal S1x512x128 .bf16) (w6 : FVec Ideal S512x128 .bf16) (w15 : FVec Ideal S1x1x256x256 .bf16) : FVec Ideal S1x256 .f32 :=
  shapeCast S1x256 (shapeCast S1x256 (multiReduction FKind.maximumf [0] S256 (scoreChunk w4 w6 w15) 0xFF800000#32 reduces_S512x256_S256 (.inl rfl) rfl)
    shapeCasts_S256_S1x256) shapeCasts_S1x256_S1x256

theorem accChunk_apply (m tm : FVec Ideal S1x4096 .f32) (ac : FVec Ideal S144x256 .f32) (w0 w1 : FVec Ideal S1x1x1x144x256 .bf16)
    (s0 s1 : FVec Ideal S256x256 .f32) (o : ℕ) (hs : S1x4096.Slices ![0, o] S1x256) (a : Fin 144) (b : Fin 256) (y : Fin 4096) (hy : y.val = o + b.val) :
    accChunk m tm ac w0 w1 s0 s1 o hs (ix2 a b)
      = Ideal.exp2 (m (ix2 0 y) - max (m (ix2 0 y)) (tm (ix2 0 y))) * ac (ix2 a b)
        + ∑ x, w0 (ix5 0 0 0 a x) * Ideal.exp2 (s0 (ix2 x b) - max (m (ix2 0 y)) (tm (ix2 0 y)))
        + ∑ x, w1 (ix5 0 0 0 a x) * Ideal.exp2 (s1 (ix2 x b) - max (m (ix2 0 y)) (tm (ix2 0 y))) := by
  obtain ⟨y, hy'⟩ := y
  obtain rfl : y = o + b.val := hy
  pointwise [accChunk]
  rfl

theorem scoreChunk_apply (w4 : FVec Ideal S1x512x128 .bf16) (w6 : FVec Ideal S512x128 .bf16) (w15 : FVec Ideal S1x1x256x256 .bf16) (r : Fin 512) (b : Fin 256) :
    scoreChunk w4 w6 w15 (ix2 r b)
      = ∑ x : Fin 128, w4 (ix3 0 r x) * w15 (ix4 0 0 b ⟨x.val, by omega⟩) + ∑ x : Fin 128, w6 (ix2 r x) * w15 (ix4 0 0 b ⟨128 + x.val, by omega⟩) := by
  pointwise [scoreChunk, keyRows]

/-- The word of minus infinity is the least extended real. -/
theorem ofBits_neg_inf : Ideal.ofBits .f32 0xFF800000#32 = ⊥ := by simp [Ideal.ofBits, Ideal.ieee]

theorem maxChunk_apply (w4 : FVec Ideal S1x512x128 .bf16) (w6 : FVec Ideal S512x128 .bf16) (w15 : FVec Ideal S1x1x256x256 .bf16)  (b : Fin 256) :
    maxChunk w4 w6 w15 (ix2 0 b) = Finset.fold max ⊥ (fun x => scoreChunk w4 w6 w15 (ix2 x b)) Finset.univ := by
  pointwise [maxChunk]
  rw [ofBits_neg_inf]

/-- The running maximum stored by a trip. -/
def runMax (m tm : FVec Ideal S1x4096 .f32) (sc : S1x4096.ShapeCasts S1x4096) : FVec Ideal S1x4096 .f32 := shapeCast S1x4096 (maximumf m tm) sc

/-! ## What a trip leaves, as functions of what it finds -/

/-- The head a column belongs to. -/
def headOf (y : Fin 4096) : Fin 4 := ⟨y.val / 1024, by omega⟩
/-- The column's place among its head's columns. -/
def colOf (y : Fin 4096) : Fin 1024 := ⟨y.val % 1024, by omega⟩

/-- The score of key row `r` of block `j` in column `y`, from the keys, their one-hot chunks and slot `sl` of the queries. -/
def scoreG (K : S1x8192x512.Idx → EReal) (C : S8192x128.Idx → EReal) (W : S2x4x1024x256.Idx → EReal) (sl : Fin 2) (j : Fin 16) (r : Fin 512)
    (y : Fin 4096) : EReal :=
  ∑ x : Fin 128, K (ix3 0 (⟨512 * j.val + r.val, by omega⟩ : Fin 8192) (⟨128 * (headOf y).val + x.val, by omega⟩ : Fin 512))
      * W (ix4 sl (headOf y) (colOf y) (⟨x.val, by omega⟩ : Fin 256))
    + ∑ x : Fin 128, C (ix2 (⟨512 * j.val + r.val, by omega⟩ : Fin 8192) x) * W (ix4 sl (headOf y) (colOf y) (⟨128 + x.val, by omega⟩ : Fin 256))

/-- The accumulator's row `a` in column `y` after block `k`. -/
def accG (V : S1x4x16x144x512.Idx → EReal) (k : Fin 16) (m tm : S1x4096.Idx → EReal) (s : S512x4096.Idx → EReal) (ac : S144x4096.Idx → EReal)
    (a : Fin 144) (y : Fin 4096) : EReal :=
  Ideal.exp2 (m (ix2 0 y) - max (m (ix2 0 y)) (tm (ix2 0 y))) * ac (ix2 a y)
    + ∑ x : Fin 256, V (ix5 0 (headOf y) k a (⟨x.val, by omega⟩ : Fin 512))
        * Ideal.exp2 (s (ix2 (⟨x.val, by omega⟩ : Fin 512) y) - max (m (ix2 0 y)) (tm (ix2 0 y)))
    + ∑ x : Fin 256, V (ix5 0 (headOf y) k a (⟨256 + x.val, by omega⟩ : Fin 512))
        * Ideal.exp2 (s (ix2 (⟨256 + x.val, by omega⟩ : Fin 512) y) - max (m (ix2 0 y)) (tm (ix2 0 y)))

section Pieces

variable {arg4 : Memref sig .tc .vmem S1x8192x512 .bf16} {arg5 : Memref sig .tc .vmem S1x4x16x144x512 .bf16} {arg6 : Memref sig .tc .vmem S8192x128 .bf16}
  {arg15 : Memref sig .tc .vmem S2x4x1024x256 .bf16} {arg16 : Memref sig .tc .vmem S512x4096 .f32}
  {arg17 arg18 : Memref sig .tc .vmem S1x4096 .f32} {arg19 : Memref sig .tc .vmem S144x4096 .f32}
  (X4 : BufTy.Contents (Elt Ideal) arg4.view.ty) (X5 : BufTy.Contents (Elt Ideal) arg5.view.ty) (X6 : BufTy.Contents (Elt Ideal) arg6.view.ty)
  (X15 : BufTy.Contents (Elt Ideal) arg15.view.ty) (f16 : BufTy.Contents (Elt Ideal) arg16.view.ty)
  (f17 : BufTy.Contents (Elt Ideal) arg17.view.ty) (f18 : BufTy.Contents (Elt Ideal) arg18.view.ty) (f19 : BufTy.Contents (Elt Ideal) arg19.view.ty)

set_option maxHeartbeats 2000000 in
/-- A stored accumulator chunk is `accG` at the columns it is stored in. -/
theorem acc_piece (o : ℕ) (k : Fin 16) (h : ℕ) (ho : o / 256 * 256 = o ∧ o / 1024 = h) {off7 off8 : Fin 5 → ℕ} (e7 : off7 = ![0, h, k.val, 0, 0])
    (e8 : off8 = ![0, h, k.val, 0, 256]) (i7 : ∀ a, off7 a + ![1, 1, 1, 144, 256] a ≤ S1x4x16x144x512.size a) (i8 : ∀ a, off8 a + ![1, 1, 1, 144, 256] a ≤ S1x4x16x144x512.size a) (i17 : ∀ a, ![0, 0] a + ![1, 4096] a ≤ S1x4096.size a) (i18 : ∀ a, ![0, 0] a + ![1, 4096] a ≤ S1x4096.size a) (i19 : ∀ a, ![0, o] a + ![144, 256] a ≤ S144x4096.size a) (i160 : ∀ a, ![0, o] a + ![256, 256] a ≤ S512x4096.size a) (i161 : ∀ a, ![256, o] a + ![256, 256] a ≤ S512x4096.size a) (hs : S1x4096.Slices ![0, o] S1x256)
    (x : (Rect.unit (s := S144x4096) ![0, o] ![144, 256] i19).shape.Idx) :
    accChunk (View.readAt (Elt Ideal) arg18.view (Rect.unit (s := S1x4096) ![0, 0] ![1, 4096] i18).toLoadRect f18)
      (View.readAt (Elt Ideal) arg17.view (Rect.unit (s := S1x4096) ![0, 0] ![1, 4096] i17).toLoadRect f17)
      (View.readAt (Elt Ideal) arg19.view (Rect.unit (s := S144x4096) ![0, o] ![144, 256] i19).toLoadRect f19)
      (View.readAt (Elt Ideal) arg5.view (Rect.unit (s := S1x4x16x144x512) off7 ![1, 1, 1, 144, 256] i7).toLoadRect X5)
      (View.readAt (Elt Ideal) arg5.view (Rect.unit (s := S1x4x16x144x512) off8 ![1, 1, 1, 144, 256] i8).toLoadRect X5)
      (View.readAt (Elt Ideal) arg16.view (Rect.unit (s := S512x4096) ![0, o] ![256, 256] i160).toLoadRect f16)
      (View.readAt (Elt Ideal) arg16.view (Rect.unit (s := S512x4096) ![256, o] ![256, 256] i161).toLoadRect f16) o hs x
    = (fun z : S144x4096.Idx => accG (arg5.view.read (Elt Ideal) X5) k (arg18.view.read (Elt Ideal) f18) (arg17.view.read (Elt Ideal) f17)
        (arg16.view.read (Elt Ideal) f16) (arg19.view.read (Elt Ideal) f19) (z 0) (z 1))
        ((Rect.unit (s := S144x4096) ![0, o] ![144, 256] i19).emb x) := by
  obtain ⟨a, b, rfl⟩ : ∃ (a : Fin 144) (b : Fin 256), x = ix2 a b := ⟨x 0, x 1, eq_ix2 x⟩
  subst e7 e8
  have ho4 : o + 256 ≤ 4096 := i19 1
  have hy : o + b.val < 4096 := by omega
  have he : (Rect.unit (s := S144x4096) ![0, o] ![144, 256] i19).emb (ix2 a b) = ix2 a (⟨o + b.val, hy⟩ : Fin 4096) := by
    funext d; apply Fin.ext
    match d with
    | ⟨0, _⟩ => show 0 + 1 * a.val = a.val; omega
    | ⟨1, _⟩ => show o + 1 * b.val = o + b.val; omega
  have hh : headOf (⟨o + b.val, hy⟩ : Fin 4096) = ⟨h, by omega⟩ := Fin.ext (by show (o + b.val) / 1024 = h; omega)
  rw [he, accChunk_apply _ _ _ _ _ _ _ _ _ _ _ (⟨o + b.val, hy⟩ : Fin 4096) rfl]
  show _ = accG _ _ _ _ _ _ a (⟨o + b.val, hy⟩ : Fin 4096)
  unfold accG
  rw [hh]
  rw [readAt_unit_apply arg18.view f18 i18 (ix2 0 (⟨o + b.val, hy⟩ : Fin 4096)) (ix2 0 (⟨o + b.val, hy⟩ : Fin 4096))
      (by intro d; match d with | ⟨0, _⟩ => rfl | ⟨1, _⟩ => exact (Nat.zero_add _).symm),
    readAt_unit_apply arg17.view f17 i17 (ix2 0 (⟨o + b.val, hy⟩ : Fin 4096)) (ix2 0 (⟨o + b.val, hy⟩ : Fin 4096))
      (by intro d; match d with | ⟨0, _⟩ => rfl | ⟨1, _⟩ => exact (Nat.zero_add _).symm),
    readAt_unit_apply arg19.view f19 i19 (ix2 a b) (ix2 a (⟨o + b.val, hy⟩ : Fin 4096))
      (by intro d; match d with | ⟨0, _⟩ => exact (Nat.zero_add _).symm | ⟨1, _⟩ => rfl)]
  congr 1
  · congr 1
    refine Finset.sum_congr rfl fun r _ => ?_
    rw [readAt_unit_apply arg5.view X5 i7 (ix5 0 0 0 a r) (ix5 0 (⟨h, by omega⟩ : Fin 4) k a (⟨r.val, by omega⟩ : Fin 512))
      (by intro d; match d with | ⟨0, _⟩ => rfl | ⟨1, _⟩ => rfl | ⟨2, _⟩ => rfl | ⟨3, _⟩ => exact (Nat.zero_add _).symm | ⟨4, _⟩ => exact (Nat.zero_add _).symm),
      readAt_unit_apply arg16.view f16 i160 (ix2 r b) (ix2 (⟨r.val, by omega⟩ : Fin 512) (⟨o + b.val, hy⟩ : Fin 4096))
      (by intro d; match d with | ⟨0, _⟩ => exact (Nat.zero_add _).symm | ⟨1, _⟩ => rfl)]
  · refine Finset.sum_congr rfl fun r _ => ?_
    rw [readAt_unit_apply arg5.view X5 i8 (ix5 0 0 0 a r) (ix5 0 (⟨h, by omega⟩ : Fin 4) k a (⟨256 + r.val, by omega⟩ : Fin 512))
      (by intro d; match d with | ⟨0, _⟩ => rfl | ⟨1, _⟩ => rfl | ⟨2, _⟩ => rfl | ⟨3, _⟩ => exact (Nat.zero_add _).symm | ⟨4, _⟩ => rfl),
      readAt_unit_apply arg16.view f16 i161 (ix2 r b) (ix2 (⟨256 + r.val, by omega⟩ : Fin 512) (⟨o + b.val, hy⟩ : Fin 4096))
      (by intro d; match d with | ⟨0, _⟩ => rfl | ⟨1, _⟩ => rfl)]

/-- The scores computed from loaded blocks are `scoreG` at the column. -/
theorem score_loads (o : ℕ) (j : Fin 16) (sl : Fin 2) (h : ℕ) (ho : o / 256 * 256 = o ∧ o / 1024 = h ∧ o + 256 ≤ 4096) {off5 : Fin 3 → ℕ} {off6 : Fin 2 → ℕ}
    {off9 : Fin 4 → ℕ} (e5 : off5 = ![0, 512 * j.val, 128 * h]) (e6 : off6 = ![512 * j.val, 0]) (e9 : off9 = ![sl.val, h, o % 1024, 0]) (i5 : ∀ a, off5 a + ![1, 512, 128] a ≤ S1x8192x512.size a) (i6 : ∀ a, off6 a + ![512, 128] a ≤ S8192x128.size a) (i9 : ∀ a, off9 a + ![1, 1, 256, 256] a ≤ S2x4x1024x256.size a)
    (r : Fin 512) (b : Fin 256) (y : Fin 4096) (hy : y.val = o + b.val) :
    scoreChunk (View.readAt (Elt Ideal) arg4.view (Rect.unit (s := S1x8192x512) off5 ![1, 512, 128] i5).toLoadRect X4)
      (View.readAt (Elt Ideal) arg6.view (Rect.unit (s := S8192x128) off6 ![512, 128] i6).toLoadRect X6)
      (View.readAt (Elt Ideal) arg15.view (Rect.unit (s := S2x4x1024x256) off9 ![1, 1, 256, 256] i9).toLoadRect X15) (ix2 r b)
    = scoreG (arg4.view.read (Elt Ideal) X4) (arg6.view.read (Elt Ideal) X6) (arg15.view.read (Elt Ideal) X15) sl j r y := by
  subst e5 e6 e9
  have hh : (headOf y).val = h := by show y.val / 1024 = h; omega
  have hc : (colOf y).val = o % 1024 + b.val := by show y.val % 1024 = _; omega
  rw [scoreChunk_apply]
  unfold scoreG
  congr 1
  · refine Finset.sum_congr rfl fun d _ => ?_
    rw [readAt_unit_apply arg4.view X4 i5 (ix3 0 r d) (ix3 0 (⟨512 * j.val + r.val, by omega⟩ : Fin 8192) (⟨128 * (headOf y).val + d.val, by omega⟩ : Fin 512))
      (by intro d; match d with | ⟨0, _⟩ => rfl | ⟨1, _⟩ => rfl | ⟨2, _⟩ => exact congrArg (128 * · + _) hh),
      readAt_unit_apply arg15.view X15 i9 (ix4 0 0 b (⟨d.val, by omega⟩ : Fin 256)) (ix4 sl (headOf y) (colOf y) (⟨d.val, by omega⟩ : Fin 256))
      (by intro d; match d with | ⟨0, _⟩ => rfl | ⟨1, _⟩ => exact hh | ⟨2, _⟩ => exact hc | ⟨3, _⟩ => exact (Nat.zero_add _).symm)]
  · refine Finset.sum_congr rfl fun d _ => ?_
    rw [readAt_unit_apply arg6.view X6 i6 (ix2 r d) (ix2 (⟨512 * j.val + r.val, by omega⟩ : Fin 8192) d)
      (by intro d; match d with | ⟨0, _⟩ => rfl | ⟨1, _⟩ => exact (Nat.zero_add _).symm),
      readAt_unit_apply arg15.view X15 i9 (ix4 0 0 b (⟨128 + d.val, by omega⟩ : Fin 256)) (ix4 sl (headOf y) (colOf y) (⟨128 + d.val, by omega⟩ : Fin 256))
      (by intro d; match d with | ⟨0, _⟩ => rfl | ⟨1, _⟩ => exact hh | ⟨2, _⟩ => exact hc | ⟨3, _⟩ => exact (Nat.zero_add _).symm)]

/-- A stored score chunk is `scoreG` at the columns it is stored in. -/
theorem score_piece (o : ℕ) (j : Fin 16) (sl : Fin 2) (h : ℕ) (ho : o / 256 * 256 = o ∧ o / 1024 = h) {off5 : Fin 3 → ℕ} {off6 : Fin 2 → ℕ}
    {off9 : Fin 4 → ℕ} (e5 : off5 = ![0, 512 * j.val, 128 * h]) (e6 : off6 = ![512 * j.val, 0]) (e9 : off9 = ![sl.val, h, o % 1024, 0]) (i5 : ∀ a, off5 a + ![1, 512, 128] a ≤ S1x8192x512.size a) (i6 : ∀ a, off6 a + ![512, 128] a ≤ S8192x128.size a) (i9 : ∀ a, off9 a + ![1, 1, 256, 256] a ≤ S2x4x1024x256.size a)
    (i16 : ∀ a, ![0, o] a + ![512, 256] a ≤ S512x4096.size a) (sc : S512x256.ShapeCasts S512x256)
    (x : (Rect.unit (s := S512x4096) ![0, o] ![512, 256] i16).shape.Idx) :
    shapeCast S512x256 (scoreChunk (View.readAt (Elt Ideal) arg4.view (Rect.unit (s := S1x8192x512) off5 ![1, 512, 128] i5).toLoadRect X4)
      (View.readAt (Elt Ideal) arg6.view (Rect.unit (s := S8192x128) off6 ![512, 128] i6).toLoadRect X6)
      (View.readAt (Elt Ideal) arg15.view (Rect.unit (s := S2x4x1024x256) off9 ![1, 1, 256, 256] i9).toLoadRect X15)) sc x
    = (fun z : S512x4096.Idx => scoreG (arg4.view.read (Elt Ideal) X4) (arg6.view.read (Elt Ideal) X6) (arg15.view.read (Elt Ideal) X15) sl j (z 0) (z 1))
        ((Rect.unit (s := S512x4096) ![0, o] ![512, 256] i16).emb x) := by
  obtain ⟨r, b, rfl⟩ : ∃ (r : Fin 512) (b : Fin 256), x = ix2 r b := ⟨x 0, x 1, eq_ix2 x⟩
  have ho4 : o + 256 ≤ 4096 := i16 1
  have hy : o + b.val < 4096 := by omega
  have he : (Rect.unit (s := S512x4096) ![0, o] ![512, 256] i16).emb (ix2 r b) = ix2 r (⟨o + b.val, hy⟩ : Fin 4096) := by
    funext d; apply Fin.ext
    match d with
    | ⟨0, _⟩ => show 0 + 1 * r.val = r.val; omega
    | ⟨1, _⟩ => show o + 1 * b.val = o + b.val; omega
  rw [he, shapeCast_id]
  exact score_loads X4 X6 X15 o j sl h ⟨ho.1, ho.2, ho4⟩ e5 e6 e9 i5 i6 i9 r b (⟨o + b.val, hy⟩ : Fin 4096) rfl

/-- A stored chunk of column maxima is the greatest `scoreG` of each column. -/
theorem max_piece (o : ℕ) (j : Fin 16) (sl : Fin 2) (h : ℕ) (ho : o / 256 * 256 = o ∧ o / 1024 = h) {off5 : Fin 3 → ℕ} {off6 : Fin 2 → ℕ}
    {off9 : Fin 4 → ℕ} (e5 : off5 = ![0, 512 * j.val, 128 * h]) (e6 : off6 = ![512 * j.val, 0]) (e9 : off9 = ![sl.val, h, o % 1024, 0]) (i5 : ∀ a, off5 a + ![1, 512, 128] a ≤ S1x8192x512.size a) (i6 : ∀ a, off6 a + ![512, 128] a ≤ S8192x128.size a) (i9 : ∀ a, off9 a + ![1, 1, 256, 256] a ≤ S2x4x1024x256.size a)
    (i17 : ∀ a, ![0, o] a + ![1, 256] a ≤ S1x4096.size a)
    (x : (Rect.unit (s := S1x4096) ![0, o] ![1, 256] i17).shape.Idx) :
    maxChunk (View.readAt (Elt Ideal) arg4.view (Rect.unit (s := S1x8192x512) off5 ![1, 512, 128] i5).toLoadRect X4)
      (View.readAt (Elt Ideal) arg6.view (Rect.unit (s := S8192x128) off6 ![512, 128] i6).toLoadRect X6)
      (View.readAt (Elt Ideal) arg15.view (Rect.unit (s := S2x4x1024x256) off9 ![1, 1, 256, 256] i9).toLoadRect X15) x
    = (fun z : S1x4096.Idx => Finset.fold max ⊥ (fun r : Fin 512 => scoreG (arg4.view.read (Elt Ideal) X4) (arg6.view.read (Elt Ideal) X6)
          (arg15.view.read (Elt Ideal) X15) sl j r (z 1)) Finset.univ)
        ((Rect.unit (s := S1x4096) ![0, o] ![1, 256] i17).emb x) := by
  obtain ⟨r, b, rfl⟩ : ∃ (r : Fin 1) (b : Fin 256), x = ix2 r b := ⟨x 0, x 1, eq_ix2 x⟩
  obtain rfl : r = 0 := Subsingleton.elim _ _
  have ho4 : o + 256 ≤ 4096 := i17 1
  have hy : o + b.val < 4096 := by omega
  have he : (Rect.unit (s := S1x4096) ![0, o] ![1, 256] i17).emb (ix2 0 b) = ix2 0 (⟨o + b.val, hy⟩ : Fin 4096) := by
    funext d; apply Fin.ext
    match d with
    | ⟨0, _⟩ => rfl
    | ⟨1, _⟩ => show o + 1 * b.val = o + b.val; omega
  rw [he, maxChunk_apply]
  refine congrArg (fun g => Finset.fold max ⊥ g Finset.univ) (funext fun r => ?_)
  exact score_loads X4 X6 X15 o j sl h ⟨ho.1, ho.2, ho4⟩ e5 e6 e9 i5 i6 i9 r b (⟨o + b.val, hy⟩ : Fin 4096) rfl

/-- The stored running maximum, at its columns. -/
theorem run_piece (i17 i18 : ∀ a, ![0, 0] a + ![1, 4096] a ≤ S1x4096.size a) (sc : S1x4096.ShapeCasts S1x4096)
    (x : (Rect.unit (s := S1x4096) ![0, 0] ![1, 4096] i18).shape.Idx) :
    runMax (View.readAt (Elt Ideal) arg18.view (Rect.unit (s := S1x4096) ![0, 0] ![1, 4096] i18).toLoadRect f18)
      (View.readAt (Elt Ideal) arg17.view (Rect.unit (s := S1x4096) ![0, 0] ![1, 4096] i17).toLoadRect f17) sc x
    = (fun z : S1x4096.Idx => max (arg18.view.read (Elt Ideal) f18 z) (arg17.view.read (Elt Ideal) f17 z))
        ((Rect.unit (s := S1x4096) ![0, 0] ![1, 4096] i18).emb x) := by
  have he : (Rect.unit (s := S1x4096) ![0, 0] ![1, 4096] i18).emb x = x := by
    funext d; apply Fin.ext
    match d with
    | ⟨0, _⟩ => show 0 + 1 * (x ⟨0, _⟩).val = (x ⟨0, _⟩).val; omega
    | ⟨1, _⟩ => show 0 + 1 * (x ⟨1, _⟩).val = (x ⟨1, _⟩).val; omega
  rw [he]
  unfold runMax
  rw [shapeCast_id]
  exact congrArg₂ max (readAt_unit_apply arg18.view f18 i18 x x (by intro d; match d with | ⟨0, _⟩ => exact (Nat.zero_add _).symm | ⟨1, _⟩ => exact (Nat.zero_add _).symm))
    (readAt_unit_apply arg17.view f17 i17 x x (by intro d; match d with | ⟨0, _⟩ => exact (Nat.zero_add _).symm | ⟨1, _⟩ => exact (Nat.zero_add _).symm))

end Pieces

end Cert.KernelIdeal.Hand

end
-- ==== Proof.KernelIdeal.Weights.lean ====
module

public import proofs.«01_k».proof.Proof.Gen.KernelIdeal.Frame
public import proofs.«01_k».proof.Proof.Gen.KernelIdeal.Skeleton
public import proofs.«01_k».proof.Proof.KernelIdeal.Chunk

@[expose] public section

/-! # The staged queries -/

set_option maxRecDepth 65536

noncomputable section

namespace Cert.KernelIdeal.Hand

open Cert.KernelIdeal Cert.KernelIdeal.Gen
open Idealize.ShloMosaic Idealize.ShloMosaic.TcCoe

variable (v0 v1 : IVec S512x128 32) (msk : FVec Ideal S512x128 .bf16) (src : FVec Ideal S1x512x128 .f32)

theorem pay256_eq : k0_pay256 (F := Ideal) v0 msk (k0_pay253 src) k0_pay254 k0_pay255 = k0_pay257 v0 msk src := rfl
theorem pay261_eq : k0_pay261 (F := Ideal) v0 msk (k0_pay258 src) k0_pay259 k0_pay260 = k0_pay257 v0 msk src := rfl
theorem pay252_eq (n : BitVec 32) : k0_pay252 (F := Ideal) n v0 v1 src = k0_pay257 v0 (k0_pay251 n v0 v1) src := rfl
theorem pay3_eq (n : BitVec 32) : k0_pay3 (F := Ideal) n v0 v1 src = k0_pay257 v0 (k0_pay2 n v0 v1) src := rfl
theorem pay7_eq (n : BitVec 32) : k0_pay7 (F := Ideal) v0 (k0_pay2 n v0 v1) (k0_pay4 src) k0_pay5 (k0_pay6 n v0 v1 src) = k0_pay257 v0 (k0_pay2 n v0 v1) src := rfl
theorem pay8_eq : k0_pay8 (F := Ideal) v0 msk src = k0_pay257 v0 msk src := rfl
theorem pay12_eq : k0_pay12 (F := Ideal) v0 msk (k0_pay9 src) k0_pay10 (k0_pay11 v0 msk src) = k0_pay257 v0 msk src := rfl

/-- The first coordinates and the second ones, as the body makes them. -/
abbrev lanes : IVec S512x128 32 := iota .tc S512x128 32 [1] iota_S512x128_d1_w32
abbrev rows : IVec S512x128 32 := iota .tc S512x128 32 [0] iota_S512x128_d0_w32

theorem scale_eq : (Named.named (F := Ideal) κ "scale" 0x3E38AA3B#32 : Ideal .f32) = (((8 * Real.log 2)⁻¹ : ℝ) : EReal) :=
  IdealRules.named_const.ideal_named_scalar _ _ _ _ rfl
theorem mask_eq : (Named.named (F := Ideal) κ "mask" 0xF149F2CA#32 : Ideal .f32) = (⊥ : EReal) :=
  IdealRules.named_const.ideal_named_scalar _ _ _ _ rfl

/-- The mask row of query `r` of tile `T`: the later chunks' lanes at minus infinity. -/
def maskG (T : ℕ) (r : Fin 512) (x : Fin 128) : EReal := if (T * 512 + r.val) / 64 < x.val then ⊥ else 0

theorem toInt_small (a : ℕ) (h : a < 2 ^ 31) : (BitVec.ofNat 32 a).toInt = a := by
  rw [BitVec.toInt_eq_toNat_of_lt (by rw [BitVec.toNat_ofNat]; omega), BitVec.toNat_ofNat]
  exact_mod_cast Nat.mod_eq_of_lt (by omega)

theorem shift_small (a : ℕ) (h : a < 2 ^ 31) : IntOp.shrsi ArithUnit.vector (BitVec.ofNat 32 a) 6#32 = BitVec.ofNat 32 (a / 64) := by
  have hm : (BitVec.ofNat 32 a).msb = false := by
    rw [BitVec.msb_eq_decide]
    simp only [BitVec.toNat_ofNat, decide_eq_false_iff_not]
    omega
  show (if (6#32).toNat < 32 then (BitVec.ofNat 32 a).sshiftRight (6#32).toNat else _) = _
  rw [if_pos (by decide), BitVec.sshiftRight_eq_of_msb_false hm]
  apply BitVec.eq_of_toNat_eq
  rw [BitVec.toNat_ushiftRight, BitVec.toNat_ofNat a, show (6#32).toNat = 6 from rfl, Nat.shiftRight_eq_div_pow, BitVec.toNat_ofNat]
  omega

theorem lane_gt (n : ℕ) (hn : n < 17) (r : Fin 512) (x : Fin 128) :
    IntOp.cmpi CmpIPredicate.sgt (BitVec.ofNat 32 x.val) (IntOp.shrsi ArithUnit.vector (IntOp.addi (Scalar.muli (BitVec.ofNat 32 n) 512#32) (BitVec.ofNat 32 r.val)) 6#32)
      = if (n * 512 + r.val) / 64 < x.val then 1#1 else 0#1 := by
  have h : IntOp.addi (Scalar.muli (BitVec.ofNat 32 n) 512#32) (BitVec.ofNat 32 r.val) = BitVec.ofNat 32 (n * 512 + r.val) := by
    show BitVec.ofNat 32 n * BitVec.ofNat 32 512 + BitVec.ofNat 32 r.val = _
    rw [BitVec.ofNat_add, BitVec.ofNat_mul]
  rw [h, shift_small _ (by omega)]
  show BitVec.ofBool (BitVec.slt _ _) = _
  rw [BitVec.slt, toInt_small _ (by omega), toInt_small _ (by omega)]
  by_cases hh : (n * 512 + r.val) / 64 < x.val
  · rw [if_pos hh, decide_eq_true (by exact_mod_cast hh)]; rfl
  · rw [if_neg hh, decide_eq_false (by exact_mod_cast hh)]; rfl

theorem lane_lt (x : ℕ) (hx : x < 128) : IntOp.cmpi CmpIPredicate.slt (BitVec.ofNat 32 x) 64#32 = if x < 64 then 1#1 else 0#1 := by
  show BitVec.ofBool (BitVec.slt _ (BitVec.ofNat 32 64)) = _
  rw [BitVec.slt, toInt_small _ (by omega), toInt_small _ (by omega)]
  by_cases hh : x < 64
  · rw [if_pos hh, decide_eq_true (by exact_mod_cast hh)]; rfl
  · rw [if_neg hh, decide_eq_false (by exact_mod_cast hh)]; rfl

theorem lane_ge (x : ℕ) (hx : x < 128) : IntOp.cmpi CmpIPredicate.sge (BitVec.ofNat 32 x) 64#32 = if x < 64 then 0#1 else 1#1 := by
  show BitVec.ofBool (BitVec.sle (BitVec.ofNat 32 64) _) = _
  rw [BitVec.sle, toInt_small _ (by omega), toInt_small _ (by omega)]
  by_cases hh : x < 64
  · rw [if_pos hh, decide_eq_false (by push_cast; omega)]; rfl
  · rw [if_neg hh, decide_eq_true (by push_cast; omega)]; rfl

theorem mask_pay (n : ℕ) (hn : n < 16) (r : Fin 512) (x : Fin 128) :
    k0_pay251 (F := Ideal) (BitVec.ofNat 32 n) lanes rows (ix2 r x) = maskG (n + 1) r x := by
  pointwise [k0_pay251]
  rw [mask_eq, show Scalar.addi (BitVec.ofNat 32 n) 1#32 = BitVec.ofNat 32 (n + 1) from (BitVec.ofNat_add n 1).symm,
    lane_gt (n + 1) (by omega) r x]
  unfold maskG
  split <;> rfl

theorem mask_pay0 (n : ℕ) (hn : n < 16) (r : Fin 512) (x : Fin 128) :
    k0_pay2 (F := Ideal) (BitVec.ofNat 32 n) lanes rows (ix2 r x) = maskG n r x := by
  pointwise [k0_pay2]
  rw [mask_eq, lane_gt n (by omega) r x]
  unfold maskG
  split <;> rfl

/-- The staged queries of tile `T` from the tile's rows `q`: the first half of the columns keeps the head's first 64 features, the second half its last 64. -/
def wG (q : S1x512x512.Idx → EReal) (T : ℕ) (h : Fin 4) (cl : Fin 1024) (x : Fin 256) : EReal :=
  if hx : x.val < 128 then
    if x.val / 64 = cl.val / 512 then q (ix3 0 (⟨cl.val % 512, by omega⟩ : Fin 512) (⟨128 * h.val + x.val, by omega⟩ : Fin 512)) * (((8 * Real.log 2)⁻¹ : ℝ) : EReal) else 0
  else maskG T ⟨cl.val % 512, by omega⟩ ⟨x.val - 128, by omega⟩

theorem stage_pay (q : S1x512x512.Idx → EReal) (T : ℕ) (h : Fin 4) (hm : ∀ r x, msk (ix2 r x) = maskG T r x)
    (hs : ∀ (r : Fin 512) (x : Fin 128), src (ix3 0 r x) = q (ix3 0 r (⟨128 * h.val + x.val, by omega⟩ : Fin 512))) (cl : Fin 1024) (x : Fin 256) :
    k0_pay257 (F := Ideal) lanes msk src (ix4 0 0 cl x) = wG q T h cl x := by
  pointwise [k0_pay257]
  rw [scale_eq]
  unfold wG
  by_cases hx : x.val < 128
  · have hr : ∀ (r : Fin 512) (z : Fin 128), r.val = cl.val % 512 → z.val = x.val → src (ix3 0 r z)
        = q (ix3 0 (⟨cl.val % 512, by omega⟩ : Fin 512) (⟨128 * h.val + x.val, by omega⟩ : Fin 512)) := by
      intro r z hr hz
      rw [hs]
      have e1 : r = ⟨cl.val % 512, by omega⟩ := Fin.ext hr
      have e2 : z = ⟨x.val, hx⟩ := Fin.ext hz
      rw [e1, e2]
    rw [dif_pos hx]
    by_cases hc : cl.val < 512
    · rw [dif_pos hc, dif_pos hx, lane_lt _ hx, hr _ _ (by show cl.val = _; omega) rfl]
      by_cases h6 : x.val < 64
      · rw [if_pos h6, if_pos (show x.val / 64 = cl.val / 512 by omega)]; rfl
      · rw [if_neg h6, if_neg (show ¬ x.val / 64 = cl.val / 512 by omega)]; rfl
    · rw [dif_neg hc, dif_pos hx, lane_ge _ hx, hr _ _ (by show cl.val - 512 = _; omega) rfl]
      by_cases h6 : x.val < 64
      · rw [if_pos h6, if_neg (show ¬ x.val / 64 = cl.val / 512 by omega)]; rfl
      · rw [if_neg h6, if_pos (show x.val / 64 = cl.val / 512 by omega)]; rfl
  · have hr : ∀ (r : Fin 512), r.val = cl.val % 512 → msk (ix2 r ⟨x.val - 128, by omega⟩) = maskG T ⟨cl.val % 512, by omega⟩ ⟨x.val - 128, by omega⟩ := by
      intro r hr
      rw [hm]
      have e1 : r = ⟨cl.val % 512, by omega⟩ := Fin.ext hr
      rw [e1]
    rw [dif_neg hx]
    by_cases hc : cl.val < 512
    · rw [dif_pos hc, dif_neg hx, hr _ (by show cl.val = _; omega)]
    · rw [dif_neg hc, dif_neg hx, hr _ (by show cl.val - 512 = _; omega)]

end Cert.KernelIdeal.Hand

end
-- ==== Proof.KernelIdeal.LoopMath.lean ====
module

public import proofs.«01_k».proof.Proof.KernelIdeal.Chunk

@[expose] public section

/-! # The running softmax

The key-block loop's recurrence over extended reals, solved: with the scores real or minus infinity, the accumulator after
`n` blocks is the sum of the weighted value rows, scaled by the power of two of the running maximum. -/

noncomputable section

namespace Cert.KernelIdeal.Hand

open Cert.KernelIdeal Cert.KernelIdeal.Gen
open Idealize.ShloMosaic Idealize.ShloMosaic.TcCoe

/-- The score `s` has weight `e`: a masked score weighs nothing, a real one its power of two. -/
def Weighs (s : EReal) (e : ℝ) : Prop := (s = ⊥ ∧ e = 0) ∨ ∃ z : ℝ, s = (z : EReal) ∧ e = (2 : ℝ) ^ z

/-- A weight taken against a real maximum. -/
theorem Weighs.exp2_sub {s : EReal} {e : ℝ} (h : Weighs s e) (μ : ℝ) : Ideal.exp2 (s - (μ : EReal)) = (((2 : ℝ) ^ (-μ) * e : ℝ) : EReal) := by
  rcases h with ⟨rfl, rfl⟩ | ⟨z, rfl, rfl⟩
  · rw [show (⊥ : EReal) - (μ : EReal) = ⊥ from rfl, Ideal.exp2_bot, mul_zero, EReal.coe_zero]
  · rw [← EReal.coe_sub, Ideal.exp2_coe, Real.rpow_eq_pow, sub_eq_add_neg, add_comm, Real.rpow_add two_pos]

/-- A sum over 512 places by its two halves. -/
theorem sum_halves {M : Type} [AddCommMonoid M] (g : Fin 512 → M) :
    ∑ r, g r = ∑ x : Fin 256, g ⟨x.val, by omega⟩ + ∑ x : Fin 256, g ⟨256 + x.val, by omega⟩ :=
  Fin.sum_univ_add (a := 256) (b := 256) g

theorem coe_sum {ι : Type} (s : Finset ι) (g : ι → ℝ) : ((∑ x ∈ s, g x : ℝ) : EReal) = ∑ x ∈ s, (g x : EReal) := by
  classical
  induction s using Finset.induction_on with
  | empty => rw [Finset.sum_empty, Finset.sum_empty, EReal.coe_zero]
  | insert a t h ih => rw [Finset.sum_insert h, Finset.sum_insert h, EReal.coe_add, ih]

/-- One block: the accumulator is rescaled to the new maximum and takes in the block's weighted value rows. -/
theorem accG_real (V : S1x4x16x144x512.Idx → EReal) (v : Fin 4 → Fin 16 → Fin 144 → Fin 512 → ℝ) (hV : ∀ h j a r, V (ix5 0 h j a r) = (v h j a r : EReal))
    (k : Fin 16) (m tm : S1x4096.Idx → EReal) (s : S512x4096.Idx → EReal) (ac : S144x4096.Idx → EReal) (y : Fin 4096) (e : Fin 512 → ℝ)
    (he : ∀ r, Weighs (s (ix2 r y)) (e r)) (μ' : ℝ) (hμ : max (m (ix2 0 y)) (tm (ix2 0 y)) = (μ' : EReal)) (a : Fin 144) (A : ℝ)
    (hm : (m (ix2 0 y) = ⊥ ∧ A = 0) ∨ ∃ μ : ℝ, m (ix2 0 y) = (μ : EReal) ∧ ac (ix2 a y) = (((2 : ℝ) ^ (-μ) * A : ℝ) : EReal)) :
    accG V k m tm s ac a y = (((2 : ℝ) ^ (-μ') * (A + ∑ r, e r * v (headOf y) k a r) : ℝ) : EReal) := by
  have h0 : Ideal.exp2 (m (ix2 0 y) - (μ' : EReal)) * ac (ix2 a y) = (((2 : ℝ) ^ (-μ') * A : ℝ) : EReal) := by
    rcases hm with ⟨h, rfl⟩ | ⟨μ, h, h'⟩
    · rw [h, show (⊥ : EReal) - (μ' : EReal) = ⊥ from rfl, Ideal.exp2_bot, zero_mul, mul_zero, EReal.coe_zero]
    · rw [h, h', Weighs.exp2_sub (Or.inr ⟨μ, rfl, rfl⟩), ← EReal.coe_mul]
      congr 1
      have h1 : (2 : ℝ) ^ (-μ) * 2 ^ μ = 1 := by rw [← Real.rpow_add two_pos, neg_add_cancel, Real.rpow_zero]
      linear_combination ((2 : ℝ) ^ (-μ') * A) * h1
  unfold accG
  rw [hμ, h0]
  simp only [hV, (he _).exp2_sub, ← EReal.coe_mul, ← coe_sum, ← EReal.coe_add]
  congr 1
  rw [mul_add, Finset.mul_sum, sum_halves, add_assoc]
  congr 1
  congr 1 <;> exact Finset.sum_congr rfl fun x _ => by ring

/-- The greatest of finitely many scores, each real or minus infinity and one of them real, is real. -/
theorem fold_max_real {ι : Type} [Fintype ι] (g : ι → EReal) (h : ∀ r, g r = ⊥ ∨ ∃ z : ℝ, g r = (z : EReal)) (h1 : ∃ r, g r ≠ ⊥) :
    ∃ z : ℝ, Finset.fold max ⊥ g Finset.univ = (z : EReal) := by
  have e : Finset.fold max ⊥ g Finset.univ = Finset.univ.sup g := rfl
  rw [e]
  obtain ⟨r, hr⟩ := h1
  have hne : (Finset.univ : Finset ι).Nonempty := ⟨r, Finset.mem_univ r⟩
  obtain ⟨r', _, h'⟩ := Finset.exists_mem_eq_sup _ hne g
  rw [h']
  rcases h r' with h0 | h0
  · exact absurd (le_bot_iff.mp ((Finset.le_sup (f := g) (Finset.mem_univ r)).trans (by rw [h', h0]))) hr
  · exact h0

/-- The greatest of finitely many scores that are real or minus infinity is real or minus infinity. -/
theorem fold_max_or {ι : Type} [Fintype ι] (g : ι → EReal) (h : ∀ r, g r = ⊥ ∨ ∃ z : ℝ, g r = (z : EReal)) :
    Finset.fold max ⊥ g Finset.univ = ⊥ ∨ ∃ z : ℝ, Finset.fold max ⊥ g Finset.univ = (z : EReal) := by
  by_cases h1 : ∃ r, g r ≠ ⊥
  · exact Or.inr (fold_max_real g h h1)
  · refine Or.inl ?_
    simp only [not_exists, not_not] at h1
    have e : Finset.fold max ⊥ g Finset.univ = Finset.univ.sup g := rfl
    rw [e, Finset.sup_eq_bot_iff]
    exact fun r _ => h1 r

theorem Weighs.cases {s : EReal} {e : ℝ} (h : Weighs s e) : s = ⊥ ∨ ∃ z : ℝ, s = (z : EReal) := by
  rcases h with ⟨h, _⟩ | ⟨z, h, _⟩
  · exact Or.inl h
  · exact Or.inr ⟨z, h⟩

/-- THE LOOP SOLVED. The state is given block by block (`m`, `tm`, `s`, `ac` before trip `k`); before trip `k < n` the scores are block `k`'s and the
maximum theirs. After `k` blocks the running maximum is real and the accumulator the weighted sum of the value rows so far. -/
theorem loop_solved (n : ℕ) (hn16 : n ≤ 16) (S : Fin 16 → Fin 512 → Fin 4096 → EReal) (e : Fin 16 → Fin 512 → Fin 4096 → ℝ)
    (hS : ∀ j r y, Weighs (S j r y) (e j r y)) (h0 : ∀ y, ∃ r, S 0 r y ≠ ⊥)
    (V : S1x4x16x144x512.Idx → EReal) (v : Fin 4 → Fin 16 → Fin 144 → Fin 512 → ℝ) (hV : ∀ h j a r, V (ix5 0 h j a r) = (v h j a r : EReal))
    (m tm : ℕ → S1x4096.Idx → EReal) (s : ℕ → S512x4096.Idx → EReal) (ac : ℕ → S144x4096.Idx → EReal)
    (hm0 : ∀ y, m 0 (ix2 0 y) = ⊥)
    (hs : ∀ (k : ℕ) (hk : k < n) r y, s k (ix2 r y) = S ⟨k, by omega⟩ r y)
    (htm : ∀ (k : ℕ) (hk : k < n) y, tm k (ix2 0 y) = Finset.fold max ⊥ (fun r => S ⟨k, by omega⟩ r y) Finset.univ)
    (hm : ∀ (k : ℕ) (hk : k < n) y, m (k + 1) (ix2 0 y) = max (m k (ix2 0 y)) (tm k (ix2 0 y)))
    (hac : ∀ (k : ℕ) (hk : k < n) a y, ac (k + 1) (ix2 a y) = accG V ⟨k, by omega⟩ (m k) (tm k) (s k) (ac k) a y) (y : Fin 4096) :
    ∀ k, k ≤ n → (k = 0 ∧ m k (ix2 0 y) = ⊥) ∨ ∃ μ : ℝ, m k (ix2 0 y) = (μ : EReal) ∧
      ∀ a, ac k (ix2 a y) = (((2 : ℝ) ^ (-μ) * ∑ j : Fin 16, if j.val < k then ∑ r, e j r y * v (headOf y) j a r else 0 : ℝ) : EReal)
  | 0, _ => Or.inl ⟨rfl, hm0 y⟩
  | k + 1, hk => by
    have IH := loop_solved n hn16 S e hS h0 V v hV m tm s ac hm0 hs htm hm hac y k (by omega)
    have hk' : k < n := by omega
    have hμ' : ∃ μ' : ℝ, max (m k (ix2 0 y)) (tm k (ix2 0 y)) = (μ' : EReal) := by
      rw [htm k hk' y]
      rcases IH with ⟨rfl, h⟩ | ⟨μ, h, _⟩
      · rw [h, max_eq_right bot_le]
        exact fold_max_real _ (fun r => (hS _ r y).cases) (h0 y)
      · rw [h]
        rcases fold_max_or (fun r => S ⟨k, by omega⟩ r y) (fun r => (hS _ r y).cases) with h' | ⟨z, h'⟩
        · rw [h']; exact ⟨μ, max_eq_left bot_le⟩
        · rw [h']; exact ⟨max μ z, (EReal.coe_strictMono.monotone.map_max (a := μ) (b := z)).symm⟩
    obtain ⟨μ', hμ⟩ := hμ'
    refine Or.inr ⟨μ', (hm k hk' y).trans hμ, fun a => ?_⟩
    rw [hac k hk' a y, accG_real V v hV ⟨k, by omega⟩ (m k) (tm k) (s k) (ac k) y (fun r => e ⟨k, by omega⟩ r y)
      (fun r => by rw [hs k hk' r y]; exact hS _ r y) μ' hμ a (∑ j : Fin 16, if j.val < k then ∑ r, e j r y * v (headOf y) j a r else 0) ?_]
    · congr 2
      have hk16 : k < 16 := by omega
      have e1 : ∀ j : Fin 16, (if j.val < k + 1 then ∑ r, e j r y * v (headOf y) j a r else 0)
          = (if j.val < k then ∑ r, e j r y * v (headOf y) j a r else 0) + (if j = ⟨k, hk16⟩ then ∑ r, e j r y * v (headOf y) j a r else 0) := by
        intro j
        rcases Nat.lt_trichotomy j.val k with h | h | h
        · rw [if_pos h, if_pos (by omega), if_neg (fun hh => by rw [hh] at h; exact absurd h (lt_irrefl _)), add_zero]
        · rw [if_pos (show j.val < k + 1 by omega), if_neg (show ¬j.val < k by omega), if_pos (Fin.ext h), zero_add]
        · rw [if_neg (by omega), if_neg (by omega), if_neg (fun hh => by rw [hh] at h; exact absurd h (lt_irrefl _)), add_zero]
      rw [Finset.sum_congr rfl fun j _ => e1 j, Finset.sum_add_distrib, Finset.sum_ite_eq' Finset.univ, if_pos (Finset.mem_univ _)]
    · rcases IH with ⟨rfl, h⟩ | ⟨μ, h, h'⟩
      · exact Or.inl ⟨h, Finset.sum_eq_zero fun j _ => if_neg (Nat.not_lt_zero _)⟩
      · exact Or.inr ⟨μ, h, h' a⟩

end Cert.KernelIdeal.Hand

end
-- ==== Proof.KernelIdeal.Epilogue.lean ====
module

public import proofs.«01_k».proof.Proof.Gen.KernelIdeal.Frame
public import proofs.«01_k».proof.Proof.Gen.KernelIdeal.Skeleton
public import proofs.«01_k».proof.Proof.KernelIdeal.Chunk

@[expose] public section

/-! # The end of the body: the heads' outputs and the projection -/

set_option maxRecDepth 65536

noncomputable section

namespace Cert.KernelIdeal.Hand

open Cert.KernelIdeal Cert.KernelIdeal.Gen
open Idealize.ShloMosaic Idealize.ShloMosaic.TcCoe

variable (A : FVec Ideal S144x4096 .f32) (lam : FVec Ideal S4x64 .f32) (sg : FVec Ideal S1x128 .f32)
  (g0 g1 g2 g3 : FVec Ideal S1x512x128 .bf16) (wt wb : FVec Ideal S512x1024 .bf16)
  (x : FVec Ideal S1x512x1024 .f32) (mix : FVec Ideal S1x512x512 .bf16)

/-! ## The heads -/

/-- The differential weight from the four rows of parameters. -/
def lamG (lam : S4x64.Idx → EReal) : EReal :=
  Ideal.exp (∑ x : Fin 64, lam (ix2 0 x) * lam (ix2 1 x)) - Ideal.exp (∑ x : Fin 64, lam (ix2 2 x) * lam (ix2 3 x)) + Ideal.ofBits .f32 0x3E4CCCCD#32

/-- The differential attention of a query, feature `f`: the normalised accumulator of its first column less `L` times that of its second. -/
def otG (A : S144x4096.Idx → EReal) (L : EReal) (p q : Fin 4096) (f : Fin 128) : EReal :=
  A (ix2 (⟨f.val, by omega⟩ : Fin 144) p) * Ideal.div 1 (A (ix2 (128 : Fin 144) p))
    - L * (A (ix2 (⟨f.val, by omega⟩ : Fin 144) q) * Ideal.div 1 (A (ix2 (128 : Fin 144) q)))

/-- A head's output: the differential attention under a root-mean-square norm, scaled and gated. -/
def headG (A : S144x4096.Idx → EReal) (L : EReal) (sg : S1x128.Idx → EReal) (p q : Fin 4096) (f : Fin 128) (g : EReal) : EReal :=
  otG A L p q f
    * Ideal.rsqrt (Ideal.div (∑ x : Fin 128, otG A L p q x * otG A L p q x) (Ideal.ofBits .f32 0x43000000#32) + Ideal.ofBits .f32 0x358637BD#32)
    * (sg (ix2 0 f) * Ideal.ofBits .f32 0x3F4CCCCD#32) * g

theorem head0_apply (r : Fin 512) (f : Fin 128) (p q : Fin 4096) (hp : p.val = r.val) (hq : q.val = 512 + r.val) :
    k0_pay275 (F := Ideal) (k0_pay273 A lam) (k0_pay274 A lam) sg g0 (ix2 r f) = headG A (lamG lam) sg p q f (g0 (ix3 0 r f)) := by
  obtain ⟨p, hp'⟩ := p; obtain rfl : p = r.val := hp
  obtain ⟨q, hq'⟩ := q; obtain rfl : q = 512 + r.val := hq
  pointwise [k0_pay275, k0_pay273, k0_pay274]
  pointwise [k0_pay271, k0_pay272]
  rfl

theorem head1_apply (r : Fin 512) (f : Fin 128) (p q : Fin 4096) (hp : p.val = 1024 + r.val) (hq : q.val = 1536 + r.val) :
    k0_pay276 (F := Ideal) (k0_pay271 A) (k0_pay272 lam) sg g1 (ix2 r f) = headG A (lamG lam) sg p q f (g1 (ix3 0 r f)) := by
  obtain ⟨p, hp'⟩ := p; obtain rfl : p = 1024 + r.val := hp
  obtain ⟨q, hq'⟩ := q; obtain rfl : q = 1536 + r.val := hq
  pointwise [k0_pay276, k0_pay271, k0_pay272]
  rfl

theorem head2_apply (r : Fin 512) (f : Fin 128) (p q : Fin 4096) (hp : p.val = 2048 + r.val) (hq : q.val = 2560 + r.val) :
    k0_pay278 (F := Ideal) (k0_pay277 (k0_pay271 A) (k0_pay272 lam)) sg g2 (ix2 r f) = headG A (lamG lam) sg p q f (g2 (ix3 0 r f)) := by
  obtain ⟨p, hp'⟩ := p; obtain rfl : p = 2048 + r.val := hp
  obtain ⟨q, hq'⟩ := q; obtain rfl : q = 2560 + r.val := hq
  pointwise [k0_pay278, k0_pay277, k0_pay271, k0_pay272]
  rfl

theorem head3_apply (r : Fin 512) (f : Fin 128) (p q : Fin 4096) (hp : p.val = 3072 + r.val) (hq : q.val = 3584 + r.val) :
    k0_pay279 (F := Ideal) (k0_pay271 A) (k0_pay272 lam) sg (ix2 r f) * g3 (ix3 0 r f) = headG A (lamG lam) sg p q f (g3 (ix3 0 r f)) := by
  obtain ⟨p, hp'⟩ := p; obtain rfl : p = 3072 + r.val := hp
  obtain ⟨q, hq'⟩ := q; obtain rfl : q = 3584 + r.val := hq
  pointwise [k0_pay279, k0_pay271, k0_pay272]
  rfl

theorem first_apply (r : Fin 512) (c : Fin 1024) :
    k0_pay270 (F := Ideal) (k0_pay268 x) (k0_pay269 mix) wb (ix3 0 r c) = x (ix3 0 r c) + ∑ d : Fin 512, mix (ix3 0 r d) * wb (ix2 d c) := by
  pointwise [k0_pay270, k0_pay268, k0_pay269]

/-- The column of query `r` of head `d / 128`, for the first (`s = 0`) or the second (`s = 512`) of its two attentions. -/
def colAt (s : ℕ) (hs : s ≤ 512) (r d : Fin 512) : Fin 4096 := ⟨1024 * (d.val / 128) + s + r.val, by omega⟩

/-- The block a step writes, from what it reads. -/
def outG (A : S144x4096.Idx → EReal) (lam : S4x64.Idx → EReal) (sg : S1x128.Idx → EReal) (gd : S1x512x512.Idx → EReal) (wo : S1024x1024.Idx → EReal)
    (x : S1x512x1024.Idx → EReal) (mix : S1x512x512.Idx → EReal) (r : Fin 512) (c : Fin 1024) : EReal :=
  x (ix3 0 r c) + ∑ d : Fin 512, mix (ix3 0 r d) * wo (ix2 (⟨512 + d.val, by omega⟩ : Fin 1024) c)
    + ∑ d : Fin 512, headG A (lamG lam) sg (colAt 0 (by omega) r d) (colAt 512 (by omega) r d) (⟨d.val % 128, by omega⟩ : Fin 128) (gd (ix3 0 r d))
        * wo (ix2 (⟨d.val, by omega⟩ : Fin 1024) c)

theorem last_apply (gd : S1x512x512.Idx → EReal) (wo : S1024x1024.Idx → EReal)
    (e0 : ∀ (r : Fin 512) (f : Fin 128), g0 (ix3 0 r f) = gd (ix3 0 r (⟨f.val, by omega⟩ : Fin 512)))
    (e1 : ∀ (r : Fin 512) (f : Fin 128), g1 (ix3 0 r f) = gd (ix3 0 r (⟨128 + f.val, by omega⟩ : Fin 512)))
    (e2 : ∀ (r : Fin 512) (f : Fin 128), g2 (ix3 0 r f) = gd (ix3 0 r (⟨256 + f.val, by omega⟩ : Fin 512)))
    (e3 : ∀ (r : Fin 512) (f : Fin 128), g3 (ix3 0 r f) = gd (ix3 0 r (⟨384 + f.val, by omega⟩ : Fin 512)))
    (et : ∀ (d : Fin 512) (c : Fin 1024), wt (ix2 d c) = wo (ix2 (⟨d.val, by omega⟩ : Fin 1024) c))
    (eb : ∀ (d : Fin 512) (c : Fin 1024), wb (ix2 d c) = wo (ix2 (⟨512 + d.val, by omega⟩ : Fin 1024) c))
    (r : Fin 512) (c : Fin 1024) :
    k0_pay1 (F := Ideal) (k0_pay275 (k0_pay273 A lam) (k0_pay274 A lam) sg g0) (k0_pay276 (k0_pay271 A) (k0_pay272 lam) sg g1)
        (k0_pay278 (k0_pay277 (k0_pay271 A) (k0_pay272 lam)) sg g2) (k0_pay279 (k0_pay271 A) (k0_pay272 lam) sg) g3
        (k0_pay270 (F := Ideal) (k0_pay268 x) (k0_pay269 mix) wb) wt (ix3 0 r c)
      = outG A lam sg gd wo x mix r c := by
  pointwise [k0_pay1]
  rw [first_apply]
  unfold outG
  simp only [eb]
  refine congrArg _ (Finset.sum_congr rfl fun d _ => ?_)
  rw [et]
  refine congrArg (· * _) ?_
  split
  · rename_i h
    rw [head0_apply A lam sg g0 r _ (colAt 0 (by omega) r d) (colAt 512 (by omega) r d) (by show 1024 * (d.val / 128) + 0 + r.val = r.val; omega)
      (by show 1024 * (d.val / 128) + 512 + r.val = 512 + r.val; omega), e0]
    congr 1
    exact Fin.ext (by show d.val = d.val % 128; omega)
  split
  · rename_i h h1
    rw [head1_apply A lam sg g1 r _ (colAt 0 (by omega) r d) (colAt 512 (by omega) r d) (by show 1024 * (d.val / 128) + 0 + r.val = 1024 + r.val; omega)
      (by show 1024 * (d.val / 128) + 512 + r.val = 1536 + r.val; omega), e1]
    congr 1
    · exact Fin.ext (by show d.val - 128 = d.val % 128; omega)
    · exact congrArg (fun z => gd (ix3 0 r z)) (Fin.ext (by show 128 + (d.val - 128) = d.val; omega))
  split
  · rename_i h h1 h2
    rw [head2_apply A lam sg g2 r _ (colAt 0 (by omega) r d) (colAt 512 (by omega) r d) (by show 1024 * (d.val / 128) + 0 + r.val = 2048 + r.val; omega)
      (by show 1024 * (d.val / 128) + 512 + r.val = 2560 + r.val; omega), e2]
    congr 1
    · exact Fin.ext (by show d.val - 128 - 128 = d.val % 128; omega)
    · exact congrArg (fun z => gd (ix3 0 r z)) (Fin.ext (by show 256 + (d.val - 128 - 128) = d.val; omega))
  · rename_i h h1 h2
    rw [head3_apply A lam sg g3 r _ (colAt 0 (by omega) r d) (colAt 512 (by omega) r d) (by show 1024 * (d.val / 128) + 0 + r.val = 3072 + r.val; omega)
      (by show 1024 * (d.val / 128) + 512 + r.val = 3584 + r.val; omega), e3]
    congr 1
    · exact Fin.ext (by show d.val - 128 - 128 - 128 = d.val % 128; omega)
    · exact congrArg (fun z => gd (ix3 0 r z)) (Fin.ext (by show 384 + (d.val - 128 - 128 - 128) = d.val; omega))

end Cert.KernelIdeal.Hand

end
-- ==== Proof.KernelIdeal.Trip.lean ====
module

public import proofs.«01_k».proof.Proof.KernelIdeal.Chunk

@[expose] public section

/-! # One trip of the key-block loop

What a trip leaves in the score, maximum and accumulator scratch, as functions of what it finds there. -/

set_option maxRecDepth 65536

noncomputable section

namespace Cert.KernelIdeal.Hand

open Cert.KernelIdeal Cert.KernelIdeal.Gen
open Idealize.ShloMosaic Idealize.ShloMosaic.TcCoe Idealize.ShloMosaic.Tactic

/-- The block whose scores trip `k` stages: the next block of this tile, or block 0 of the next tile. -/
def nextBlk (i : grid0.Coords) (k : ℕ) (hk : k < (i 2).val + 1) : Fin 16 :=
  ⟨if k + 1 ≥ (i 2).val + 1 then 0 else k + 1, by have : (i 2).val < 16 := (i 2).isLt; split <;> omega⟩
/-- The slot of the staged queries those scores are computed from. -/
def nextSlot (i : grid0.Coords) (k : ℕ) : Fin 2 := ⟨if k + 1 ≥ (i 2).val + 1 then 1 - (i 2).val % 2 else (i 2).val % 2, by split <;> omega⟩

/-- The loop runs over the tile's own block and all before it. -/
theorem trips_eq : ∀ i : grid0.Coords, (k0_t1_loop i).trips = (i 2).val + 1 := by decide +kernel
/-- The remainder loop has no trips. -/
theorem trips2_eq : ∀ i : grid0.Coords, (k0_t2_loop i).trips = 0 := by decide +kernel

theorem off9_at : ∀ (i : grid0.Coords) (k : Fin (k0_t1_loop i).trips), k0_off9 i k = ![(nextSlot i k.val).val, 0, 0, 0] := by decide +kernel
theorem off10_at : ∀ (i : grid0.Coords) (k : Fin (k0_t1_loop i).trips), k0_off10 i k = ![(nextSlot i k.val).val, 0, 256, 0] := by decide +kernel
theorem off11_at : ∀ (i : grid0.Coords) (k : Fin (k0_t1_loop i).trips), k0_off11 i k = ![(nextSlot i k.val).val, 0, 512, 0] := by decide +kernel
theorem off12_at : ∀ (i : grid0.Coords) (k : Fin (k0_t1_loop i).trips), k0_off12 i k = ![(nextSlot i k.val).val, 0, 768, 0] := by decide +kernel
theorem off16_at : ∀ (i : grid0.Coords) (k : Fin (k0_t1_loop i).trips), k0_off16 i k = ![(nextSlot i k.val).val, 1, 0, 0] := by decide +kernel
theorem off17_at : ∀ (i : grid0.Coords) (k : Fin (k0_t1_loop i).trips), k0_off17 i k = ![(nextSlot i k.val).val, 1, 256, 0] := by decide +kernel
theorem off18_at : ∀ (i : grid0.Coords) (k : Fin (k0_t1_loop i).trips), k0_off18 i k = ![(nextSlot i k.val).val, 1, 512, 0] := by decide +kernel
theorem off19_at : ∀ (i : grid0.Coords) (k : Fin (k0_t1_loop i).trips), k0_off19 i k = ![(nextSlot i k.val).val, 1, 768, 0] := by decide +kernel
theorem off23_at : ∀ (i : grid0.Coords) (k : Fin (k0_t1_loop i).trips), k0_off23 i k = ![(nextSlot i k.val).val, 2, 0, 0] := by decide +kernel
theorem off24_at : ∀ (i : grid0.Coords) (k : Fin (k0_t1_loop i).trips), k0_off24 i k = ![(nextSlot i k.val).val, 2, 256, 0] := by decide +kernel
theorem off25_at : ∀ (i : grid0.Coords) (k : Fin (k0_t1_loop i).trips), k0_off25 i k = ![(nextSlot i k.val).val, 2, 512, 0] := by decide +kernel
theorem off26_at : ∀ (i : grid0.Coords) (k : Fin (k0_t1_loop i).trips), k0_off26 i k = ![(nextSlot i k.val).val, 2, 768, 0] := by decide +kernel
theorem off30_at : ∀ (i : grid0.Coords) (k : Fin (k0_t1_loop i).trips), k0_off30 i k = ![(nextSlot i k.val).val, 3, 0, 0] := by decide +kernel
theorem off31_at : ∀ (i : grid0.Coords) (k : Fin (k0_t1_loop i).trips), k0_off31 i k = ![(nextSlot i k.val).val, 3, 256, 0] := by decide +kernel
theorem off32_at : ∀ (i : grid0.Coords) (k : Fin (k0_t1_loop i).trips), k0_off32 i k = ![(nextSlot i k.val).val, 3, 512, 0] := by decide +kernel
theorem off33_at : ∀ (i : grid0.Coords) (k : Fin (k0_t1_loop i).trips), k0_off33 i k = ![(nextSlot i k.val).val, 3, 768, 0] := by decide +kernel

section

variable (𝒱 : Variants)
  (c : Dev nD)
  (bd : Option 𝒱.V)
  (i : grid0.Coords)
  (arg3 : Memref sig .tc .vmem S1x512x512 .f32)
  (harg3 : arg3.IsWhole)
  (arg4 : Memref sig .tc .vmem S1x8192x512 .bf16)
  (harg4 : arg4.IsWhole)
  (arg5 : Memref sig .tc .vmem S1x4x16x144x512 .bf16)
  (harg5 : arg5.IsWhole)
  (arg6 : Memref sig .tc .vmem S8192x128 .bf16)
  (harg6 : arg6.IsWhole)
  (arg7 : Memref sig .tc .vmem S1024x1024 .bf16)
  (harg7 : arg7.IsWhole)
  (arg8 : Memref sig .tc .vmem S1x512x512 .f32)
  (harg8 : arg8.IsWhole)
  (arg9 : Memref sig .tc .vmem S1x512x512 .bf16)
  (harg9 : arg9.IsWhole)
  (arg10 : Memref sig .tc .vmem S1x128 .f32)
  (harg10 : arg10.IsWhole)
  (arg11 : Memref sig .tc .vmem S4x64 .f32)
  (harg11 : arg11.IsWhole)
  (arg12 : Memref sig .tc .vmem S1x512x1024 .f32)
  (harg12 : arg12.IsWhole)
  (arg13 : Memref sig .tc .vmem S1x512x512 .bf16)
  (harg13 : arg13.IsWhole)
  (arg14 : Memref sig .tc .vmem S1x512x1024 .f32)
  (harg14 : arg14.IsWhole)
  (arg15 : Memref sig .tc .vmem S2x4x1024x256 .bf16)
  (harg15 : arg15.IsWhole)
  (arg16 : Memref sig .tc .vmem S512x4096 .f32)
  (harg16 : arg16.IsWhole)
  (arg17 : Memref sig .tc .vmem S1x4096 .f32)
  (harg17 : arg17.IsWhole)
  (arg18 : Memref sig .tc .vmem S1x4096 .f32)
  (harg18 : arg18.IsWhole)
  (arg19 : Memref sig .tc .vmem S144x4096 .f32)
  (harg19 : arg19.IsWhole)
  (arg0 : BitVec 32)
  (arg1 : BitVec 32)
  (arg2 : BitVec 32)
  (v0 : IVec S512x128 32)
  (v11 : BitVec 32)
  (v12 : BitVec 32)
  (v33 : BitVec 32)
  (v47 : FVec Ideal S512x128 .bf16)
  (v109 : FVec Ideal S512x128 .bf16)
  (v110 : FVec Ideal S512x128 .bf16)
  (v111 : IVec S512x128 32)
  (X_arg4 : BufTy.Contents (Elt Ideal) arg4.view.ty)
  (X_arg5 : BufTy.Contents (Elt Ideal) arg5.view.ty)
  (X_arg6 : BufTy.Contents (Elt Ideal) arg6.view.ty)
  (X_arg15 : BufTy.Contents (Elt Ideal) arg15.view.ty)
  (k : Fin (k0_t1_loop i).trips) (hk : k.val < (i 2).val + 1)
  (f16 : BufTy.Contents (Elt Ideal) arg16.view.ty) (f17 : BufTy.Contents (Elt Ideal) arg17.view.ty) (f18 : BufTy.Contents (Elt Ideal) arg18.view.ty)
  (f19 : BufTy.Contents (Elt Ideal) arg19.view.ty)

/-- The scores a trip stages for the block that follows. -/
theorem trip_scores (r : Fin 512) (y : Fin 4096) :
    arg16.view.read (Elt Ideal) (arg16.view.writes (Elt Ideal) f16 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 k f16 f17 f18 f19).1) (ix2 r y)
      = scoreG (arg4.view.read (Elt Ideal) X_arg4) (arg6.view.read (Elt Ideal) X_arg6) (arg15.view.read (Elt Ideal) X_arg15) (nextSlot i k.val) (nextBlk i k.val hk) r y := by
  unfold tripL_k0_t1 trip_k0_t1
  dsimp only
  sl_unfold_run_names
  dsimp only
  refine View.read_writes_apply_of_pieces (v := arg16.view) (f := f16) (fun z : S512x4096.Idx => scoreG (arg4.view.read (Elt Ideal) X_arg4) (arg6.view.read (Elt Ideal) X_arg6) (arg15.view.read (Elt Ideal) X_arg15) (nextSlot i k.val) (nextBlk i k.val hk) (z 0) (z 1)) _ ?_ (ix2 r y)
    (View.cover_of_tiledL _ ![512, 256] (by sl_kernel_rfl) _)
  simp only [List.forall_mem_cons, List.not_mem_nil, false_imp_iff, implies_true, and_true]
  exact ⟨(fun x => score_piece X_arg4 X_arg6 X_arg15 3840 (nextBlk i k.val hk) (nextSlot i k.val) 3 (by decide) (k0_off27_eq i k) (k0_off6_eq i k) (off33_at i k) _ _ _ _ _ x), (fun x => score_piece X_arg4 X_arg6 X_arg15 3584 (nextBlk i k.val hk) (nextSlot i k.val) 3 (by decide) (k0_off27_eq i k) (k0_off6_eq i k) (off32_at i k) _ _ _ _ _ x), (fun x => score_piece X_arg4 X_arg6 X_arg15 3328 (nextBlk i k.val hk) (nextSlot i k.val) 3 (by decide) (k0_off27_eq i k) (k0_off6_eq i k) (off31_at i k) _ _ _ _ _ x), (fun x => score_piece X_arg4 X_arg6 X_arg15 3072 (nextBlk i k.val hk) (nextSlot i k.val) 3 (by decide) (k0_off27_eq i k) (k0_off6_eq i k) (off30_at i k) _ _ _ _ _ x), (fun x => score_piece X_arg4 X_arg6 X_arg15 2816 (nextBlk i k.val hk) (nextSlot i k.val) 2 (by decide) (k0_off20_eq i k) (k0_off6_eq i k) (off26_at i k) _ _ _ _ _ x), (fun x => score_piece X_arg4 X_arg6 X_arg15 2560 (nextBlk i k.val hk) (nextSlot i k.val) 2 (by decide) (k0_off20_eq i k) (k0_off6_eq i k) (off25_at i k) _ _ _ _ _ x), (fun x => score_piece X_arg4 X_arg6 X_arg15 2304 (nextBlk i k.val hk) (nextSlot i k.val) 2 (by decide) (k0_off20_eq i k) (k0_off6_eq i k) (off24_at i k) _ _ _ _ _ x), (fun x => score_piece X_arg4 X_arg6 X_arg15 2048 (nextBlk i k.val hk) (nextSlot i k.val) 2 (by decide) (k0_off20_eq i k) (k0_off6_eq i k) (off23_at i k) _ _ _ _ _ x), (fun x => score_piece X_arg4 X_arg6 X_arg15 1792 (nextBlk i k.val hk) (nextSlot i k.val) 1 (by decide) (k0_off13_eq i k) (k0_off6_eq i k) (off19_at i k) _ _ _ _ _ x), (fun x => score_piece X_arg4 X_arg6 X_arg15 1536 (nextBlk i k.val hk) (nextSlot i k.val) 1 (by decide) (k0_off13_eq i k) (k0_off6_eq i k) (off18_at i k) _ _ _ _ _ x), (fun x => score_piece X_arg4 X_arg6 X_arg15 1280 (nextBlk i k.val hk) (nextSlot i k.val) 1 (by decide) (k0_off13_eq i k) (k0_off6_eq i k) (off17_at i k) _ _ _ _ _ x), (fun x => score_piece X_arg4 X_arg6 X_arg15 1024 (nextBlk i k.val hk) (nextSlot i k.val) 1 (by decide) (k0_off13_eq i k) (k0_off6_eq i k) (off16_at i k) _ _ _ _ _ x), (fun x => score_piece X_arg4 X_arg6 X_arg15 768 (nextBlk i k.val hk) (nextSlot i k.val) 0 (by decide) (k0_off5_eq i k) (k0_off6_eq i k) (off12_at i k) _ _ _ _ _ x), (fun x => score_piece X_arg4 X_arg6 X_arg15 512 (nextBlk i k.val hk) (nextSlot i k.val) 0 (by decide) (k0_off5_eq i k) (k0_off6_eq i k) (off11_at i k) _ _ _ _ _ x), (fun x => score_piece X_arg4 X_arg6 X_arg15 256 (nextBlk i k.val hk) (nextSlot i k.val) 0 (by decide) (k0_off5_eq i k) (k0_off6_eq i k) (off10_at i k) _ _ _ _ _ x), (fun x => score_piece X_arg4 X_arg6 X_arg15 0 (nextBlk i k.val hk) (nextSlot i k.val) 0 (by decide) (k0_off5_eq i k) (k0_off6_eq i k) (off9_at i k) _ _ _ _ _ x)⟩

/-- Their greatest in each column. -/
theorem trip_max (y : Fin 4096) :
    arg17.view.read (Elt Ideal) (arg17.view.writes (Elt Ideal) f17 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 k f16 f17 f18 f19).2.1) (ix2 0 y)
      = Finset.fold max ⊥ (fun r : Fin 512 => scoreG (arg4.view.read (Elt Ideal) X_arg4) (arg6.view.read (Elt Ideal) X_arg6) (arg15.view.read (Elt Ideal) X_arg15) (nextSlot i k.val) (nextBlk i k.val hk) r y) Finset.univ := by
  unfold tripL_k0_t1 trip_k0_t1
  dsimp only
  sl_unfold_run_names
  dsimp only
  refine View.read_writes_apply_of_pieces (v := arg17.view) (f := f17)
    (fun z : S1x4096.Idx => Finset.fold max ⊥ (fun r : Fin 512 => scoreG (arg4.view.read (Elt Ideal) X_arg4) (arg6.view.read (Elt Ideal) X_arg6) (arg15.view.read (Elt Ideal) X_arg15) (nextSlot i k.val) (nextBlk i k.val hk) r (z 1)) Finset.univ) _ ?_ (ix2 0 y)
    (View.cover_of_tiledL _ ![1, 256] (by sl_kernel_rfl) _)
  simp only [List.forall_mem_cons, List.not_mem_nil, false_imp_iff, implies_true, and_true]
  exact ⟨(fun x => max_piece X_arg4 X_arg6 X_arg15 3840 (nextBlk i k.val hk) (nextSlot i k.val) 3 (by decide) (k0_off27_eq i k) (k0_off6_eq i k) (off33_at i k) _ _ _ _ x), (fun x => max_piece X_arg4 X_arg6 X_arg15 3584 (nextBlk i k.val hk) (nextSlot i k.val) 3 (by decide) (k0_off27_eq i k) (k0_off6_eq i k) (off32_at i k) _ _ _ _ x), (fun x => max_piece X_arg4 X_arg6 X_arg15 3328 (nextBlk i k.val hk) (nextSlot i k.val) 3 (by decide) (k0_off27_eq i k) (k0_off6_eq i k) (off31_at i k) _ _ _ _ x), (fun x => max_piece X_arg4 X_arg6 X_arg15 3072 (nextBlk i k.val hk) (nextSlot i k.val) 3 (by decide) (k0_off27_eq i k) (k0_off6_eq i k) (off30_at i k) _ _ _ _ x), (fun x => max_piece X_arg4 X_arg6 X_arg15 2816 (nextBlk i k.val hk) (nextSlot i k.val) 2 (by decide) (k0_off20_eq i k) (k0_off6_eq i k) (off26_at i k) _ _ _ _ x), (fun x => max_piece X_arg4 X_arg6 X_arg15 2560 (nextBlk i k.val hk) (nextSlot i k.val) 2 (by decide) (k0_off20_eq i k) (k0_off6_eq i k) (off25_at i k) _ _ _ _ x), (fun x => max_piece X_arg4 X_arg6 X_arg15 2304 (nextBlk i k.val hk) (nextSlot i k.val) 2 (by decide) (k0_off20_eq i k) (k0_off6_eq i k) (off24_at i k) _ _ _ _ x), (fun x => max_piece X_arg4 X_arg6 X_arg15 2048 (nextBlk i k.val hk) (nextSlot i k.val) 2 (by decide) (k0_off20_eq i k) (k0_off6_eq i k) (off23_at i k) _ _ _ _ x), (fun x => max_piece X_arg4 X_arg6 X_arg15 1792 (nextBlk i k.val hk) (nextSlot i k.val) 1 (by decide) (k0_off13_eq i k) (k0_off6_eq i k) (off19_at i k) _ _ _ _ x), (fun x => max_piece X_arg4 X_arg6 X_arg15 1536 (nextBlk i k.val hk) (nextSlot i k.val) 1 (by decide) (k0_off13_eq i k) (k0_off6_eq i k) (off18_at i k) _ _ _ _ x), (fun x => max_piece X_arg4 X_arg6 X_arg15 1280 (nextBlk i k.val hk) (nextSlot i k.val) 1 (by decide) (k0_off13_eq i k) (k0_off6_eq i k) (off17_at i k) _ _ _ _ x), (fun x => max_piece X_arg4 X_arg6 X_arg15 1024 (nextBlk i k.val hk) (nextSlot i k.val) 1 (by decide) (k0_off13_eq i k) (k0_off6_eq i k) (off16_at i k) _ _ _ _ x), (fun x => max_piece X_arg4 X_arg6 X_arg15 768 (nextBlk i k.val hk) (nextSlot i k.val) 0 (by decide) (k0_off5_eq i k) (k0_off6_eq i k) (off12_at i k) _ _ _ _ x), (fun x => max_piece X_arg4 X_arg6 X_arg15 512 (nextBlk i k.val hk) (nextSlot i k.val) 0 (by decide) (k0_off5_eq i k) (k0_off6_eq i k) (off11_at i k) _ _ _ _ x), (fun x => max_piece X_arg4 X_arg6 X_arg15 256 (nextBlk i k.val hk) (nextSlot i k.val) 0 (by decide) (k0_off5_eq i k) (k0_off6_eq i k) (off10_at i k) _ _ _ _ x), (fun x => max_piece X_arg4 X_arg6 X_arg15 0 (nextBlk i k.val hk) (nextSlot i k.val) 0 (by decide) (k0_off5_eq i k) (k0_off6_eq i k) (off9_at i k) _ _ _ _ x)⟩

/-- The running maximum takes in the block's maximum. -/
theorem trip_run (y : Fin 4096) :
    arg18.view.read (Elt Ideal) (arg18.view.writes (Elt Ideal) f18 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 k f16 f17 f18 f19).2.2.1) (ix2 0 y)
      = max (arg18.view.read (Elt Ideal) f18 (ix2 0 y)) (arg17.view.read (Elt Ideal) f17 (ix2 0 y)) := by
  unfold tripL_k0_t1 trip_k0_t1
  dsimp only
  sl_unfold_run_names
  dsimp only
  refine View.read_writes_apply_of_pieces (v := arg18.view) (f := f18)
    (fun z : S1x4096.Idx => max (arg18.view.read (Elt Ideal) f18 z) (arg17.view.read (Elt Ideal) f17 z)) _ ?_ (ix2 0 y)
    (View.cover_of_tiledL _ ![1, 4096] (by sl_kernel_rfl) _)
  simp only [List.forall_mem_cons, List.not_mem_nil, false_imp_iff, implies_true, and_true]
  exact fun x => run_piece f17 f18 _ _ _ x

/-- The accumulator after the block. -/
theorem trip_acc (hk16 : k.val < 16) (a : Fin 144) (y : Fin 4096) :
    arg19.view.read (Elt Ideal) (arg19.view.writes (Elt Ideal) f19 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 k f16 f17 f18 f19).2.2.2) (ix2 a y)
      = accG (arg5.view.read (Elt Ideal) X_arg5) ⟨k.val, hk16⟩ (arg18.view.read (Elt Ideal) f18) (arg17.view.read (Elt Ideal) f17)
        (arg16.view.read (Elt Ideal) f16) (arg19.view.read (Elt Ideal) f19) a y := by
  unfold tripL_k0_t1 trip_k0_t1
  dsimp only
  sl_unfold_run_names
  dsimp only
  refine View.read_writes_apply_of_pieces (v := arg19.view) (f := f19)
    (fun z : S144x4096.Idx => accG (arg5.view.read (Elt Ideal) X_arg5) ⟨k.val, hk16⟩ (arg18.view.read (Elt Ideal) f18) (arg17.view.read (Elt Ideal) f17)
        (arg16.view.read (Elt Ideal) f16) (arg19.view.read (Elt Ideal) f19) (z 0) (z 1)) _ ?_ (ix2 a y)
    (View.cover_of_tiledL _ ![144, 256] (by sl_kernel_rfl) _)
  simp only [List.forall_mem_cons, List.not_mem_nil, false_imp_iff, implies_true, and_true]
  exact ⟨(fun x => acc_piece X_arg5 f16 f17 f18 f19 3840 ⟨k.val, hk16⟩ 3 (by decide) (k0_off28_eq i k) (k0_off29_eq i k) _ _ _ _ _ _ _ _ x), (fun x => acc_piece X_arg5 f16 f17 f18 f19 3584 ⟨k.val, hk16⟩ 3 (by decide) (k0_off28_eq i k) (k0_off29_eq i k) _ _ _ _ _ _ _ _ x), (fun x => acc_piece X_arg5 f16 f17 f18 f19 3328 ⟨k.val, hk16⟩ 3 (by decide) (k0_off28_eq i k) (k0_off29_eq i k) _ _ _ _ _ _ _ _ x), (fun x => acc_piece X_arg5 f16 f17 f18 f19 3072 ⟨k.val, hk16⟩ 3 (by decide) (k0_off28_eq i k) (k0_off29_eq i k) _ _ _ _ _ _ _ _ x), (fun x => acc_piece X_arg5 f16 f17 f18 f19 2816 ⟨k.val, hk16⟩ 2 (by decide) (k0_off21_eq i k) (k0_off22_eq i k) _ _ _ _ _ _ _ _ x), (fun x => acc_piece X_arg5 f16 f17 f18 f19 2560 ⟨k.val, hk16⟩ 2 (by decide) (k0_off21_eq i k) (k0_off22_eq i k) _ _ _ _ _ _ _ _ x), (fun x => acc_piece X_arg5 f16 f17 f18 f19 2304 ⟨k.val, hk16⟩ 2 (by decide) (k0_off21_eq i k) (k0_off22_eq i k) _ _ _ _ _ _ _ _ x), (fun x => acc_piece X_arg5 f16 f17 f18 f19 2048 ⟨k.val, hk16⟩ 2 (by decide) (k0_off21_eq i k) (k0_off22_eq i k) _ _ _ _ _ _ _ _ x), (fun x => acc_piece X_arg5 f16 f17 f18 f19 1792 ⟨k.val, hk16⟩ 1 (by decide) (k0_off14_eq i k) (k0_off15_eq i k) _ _ _ _ _ _ _ _ x), (fun x => acc_piece X_arg5 f16 f17 f18 f19 1536 ⟨k.val, hk16⟩ 1 (by decide) (k0_off14_eq i k) (k0_off15_eq i k) _ _ _ _ _ _ _ _ x), (fun x => acc_piece X_arg5 f16 f17 f18 f19 1280 ⟨k.val, hk16⟩ 1 (by decide) (k0_off14_eq i k) (k0_off15_eq i k) _ _ _ _ _ _ _ _ x), (fun x => acc_piece X_arg5 f16 f17 f18 f19 1024 ⟨k.val, hk16⟩ 1 (by decide) (k0_off14_eq i k) (k0_off15_eq i k) _ _ _ _ _ _ _ _ x), (fun x => acc_piece X_arg5 f16 f17 f18 f19 768 ⟨k.val, hk16⟩ 0 (by decide) (k0_off7_eq i k) (k0_off8_eq i k) _ _ _ _ _ _ _ _ x), (fun x => acc_piece X_arg5 f16 f17 f18 f19 512 ⟨k.val, hk16⟩ 0 (by decide) (k0_off7_eq i k) (k0_off8_eq i k) _ _ _ _ _ _ _ _ x), (fun x => acc_piece X_arg5 f16 f17 f18 f19 256 ⟨k.val, hk16⟩ 0 (by decide) (k0_off7_eq i k) (k0_off8_eq i k) _ _ _ _ _ _ _ _ x), (fun x => acc_piece X_arg5 f16 f17 f18 f19 0 ⟨k.val, hk16⟩ 0 (by decide) (k0_off7_eq i k) (k0_off8_eq i k) _ _ _ _ _ _ _ _ x)⟩

end

end Cert.KernelIdeal.Hand

end
-- ==== Proof.KernelIdeal.Loop.lean ====
module

public import proofs.«01_k».proof.Proof.KernelIdeal.Trip
public import proofs.«01_k».proof.Proof.KernelIdeal.LoopMath

@[expose] public section

/-! # The key-block loop

What the whole loop leaves in the scratch memories, from what it finds there: the trips of `Trip` solved by `LoopMath`. -/

set_option maxRecDepth 65536

noncomputable section

namespace Cert.KernelIdeal.Hand

open Cert.KernelIdeal Cert.KernelIdeal.Gen
open Idealize.ShloMosaic Idealize.ShloMosaic.TcCoe Idealize.ShloMosaic.Tactic

/-- The tile's own slot of the staged queries. -/
def curSlot (i : grid0.Coords) : Fin 2 := ⟨(i 2).val % 2, by omega⟩
/-- The next tile's slot. -/
def nxtSlot (i : grid0.Coords) : Fin 2 := ⟨1 - (i 2).val % 2, by omega⟩

section

variable (𝒱 : Variants)
  (c : Dev nD)
  (bd : Option 𝒱.V)
  (i : grid0.Coords)
  (arg3 : Memref sig .tc .vmem S1x512x512 .f32)
  (harg3 : arg3.IsWhole)
  (arg4 : Memref sig .tc .vmem S1x8192x512 .bf16)
  (harg4 : arg4.IsWhole)
  (arg5 : Memref sig .tc .vmem S1x4x16x144x512 .bf16)
  (harg5 : arg5.IsWhole)
  (arg6 : Memref sig .tc .vmem S8192x128 .bf16)
  (harg6 : arg6.IsWhole)
  (arg7 : Memref sig .tc .vmem S1024x1024 .bf16)
  (harg7 : arg7.IsWhole)
  (arg8 : Memref sig .tc .vmem S1x512x512 .f32)
  (harg8 : arg8.IsWhole)
  (arg9 : Memref sig .tc .vmem S1x512x512 .bf16)
  (harg9 : arg9.IsWhole)
  (arg10 : Memref sig .tc .vmem S1x128 .f32)
  (harg10 : arg10.IsWhole)
  (arg11 : Memref sig .tc .vmem S4x64 .f32)
  (harg11 : arg11.IsWhole)
  (arg12 : Memref sig .tc .vmem S1x512x1024 .f32)
  (harg12 : arg12.IsWhole)
  (arg13 : Memref sig .tc .vmem S1x512x512 .bf16)
  (harg13 : arg13.IsWhole)
  (arg14 : Memref sig .tc .vmem S1x512x1024 .f32)
  (harg14 : arg14.IsWhole)
  (arg15 : Memref sig .tc .vmem S2x4x1024x256 .bf16)
  (harg15 : arg15.IsWhole)
  (arg16 : Memref sig .tc .vmem S512x4096 .f32)
  (harg16 : arg16.IsWhole)
  (arg17 : Memref sig .tc .vmem S1x4096 .f32)
  (harg17 : arg17.IsWhole)
  (arg18 : Memref sig .tc .vmem S1x4096 .f32)
  (harg18 : arg18.IsWhole)
  (arg19 : Memref sig .tc .vmem S144x4096 .f32)
  (harg19 : arg19.IsWhole)
  (arg0 : BitVec 32)
  (arg1 : BitVec 32)
  (arg2 : BitVec 32)
  (v0 : IVec S512x128 32)
  (v11 : BitVec 32)
  (v12 : BitVec 32)
  (v33 : BitVec 32)
  (v47 : FVec Ideal S512x128 .bf16)
  (v109 : FVec Ideal S512x128 .bf16)
  (v110 : FVec Ideal S512x128 .bf16)
  (v111 : IVec S512x128 32)
  (X_arg4 : BufTy.Contents (Elt Ideal) arg4.view.ty)
  (X_arg5 : BufTy.Contents (Elt Ideal) arg5.view.ty)
  (X_arg6 : BufTy.Contents (Elt Ideal) arg6.view.ty)
  (X_arg15 : BufTy.Contents (Elt Ideal) arg15.view.ty)
  (f16 : BufTy.Contents (Elt Ideal) arg16.view.ty) (f17 : BufTy.Contents (Elt Ideal) arg17.view.ty) (f18 : BufTy.Contents (Elt Ideal) arg18.view.ty)
  (f19 : BufTy.Contents (Elt Ideal) arg19.view.ty)

/-- The reads of the scratches after `k` trips. -/
def rd16 (k : ℕ) : S512x4096.Idx → EReal := arg16.view.read (Elt Ideal) (arg16.view.writes (Elt Ideal) f16 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19  k).1)
def rd17 (k : ℕ) : S1x4096.Idx → EReal := arg17.view.read (Elt Ideal) (arg17.view.writes (Elt Ideal) f17 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19  k).2.1)
def rd18 (k : ℕ) : S1x4096.Idx → EReal := arg18.view.read (Elt Ideal) (arg18.view.writes (Elt Ideal) f18 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19  k).2.2.1)
def rd19 (k : ℕ) : S144x4096.Idx → EReal := arg19.view.read (Elt Ideal) (arg19.view.writes (Elt Ideal) f19 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19  k).2.2.2)

theorem rd16_succ (k : Fin (k0_t1_loop i).trips) (hk : k.val < (i 2).val + 1) (r : Fin 512) (y : Fin 4096) :
    (rd16 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 (k.val + 1)) (ix2 r y) = scoreG (arg4.view.read (Elt Ideal) X_arg4) (arg6.view.read (Elt Ideal) X_arg6) (arg15.view.read (Elt Ideal) X_arg15) (nextSlot i k.val) (nextBlk i k.val hk) r y := by
  unfold rd16
  rw [pb_k0_t1_succ, View.writes_append]
  exact trip_scores 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 k hk (arg16.view.writes (Elt Ideal) f16 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val).1) (arg17.view.writes (Elt Ideal) f17 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val).2.1) (arg18.view.writes (Elt Ideal) f18 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val).2.2.1) (arg19.view.writes (Elt Ideal) f19 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val).2.2.2) r y

theorem rd17_succ (k : Fin (k0_t1_loop i).trips) (hk : k.val < (i 2).val + 1) (y : Fin 4096) :
    (rd17 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 (k.val + 1)) (ix2 0 y) = Finset.fold max ⊥ (fun r : Fin 512 => scoreG (arg4.view.read (Elt Ideal) X_arg4) (arg6.view.read (Elt Ideal) X_arg6) (arg15.view.read (Elt Ideal) X_arg15) (nextSlot i k.val) (nextBlk i k.val hk) r y) Finset.univ := by
  unfold rd17
  rw [pb_k0_t1_succ, View.writes_append]
  exact trip_max 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 k hk (arg16.view.writes (Elt Ideal) f16 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val).1) (arg17.view.writes (Elt Ideal) f17 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val).2.1) (arg18.view.writes (Elt Ideal) f18 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val).2.2.1) (arg19.view.writes (Elt Ideal) f19 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val).2.2.2) y

theorem rd18_succ (k : Fin (k0_t1_loop i).trips) (y : Fin 4096) :
    (rd18 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 (k.val + 1)) (ix2 0 y) = max ((rd18 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val) (ix2 0 y)) ((rd17 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val) (ix2 0 y)) := by
  unfold rd18 rd17
  rw [pb_k0_t1_succ, View.writes_append]
  exact trip_run 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 k (arg16.view.writes (Elt Ideal) f16 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val).1) (arg17.view.writes (Elt Ideal) f17 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val).2.1) (arg18.view.writes (Elt Ideal) f18 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val).2.2.1) (arg19.view.writes (Elt Ideal) f19 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val).2.2.2) y

theorem rd19_succ (k : Fin (k0_t1_loop i).trips) (hk16 : k.val < 16) (a : Fin 144) (y : Fin 4096) :
    (rd19 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 (k.val + 1)) (ix2 a y) = accG (arg5.view.read (Elt Ideal) X_arg5) ⟨k.val, hk16⟩ (rd18 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val) (rd17 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val) (rd16 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val) (rd19 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val) a y := by
  unfold rd16 rd17 rd18 rd19
  rw [pb_k0_t1_succ, View.writes_append]
  exact trip_acc 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 k (arg16.view.writes (Elt Ideal) f16 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val).1) (arg17.view.writes (Elt Ideal) f17 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val).2.1) (arg18.view.writes (Elt Ideal) f18 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val).2.2.1) (arg19.view.writes (Elt Ideal) f19 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 k.val).2.2.2) hk16 a y

/-- THE LOOP: the next tile's first scores are staged with their maxima, and the accumulator holds, up to a common positive factor in each column,
the weighted sums of the value rows. -/
theorem loop_facts (S : Fin 16 → Fin 512 → Fin 4096 → EReal) (e : Fin 16 → Fin 512 → Fin 4096 → ℝ)
    (hW : ∀ j r y, scoreG (arg4.view.read (Elt Ideal) X_arg4) (arg6.view.read (Elt Ideal) X_arg6) (arg15.view.read (Elt Ideal) X_arg15) (curSlot i) j r y = S j r y) (hS : ∀ j r y, Weighs (S j r y) (e j r y)) (h0 : ∀ y, ∃ r, S 0 r y ≠ ⊥)
    (v : Fin 4 → Fin 16 → Fin 144 → Fin 512 → ℝ) (hV : ∀ h j a r, arg5.view.read (Elt Ideal) X_arg5 (ix5 0 h j a r) = (v h j a r : EReal))
    (he : ∀ (j : Fin 16) r y, ¬ j.val < (i 2).val + 1 → e j r y = 0)
    (h16 : ∀ r y, arg16.view.read (Elt Ideal) f16 (ix2 r y) = S 0 r y)
    (h17 : ∀ y, arg17.view.read (Elt Ideal) f17 (ix2 0 y) = Finset.fold max ⊥ (fun r => S 0 r y) Finset.univ)
    (h18 : ∀ y, arg18.view.read (Elt Ideal) f18 (ix2 0 y) = ⊥) :
    (∀ r y, (rd16 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 (Scf.trips (k0_t1_loop i).lb (k0_t1_loop i).ub (k0_t1_loop i).st)) (ix2 r y) = scoreG (arg4.view.read (Elt Ideal) X_arg4) (arg6.view.read (Elt Ideal) X_arg6) (arg15.view.read (Elt Ideal) X_arg15) (nxtSlot i) 0 r y)
    ∧ (∀ y, (rd17 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 (Scf.trips (k0_t1_loop i).lb (k0_t1_loop i).ub (k0_t1_loop i).st)) (ix2 0 y) = Finset.fold max ⊥ (fun r : Fin 512 => scoreG (arg4.view.read (Elt Ideal) X_arg4) (arg6.view.read (Elt Ideal) X_arg6) (arg15.view.read (Elt Ideal) X_arg15) (nxtSlot i) 0 r y) Finset.univ)
    ∧ ∀ y, ∃ μ : ℝ, ∀ a, (rd19 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 (Scf.trips (k0_t1_loop i).lb (k0_t1_loop i).ub (k0_t1_loop i).st)) (ix2 a y) = (((2 : ℝ) ^ (-μ) * ∑ j : Fin 16, ∑ r, e j r y * v (headOf y) j a r : ℝ) : EReal) := by
  have hq : (i 2).val < 16 := (i 2).isLt
  have hT : (k0_t1_loop i).trips = (i 2).val + 1 := trips_eq i
  have hlast : (i 2).val < (k0_t1_loop i).trips := by omega
  have e16 := rd16_succ 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 ⟨(i 2).val, hlast⟩ (Nat.lt_succ_self _)
  have e17 := rd17_succ 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 ⟨(i 2).val, hlast⟩ (Nat.lt_succ_self _)
  have es : nextSlot i (i 2).val = nxtSlot i := Fin.ext (if_pos (le_refl _))
  have eb : nextBlk i (i 2).val (Nat.lt_succ_self _) = 0 := Fin.ext (if_pos (le_refl _))
  have hTR : (Scf.trips (k0_t1_loop i).lb (k0_t1_loop i).ub (k0_t1_loop i).st) = (i 2).val + 1 := hT
  rw [hTR]
  simp only [es, eb] at e16 e17
  refine ⟨e16, e17, fun y => ?_⟩
  have ns : ∀ k, k + 1 < (i 2).val + 1 → nextSlot i k = curSlot i := fun k hk => Fin.ext (if_neg (by omega))
  have nb : ∀ k (hk' : k < (i 2).val + 1) (hk : k + 1 < (i 2).val + 1), nextBlk i k hk' = ⟨k + 1, by omega⟩ := fun k _ hk => Fin.ext (if_neg (by omega))
  have R := loop_solved ((i 2).val + 1) (by omega) S e hS h0 (arg5.view.read (Elt Ideal) X_arg5) v hV
    (rd18 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19) (rd17 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19) (rd16 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19) (rd19 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19)
    h18
    (fun k hk r y => by
      cases k with
      | zero => exact h16 r y
      | succ k =>
        have := rd16_succ 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 ⟨k, by omega⟩ (Nat.lt_of_succ_lt hk) r y
        rw [ns k hk, nb k _ hk] at this
        exact this.trans (hW _ r y))
    (fun k hk y => by
      cases k with
      | zero => exact h17 y
      | succ k =>
        have := rd17_succ 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 ⟨k, by omega⟩ (Nat.lt_of_succ_lt hk) y
        rw [ns k hk, nb k _ hk] at this
        simp only [hW] at this
        exact this)
    (fun k hk y => rd18_succ 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 ⟨k, by omega⟩ y)
    (fun k hk a y => rd19_succ 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X_arg4 X_arg5 X_arg6 X_arg15 f16 f17 f18 f19 ⟨k, by omega⟩ (by show k < 16; omega) a y) y ((i 2).val + 1) (le_refl _)
  rcases R with ⟨h, _⟩ | ⟨μ, _, h⟩
  · exact absurd h (Nat.succ_ne_zero _)
  · refine ⟨μ, fun a => (h a).trans ?_⟩
    congr 2
    refine Finset.sum_congr rfl fun j _ => ?_
    by_cases hj : j.val < (i 2).val + 1
    · rw [if_pos hj]
    · rw [if_neg hj]
      exact (Finset.sum_eq_zero fun r _ => by rw [he j r y hj, zero_mul]).symm

end

end Cert.KernelIdeal.Hand

end
-- ==== Proof.KernelIdeal.Stage.lean ====
module

public import proofs.«01_k».proof.Proof.KernelIdeal.Run
public import proofs.«01_k».proof.Proof.KernelIdeal.Loop
public import Idealize.ShloMosaic.Lib.WritesUnit
public import proofs.«01_k».proof.Proof.KernelIdeal.Weights

@[expose] public section

/-! # The staged queries after a point -/

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic

theorem off1_at : ∀ i : grid0.Coords, k0_off1 i = ![(nxtSlot i).val, 0, 0, 0] := by decide +kernel
theorem off2_at : ∀ i : grid0.Coords, k0_off2 i = ![(nxtSlot i).val, 1, 0, 0] := by decide +kernel
theorem off3_at : ∀ i : grid0.Coords, k0_off3 i = ![(nxtSlot i).val, 2, 0, 0] := by decide +kernel
theorem off4_at : ∀ i : grid0.Coords, k0_off4 i = ![(nxtSlot i).val, 3, 0, 0] := by decide +kernel

/-- One slot of the staged queries written head after head: the slot reads the four heads, the other slot what was there. -/
theorem stage_reads {sp : Space} (v : View sig .tc sp S2x4x1024x256 .bf16) (f : v.ty.Contents (Elt Ideal)) (L : List (View.Piece (Elt Ideal) S2x4x1024x256 .bf16))
    (s : Fin 2) {o0 o1 o2 o3 : Fin 4 → ℕ} (e0 : o0 = ![s.val, 0, 0, 0]) (e1 : o1 = ![s.val, 1, 0, 0]) (e2 : o2 = ![s.val, 2, 0, 0]) (e3 : o3 = ![s.val, 3, 0, 0])
    (i0 : ∀ a, o0 a + ![1, 1, 1024, 256] a ≤ S2x4x1024x256.size a) (i1 : ∀ a, o1 a + ![1, 1, 1024, 256] a ≤ S2x4x1024x256.size a)
    (i2 : ∀ a, o2 a + ![1, 1, 1024, 256] a ≤ S2x4x1024x256.size a) (i3 : ∀ a, o3 a + ![1, 1, 1024, 256] a ≤ S2x4x1024x256.size a)
    (p0 p1 p2 p3 : FVec Ideal S1x1x1024x256 .bf16) (G : Fin 4 → Fin 1024 → Fin 256 → EReal)
    (h0 : ∀ cl x, p0 (ix4 0 0 cl x) = G 0 cl x) (h1 : ∀ cl x, p1 (ix4 0 0 cl x) = G 1 cl x) (h2 : ∀ cl x, p2 (ix4 0 0 cl x) = G 2 cl x)
    (h3 : ∀ cl x, p3 (ix4 0 0 cl x) = G 3 cl x) (sl : Fin 2) (h : Fin 4) (cl : Fin 1024) (x : Fin 256) :
    v.read (Elt Ideal) (v.writes (Elt Ideal) f (⟨Rect.unit (s := S2x4x1024x256) o3 ![1, 1, 1024, 256] i3, p3⟩ :: ⟨Rect.unit (s := S2x4x1024x256) o2 ![1, 1, 1024, 256] i2, p2⟩
        :: ⟨Rect.unit (s := S2x4x1024x256) o1 ![1, 1, 1024, 256] i1, p1⟩ :: ⟨Rect.unit (s := S2x4x1024x256) o0 ![1, 1, 1024, 256] i0, p0⟩ :: L)) (ix4 sl h cl x)
      = if sl = s then G h cl x else v.read (Elt Ideal) (v.writes (Elt Ideal) f L) (ix4 sl h cl x) := by
  by_cases hs : sl = s
  · subst hs
    rw [if_pos rfl]
    have hx : ∀ (h' : Fin 4) (a : Fin 4), ((ix4 sl h' cl x : S2x4x1024x256.Idx) a).val = (![sl.val, h'.val, 0, 0] : Fin 4 → ℕ) a + ((ix4 0 0 cl x : S1x1x1024x256.Idx) a).val := by
      intro h' a
      match a with
      | ⟨0, _⟩ => rfl
      | ⟨1, _⟩ => rfl
      | ⟨2, _⟩ => exact (Nat.zero_add _).symm
      | ⟨3, _⟩ => exact (Nat.zero_add _).symm
    match h with
    | ⟨3, _⟩ =>
      exact (View.read_writes_cons_unit_of_mem v f i3 p3 _ _ (ix4 0 0 cl x) e3 (hx 3)).trans (h3 cl x)
    | ⟨2, _⟩ =>
      refine (View.read_writes_cons_unit_of_not_mem v f i3 p3 _ _ e3 1 (Or.inl (show 2 < 3 by decide))).trans ?_
      exact (View.read_writes_cons_unit_of_mem v f i2 p2 _ _ (ix4 0 0 cl x) e2 (hx 2)).trans (h2 cl x)
    | ⟨1, _⟩ =>
      refine (View.read_writes_cons_unit_of_not_mem v f i3 p3 _ _ e3 1 (Or.inl (show 1 < 3 by decide))).trans ?_
      refine (View.read_writes_cons_unit_of_not_mem v f i2 p2 _ _ e2 1 (Or.inl (show 1 < 2 by decide))).trans ?_
      exact (View.read_writes_cons_unit_of_mem v f i1 p1 _ _ (ix4 0 0 cl x) e1 (hx 1)).trans (h1 cl x)
    | ⟨0, _⟩ =>
      refine (View.read_writes_cons_unit_of_not_mem v f i3 p3 _ _ e3 1 (Or.inl (show 0 < 3 by decide))).trans ?_
      refine (View.read_writes_cons_unit_of_not_mem v f i2 p2 _ _ e2 1 (Or.inl (show 0 < 2 by decide))).trans ?_
      refine (View.read_writes_cons_unit_of_not_mem v f i1 p1 _ _ e1 1 (Or.inl (show 0 < 1 by decide))).trans ?_
      exact (View.read_writes_cons_unit_of_mem v f i0 p0 _ _ (ix4 0 0 cl x) e0 (hx 0)).trans (h0 cl x)
  · rw [if_neg hs]
    have hm : sl.val < s.val ∨ s.val + 1 ≤ sl.val := by
      have : sl.val ≠ s.val := fun e => hs (Fin.ext e)
      omega
    refine (View.read_writes_cons_unit_of_not_mem v f i3 p3 _ _ e3 0 hm).trans ?_
    refine (View.read_writes_cons_unit_of_not_mem v f i2 p2 _ _ e2 0 hm).trans ?_
    refine (View.read_writes_cons_unit_of_not_mem v f i1 p1 _ _ e1 0 hm).trans ?_
    exact View.read_writes_cons_unit_of_not_mem v f i0 p0 _ _ e0 0 hm

/-- A head's columns of a query tile, read through the window. -/
theorem head_load {sp : Space} (v : View sig .tc sp S1x512x512 .f32) (f : v.ty.Contents (Elt Ideal)) (h : Fin 4) {o : ℕ} (ho : o = 128 * h.val)
    (inb : ∀ a, ![0, 0, o] a + ![1, 512, 128] a ≤ S1x512x512.size a) (r : Fin 512) (x : Fin 128) :
    v.readAt (Elt Ideal) (Rect.unit (s := S1x512x512) ![0, 0, o] ![1, 512, 128] inb).toLoadRect f (ix3 0 r x)
      = v.read (Elt Ideal) f (ix3 0 r (⟨128 * h.val + x.val, by omega⟩ : Fin 512)) := by
  subst ho
  exact readAt_unit_apply v f inb (ix3 0 r x) _ (by intro d; match d with | ⟨0, _⟩ => rfl | ⟨1, _⟩ => exact (Nat.zero_add _).symm | ⟨2, _⟩ => rfl)

section

variable (arg3 : Memref sig .tc .vmem S1x512x512 .f32) (arg15 : Memref sig .tc .vmem S2x4x1024x256 .bf16)
  (X3 : BufTy.Contents (Elt Ideal) arg3.view.ty) (X15 : BufTy.Contents (Elt Ideal) arg15.view.ty)

/-- The pieces of the first tile's own queries, head after head into slot 0. -/
def firstPieces (n : ℕ) (j0 : ∀ a, ![0, 0, 0] a + ![1, 512, 128] a ≤ S1x512x512.size a) (j1 : ∀ a, ![0, 0, 128] a + ![1, 512, 128] a ≤ S1x512x512.size a)
    (j2 : ∀ a, ![0, 0, 256] a + ![1, 512, 128] a ≤ S1x512x512.size a) (j3 : ∀ a, ![0, 0, 384] a + ![1, 512, 128] a ≤ S1x512x512.size a)
    (i0 : ∀ a, ![0, 0, 0, 0] a + ![1, 1, 1024, 256] a ≤ S2x4x1024x256.size a) (i1 : ∀ a, ![0, 1, 0, 0] a + ![1, 1, 1024, 256] a ≤ S2x4x1024x256.size a)
    (i2 : ∀ a, ![0, 2, 0, 0] a + ![1, 1, 1024, 256] a ≤ S2x4x1024x256.size a) (i3 : ∀ a, ![0, 3, 0, 0] a + ![1, 1, 1024, 256] a ≤ S2x4x1024x256.size a) :
    List (View.Piece (Elt Ideal) S2x4x1024x256 .bf16) :=
  [⟨Rect.unit (s := S2x4x1024x256) ![0, 3, 0, 0] ![1, 1, 1024, 256] i3, k0_pay12 lanes (k0_pay2 (BitVec.ofNat 32 n) lanes rows)
      (k0_pay9 (arg3.view.readAt (Elt Ideal) (Rect.unit (s := S1x512x512) ![0, 0, 384] ![1, 512, 128] j3).toLoadRect X3)) k0_pay10
      (k0_pay11 lanes (k0_pay2 (BitVec.ofNat 32 n) lanes rows) (arg3.view.readAt (Elt Ideal) (Rect.unit (s := S1x512x512) ![0, 0, 384] ![1, 512, 128] j3).toLoadRect X3))⟩,
    ⟨Rect.unit (s := S2x4x1024x256) ![0, 2, 0, 0] ![1, 1, 1024, 256] i2, k0_pay8 lanes (k0_pay2 (BitVec.ofNat 32 n) lanes rows)
      (arg3.view.readAt (Elt Ideal) (Rect.unit (s := S1x512x512) ![0, 0, 256] ![1, 512, 128] j2).toLoadRect X3)⟩,
    ⟨Rect.unit (s := S2x4x1024x256) ![0, 1, 0, 0] ![1, 1, 1024, 256] i1, k0_pay7 lanes (k0_pay2 (BitVec.ofNat 32 n) lanes rows)
      (k0_pay4 (arg3.view.readAt (Elt Ideal) (Rect.unit (s := S1x512x512) ![0, 0, 128] ![1, 512, 128] j1).toLoadRect X3)) k0_pay5
      (k0_pay6 (BitVec.ofNat 32 n) lanes rows (arg3.view.readAt (Elt Ideal) (Rect.unit (s := S1x512x512) ![0, 0, 128] ![1, 512, 128] j1).toLoadRect X3))⟩,
    ⟨Rect.unit (s := S2x4x1024x256) ![0, 0, 0, 0] ![1, 1, 1024, 256] i0, k0_pay3 (BitVec.ofNat 32 n) lanes rows
      (arg3.view.readAt (Elt Ideal) (Rect.unit (s := S1x512x512) ![0, 0, 0] ![1, 512, 128] j0).toLoadRect X3)⟩]

theorem first_reads (n : ℕ) (hn : n < 16) (j0 : ∀ a, ![0, 0, 0] a + ![1, 512, 128] a ≤ S1x512x512.size a) (j1 : ∀ a, ![0, 0, 128] a + ![1, 512, 128] a ≤ S1x512x512.size a)
    (j2 : ∀ a, ![0, 0, 256] a + ![1, 512, 128] a ≤ S1x512x512.size a) (j3 : ∀ a, ![0, 0, 384] a + ![1, 512, 128] a ≤ S1x512x512.size a)
    (i0 : ∀ a, ![0, 0, 0, 0] a + ![1, 1, 1024, 256] a ≤ S2x4x1024x256.size a) (i1 : ∀ a, ![0, 1, 0, 0] a + ![1, 1, 1024, 256] a ≤ S2x4x1024x256.size a)
    (i2 : ∀ a, ![0, 2, 0, 0] a + ![1, 1, 1024, 256] a ≤ S2x4x1024x256.size a) (i3 : ∀ a, ![0, 3, 0, 0] a + ![1, 1, 1024, 256] a ≤ S2x4x1024x256.size a)
    (sl : Fin 2) (h : Fin 4) (cl : Fin 1024) (x : Fin 256) :
    arg15.view.read (Elt Ideal) (arg15.view.writes (Elt Ideal) X15 (firstPieces arg3 X3 n j0 j1 j2 j3 i0 i1 i2 i3)) (ix4 sl h cl x)
      = if sl = 0 then wG (arg3.view.read (Elt Ideal) X3) n h cl x else arg15.view.read (Elt Ideal) X15 (ix4 sl h cl x) :=
  stage_reads arg15.view X15 [] 0 rfl rfl rfl rfl i0 i1 i2 i3 _ _ _ _ (wG (arg3.view.read (Elt Ideal) X3) n)
    (fun cl x => (congrFun (pay3_eq _ _ _ _) _).trans (stage_pay _ _ _ _ 0 (mask_pay0 _ hn) (head_load arg3.view X3 0 rfl _) cl x))
    (fun cl x => (congrFun (pay7_eq _ _ _ _) _).trans (stage_pay _ _ _ _ 1 (mask_pay0 _ hn) (head_load arg3.view X3 1 rfl _) cl x))
    (fun cl x => (congrFun (pay8_eq _ _ _) _).trans (stage_pay _ _ _ _ 2 (mask_pay0 _ hn) (head_load arg3.view X3 2 rfl _) cl x))
    (fun cl x => (congrFun (pay12_eq _ _ _) _).trans (stage_pay _ _ _ _ 3 (mask_pay0 _ hn) (head_load arg3.view X3 3 rfl _) cl x)) sl h cl x

end

theorem first_tile : ∀ i : grid0.Coords, isFirst i → (i 2).val = 0 := by decide +kernel

section

variable (c : Dev nD)
  (i : grid0.Coords)
  (arg3 : Memref sig .tc .vmem S1x512x512 .f32)
  (harg3 : arg3.IsWhole)
  (arg4 : Memref sig .tc .vmem S1x8192x512 .bf16)
  (harg4 : arg4.IsWhole)
  (arg5 : Memref sig .tc .vmem S1x4x16x144x512 .bf16)
  (harg5 : arg5.IsWhole)
  (arg6 : Memref sig .tc .vmem S8192x128 .bf16)
  (harg6 : arg6.IsWhole)
  (arg7 : Memref sig .tc .vmem S1024x1024 .bf16)
  (harg7 : arg7.IsWhole)
  (arg8 : Memref sig .tc .vmem S1x512x512 .f32)
  (harg8 : arg8.IsWhole)
  (arg9 : Memref sig .tc .vmem S1x512x512 .bf16)
  (harg9 : arg9.IsWhole)
  (arg10 : Memref sig .tc .vmem S1x128 .f32)
  (harg10 : arg10.IsWhole)
  (arg11 : Memref sig .tc .vmem S4x64 .f32)
  (harg11 : arg11.IsWhole)
  (arg12 : Memref sig .tc .vmem S1x512x1024 .f32)
  (harg12 : arg12.IsWhole)
  (arg13 : Memref sig .tc .vmem S1x512x512 .bf16)
  (harg13 : arg13.IsWhole)
  (arg14 : Memref sig .tc .vmem S1x512x1024 .f32)
  (harg14 : arg14.IsWhole)
  (arg15 : Memref sig .tc .vmem S2x4x1024x256 .bf16)
  (harg15 : arg15.IsWhole)
  (arg16 : Memref sig .tc .vmem S512x4096 .f32)
  (harg16 : arg16.IsWhole)
  (arg17 : Memref sig .tc .vmem S1x4096 .f32)
  (harg17 : arg17.IsWhole)
  (arg18 : Memref sig .tc .vmem S1x4096 .f32)
  (harg18 : arg18.IsWhole)
  (arg19 : Memref sig .tc .vmem S144x4096 .f32)
  (harg19 : arg19.IsWhole)
  (X3 : BufTy.Contents (Elt Ideal) arg3.view.ty)
  (X4 : BufTy.Contents (Elt Ideal) arg4.view.ty)
  (X5 : BufTy.Contents (Elt Ideal) arg5.view.ty)
  (X6 : BufTy.Contents (Elt Ideal) arg6.view.ty)
  (X7 : BufTy.Contents (Elt Ideal) arg7.view.ty)
  (X8 : BufTy.Contents (Elt Ideal) arg8.view.ty)
  (X9 : BufTy.Contents (Elt Ideal) arg9.view.ty)
  (X10 : BufTy.Contents (Elt Ideal) arg10.view.ty)
  (X11 : BufTy.Contents (Elt Ideal) arg11.view.ty)
  (X12 : BufTy.Contents (Elt Ideal) arg12.view.ty)
  (X13 : BufTy.Contents (Elt Ideal) arg13.view.ty)
  (X14 : BufTy.Contents (Elt Ideal) arg14.view.ty)
  (X15 : BufTy.Contents (Elt Ideal) arg15.view.ty)
  (X16 : BufTy.Contents (Elt Ideal) arg16.view.ty)
  (X17 : BufTy.Contents (Elt Ideal) arg17.view.ty)
  (X18 : BufTy.Contents (Elt Ideal) arg18.view.ty)
  (X19 : BufTy.Contents (Elt Ideal) arg19.view.ty)

/-- The staged queries after a point past the first tile: the next slot holds the next tile's, the other is as it was. -/
theorem runNext_stage (hf : ¬isFirst i) (hs : ¬isStart i) (sl : Fin 2) (h : Fin 4) (cl : Fin 1024) (x : Fin 256) :
    arg15.view.read (Elt Ideal) (runNext (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.1 (ix4 sl h cl x)
      = if sl = nxtSlot i then wG (arg8.view.read (Elt Ideal) X8) ((i 2).val + 1) h cl x else arg15.view.read (Elt Ideal) X15 (ix4 sl h cl x) := by
  unfold runNext
  dsimp only
  sl_unfold_run_names
  exact stage_reads arg15.view X15 [] (nxtSlot i) (off1_at i) (off2_at i) (off3_at i) (off4_at i) _ _ _ _ _ _ _ _ (wG (arg8.view.read (Elt Ideal) X8) ((i 2).val + 1))
    (fun cl x => (congrFun (pay252_eq _ _ _ _) _).trans (stage_pay _ _ _ _ 0 (mask_pay _ (i 2).isLt) (head_load arg8.view X8 0 rfl _) cl x))
    (fun cl x => (congrFun (pay256_eq _ _ _) _).trans (stage_pay _ _ _ _ 1 (mask_pay _ (i 2).isLt) (head_load arg8.view X8 1 rfl _) cl x))
    (fun cl x => stage_pay _ _ _ _ 2 (mask_pay _ (i 2).isLt) (head_load arg8.view X8 2 rfl _) cl x)
    (fun cl x => (congrFun (pay261_eq _ _ _) _).trans (stage_pay _ _ _ _ 3 (mask_pay _ (i 2).isLt) (head_load arg8.view X8 3 rfl _) cl x)) sl h cl x

/-- The staged queries after a first tile: the next slot holds the second tile's, the other the tile's own. -/
theorem runFirst_stage (hf : isFirst i) (hs : ¬isStart i) (sl : Fin 2) (h : Fin 4) (cl : Fin 1024) (x : Fin 256) :
    arg15.view.read (Elt Ideal) (runFirst (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.1 (ix4 sl h cl x)
      = if sl = nxtSlot i then wG (arg8.view.read (Elt Ideal) X8) ((i 2).val + 1) h cl x else wG (arg3.view.read (Elt Ideal) X3) (i 2).val h cl x := by
  have h2 : (i 2).val = 0 := first_tile i hf
  unfold runFirst
  dsimp only
  sl_unfold_run_names
  refine (stage_reads arg15.view X15 _ (nxtSlot i) (off1_at i) (off2_at i) (off3_at i) (off4_at i) _ _ _ _ _ _ _ _ (wG (arg8.view.read (Elt Ideal) X8) ((i 2).val + 1))
    (fun cl x => (congrFun (pay252_eq _ _ _ _) _).trans (stage_pay _ _ _ _ 0 (mask_pay _ (i 2).isLt) (head_load arg8.view X8 0 rfl _) cl x))
    (fun cl x => (congrFun (pay256_eq _ _ _) _).trans (stage_pay _ _ _ _ 1 (mask_pay _ (i 2).isLt) (head_load arg8.view X8 1 rfl _) cl x))
    (fun cl x => stage_pay _ _ _ _ 2 (mask_pay _ (i 2).isLt) (head_load arg8.view X8 2 rfl _) cl x)
    (fun cl x => (congrFun (pay261_eq _ _ _) _).trans (stage_pay _ _ _ _ 3 (mask_pay _ (i 2).isLt) (head_load arg8.view X8 3 rfl _) cl x)) sl h cl x).trans ?_
  by_cases hsl : sl = nxtSlot i
  · rw [if_pos hsl, if_pos hsl]
  · rw [if_neg hsl, if_neg hsl]
    obtain rfl : sl = 0 := Fin.ext (by
      have h1 : sl.val ≠ 1 - (i 2).val % 2 := fun e => hsl (Fin.ext e)
      show sl.val = 0
      omega)
    exact (first_reads arg3 arg15 X3 X15 (i 2).val (i 2).isLt _ _ _ _ _ _ _ _ 0 h cl x).trans (if_pos rfl)

/-- The staged queries after a first tile: the next slot holds the second tile's, the other the tile's own. -/
theorem runStart_stage (hf : isFirst i) (hs : isStart i) (sl : Fin 2) (h : Fin 4) (cl : Fin 1024) (x : Fin 256) :
    arg15.view.read (Elt Ideal) (runStart (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.1 (ix4 sl h cl x)
      = if sl = nxtSlot i then wG (arg8.view.read (Elt Ideal) X8) ((i 2).val + 1) h cl x else wG (arg3.view.read (Elt Ideal) X3) (i 2).val h cl x := by
  have h2 : (i 2).val = 0 := first_tile i hf
  unfold runStart
  dsimp only
  sl_unfold_run_names
  refine (stage_reads arg15.view X15 _ (nxtSlot i) (off1_at i) (off2_at i) (off3_at i) (off4_at i) _ _ _ _ _ _ _ _ (wG (arg8.view.read (Elt Ideal) X8) ((i 2).val + 1))
    (fun cl x => (congrFun (pay252_eq _ _ _ _) _).trans (stage_pay _ _ _ _ 0 (mask_pay _ (i 2).isLt) (head_load arg8.view X8 0 rfl _) cl x))
    (fun cl x => (congrFun (pay256_eq _ _ _) _).trans (stage_pay _ _ _ _ 1 (mask_pay _ (i 2).isLt) (head_load arg8.view X8 1 rfl _) cl x))
    (fun cl x => stage_pay _ _ _ _ 2 (mask_pay _ (i 2).isLt) (head_load arg8.view X8 2 rfl _) cl x)
    (fun cl x => (congrFun (pay261_eq _ _ _) _).trans (stage_pay _ _ _ _ 3 (mask_pay _ (i 2).isLt) (head_load arg8.view X8 3 rfl _) cl x)) sl h cl x).trans ?_
  by_cases hsl : sl = nxtSlot i
  · rw [if_pos hsl, if_pos hsl]
  · rw [if_neg hsl, if_neg hsl]
    obtain rfl : sl = 0 := Fin.ext (by
      have h1 : sl.val ≠ 1 - (i 2).val % 2 := fun e => hsl (Fin.ext e)
      show sl.val = 0
      omega)
    exact (first_reads arg3 arg15 X3 X15 (i 2).val (i 2).isLt _ _ _ _ _ _ _ _ 0 h cl x).trans (if_pos rfl)

end

end Cert.KernelIdeal.Hand

end
-- ==== Proof.KernelIdeal.BodyLoop.lean ====
module

public import proofs.«01_k».proof.Proof.KernelIdeal.Run
public import proofs.«01_k».proof.Proof.KernelIdeal.Loop
public import proofs.«01_k».proof.Proof.KernelIdeal.Stage
public import Idealize.ShloMosaic.Lib.WritesUnit

@[expose] public section

/-! # The key loop inside the body's runs -/

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic

/-- The remainder loop writes nothing. -/
theorem rest_nil (𝒱 : Variants) (c : Dev nD) (bd : Option 𝒱.V) (i : grid0.Coords) (arg3 : Memref sig .tc .vmem S1x512x512 .f32) (harg3 : arg3.IsWhole) (arg4 : Memref sig .tc .vmem S1x8192x512 .bf16) (harg4 : arg4.IsWhole) (arg5 : Memref sig .tc .vmem S1x4x16x144x512 .bf16) (harg5 : arg5.IsWhole) (arg6 : Memref sig .tc .vmem S8192x128 .bf16) (harg6 : arg6.IsWhole) (arg7 : Memref sig .tc .vmem S1024x1024 .bf16) (harg7 : arg7.IsWhole) (arg8 : Memref sig .tc .vmem S1x512x512 .f32) (harg8 : arg8.IsWhole) (arg9 : Memref sig .tc .vmem S1x512x512 .bf16) (harg9 : arg9.IsWhole) (arg10 : Memref sig .tc .vmem S1x128 .f32) (harg10 : arg10.IsWhole) (arg11 : Memref sig .tc .vmem S4x64 .f32) (harg11 : arg11.IsWhole) (arg12 : Memref sig .tc .vmem S1x512x1024 .f32) (harg12 : arg12.IsWhole) (arg13 : Memref sig .tc .vmem S1x512x512 .bf16) (harg13 : arg13.IsWhole) (arg14 : Memref sig .tc .vmem S1x512x1024 .f32) (harg14 : arg14.IsWhole) (arg15 : Memref sig .tc .vmem S2x4x1024x256 .bf16) (harg15 : arg15.IsWhole) (arg16 : Memref sig .tc .vmem S512x4096 .f32) (harg16 : arg16.IsWhole) (arg17 : Memref sig .tc .vmem S1x4096 .f32) (harg17 : arg17.IsWhole) (arg18 : Memref sig .tc .vmem S1x4096 .f32) (harg18 : arg18.IsWhole) (arg19 : Memref sig .tc .vmem S144x4096 .f32) (harg19 : arg19.IsWhole) (arg0 : BitVec 32) (arg1 : BitVec 32) (arg2 : BitVec 32) (v0 : IVec S512x128 32) (v11 : BitVec 32) (v12 : BitVec 32) (v33 : BitVec 32) (v47 : FVec Ideal S512x128 .bf16) (v109 : FVec Ideal S512x128 .bf16) (v110 : FVec Ideal S512x128 .bf16) (v111 : IVec S512x128 32) (v139 : BitVec 32) (X_arg4 : BufTy.Contents (Elt Ideal) arg4.view.ty) (X_arg5 : BufTy.Contents (Elt Ideal) arg5.view.ty) (X_arg6 : BufTy.Contents (Elt Ideal) arg6.view.ty) (X_arg15 : BufTy.Contents (Elt Ideal) arg15.view.ty) (G_arg16 : BufTy.Contents (Elt Ideal) arg16.view.ty) (G_arg17 : BufTy.Contents (Elt Ideal) arg17.view.ty) (G_arg18 : BufTy.Contents (Elt Ideal) arg18.view.ty) (G_arg19 : BufTy.Contents (Elt Ideal) arg19.view.ty) (n : ℕ) (hn : n = 0) :
    pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 v139 X_arg4 X_arg5 X_arg6 X_arg15 G_arg16 G_arg17 G_arg18 G_arg19 n = ([], [], [], []) := by
  rw [hn]
  rfl

section

variable (c : Dev nD)
  (i : grid0.Coords)
  (arg3 : Memref sig .tc .vmem S1x512x512 .f32)
  (harg3 : arg3.IsWhole)
  (arg4 : Memref sig .tc .vmem S1x8192x512 .bf16)
  (harg4 : arg4.IsWhole)
  (arg5 : Memref sig .tc .vmem S1x4x16x144x512 .bf16)
  (harg5 : arg5.IsWhole)
  (arg6 : Memref sig .tc .vmem S8192x128 .bf16)
  (harg6 : arg6.IsWhole)
  (arg7 : Memref sig .tc .vmem S1024x1024 .bf16)
  (harg7 : arg7.IsWhole)
  (arg8 : Memref sig .tc .vmem S1x512x512 .f32)
  (harg8 : arg8.IsWhole)
  (arg9 : Memref sig .tc .vmem S1x512x512 .bf16)
  (harg9 : arg9.IsWhole)
  (arg10 : Memref sig .tc .vmem S1x128 .f32)
  (harg10 : arg10.IsWhole)
  (arg11 : Memref sig .tc .vmem S4x64 .f32)
  (harg11 : arg11.IsWhole)
  (arg12 : Memref sig .tc .vmem S1x512x1024 .f32)
  (harg12 : arg12.IsWhole)
  (arg13 : Memref sig .tc .vmem S1x512x512 .bf16)
  (harg13 : arg13.IsWhole)
  (arg14 : Memref sig .tc .vmem S1x512x1024 .f32)
  (harg14 : arg14.IsWhole)
  (arg15 : Memref sig .tc .vmem S2x4x1024x256 .bf16)
  (harg15 : arg15.IsWhole)
  (arg16 : Memref sig .tc .vmem S512x4096 .f32)
  (harg16 : arg16.IsWhole)
  (arg17 : Memref sig .tc .vmem S1x4096 .f32)
  (harg17 : arg17.IsWhole)
  (arg18 : Memref sig .tc .vmem S1x4096 .f32)
  (harg18 : arg18.IsWhole)
  (arg19 : Memref sig .tc .vmem S144x4096 .f32)
  (harg19 : arg19.IsWhole)

/-- The scratch memories after the loop, from its entry contents: the loop's parameters that its result does not depend on are forgotten. -/
def LoopRes (X4 : BufTy.Contents (Elt Ideal) arg4.view.ty) (X5 : BufTy.Contents (Elt Ideal) arg5.view.ty) (X6 : BufTy.Contents (Elt Ideal) arg6.view.ty)
    (C15 : BufTy.Contents (Elt Ideal) arg15.view.ty) (f16 C16 : BufTy.Contents (Elt Ideal) arg16.view.ty) (f17 C17 : BufTy.Contents (Elt Ideal) arg17.view.ty)
    (C19 : BufTy.Contents (Elt Ideal) arg19.view.ty) : Prop :=
  ∃ (𝒱 : Variants) (bd : Option 𝒱.V) (arg0 arg1 arg2 : BitVec 32) (v0 : IVec S512x128 32) (v11 v12 v33 : BitVec 32) (v47 v109 v110 : FVec Ideal S512x128 .bf16)
    (v111 : IVec S512x128 32) (f18 : BufTy.Contents (Elt Ideal) arg18.view.ty) (f19 : BufTy.Contents (Elt Ideal) arg19.view.ty),
    arg16.view.read (Elt Ideal) C16 = rd16 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X4 X5 X6 C15 f16 f17 f18 f19 (Scf.trips (k0_t1_loop i).lb (k0_t1_loop i).ub (k0_t1_loop i).st)
    ∧ arg17.view.read (Elt Ideal) C17 = rd17 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X4 X5 X6 C15 f16 f17 f18 f19 (Scf.trips (k0_t1_loop i).lb (k0_t1_loop i).ub (k0_t1_loop i).st)
    ∧ arg19.view.read (Elt Ideal) C19 = rd19 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X4 X5 X6 C15 f16 f17 f18 f19 (Scf.trips (k0_t1_loop i).lb (k0_t1_loop i).ub (k0_t1_loop i).st)
    ∧ ∀ y, arg18.view.read (Elt Ideal) f18 (ix2 0 y) = ⊥

variable (X3 : BufTy.Contents (Elt Ideal) arg3.view.ty)
  (X4 : BufTy.Contents (Elt Ideal) arg4.view.ty)
  (X5 : BufTy.Contents (Elt Ideal) arg5.view.ty)
  (X6 : BufTy.Contents (Elt Ideal) arg6.view.ty)
  (X7 : BufTy.Contents (Elt Ideal) arg7.view.ty)
  (X8 : BufTy.Contents (Elt Ideal) arg8.view.ty)
  (X9 : BufTy.Contents (Elt Ideal) arg9.view.ty)
  (X10 : BufTy.Contents (Elt Ideal) arg10.view.ty)
  (X11 : BufTy.Contents (Elt Ideal) arg11.view.ty)
  (X12 : BufTy.Contents (Elt Ideal) arg12.view.ty)
  (X13 : BufTy.Contents (Elt Ideal) arg13.view.ty)
  (X14 : BufTy.Contents (Elt Ideal) arg14.view.ty)
  (X15 : BufTy.Contents (Elt Ideal) arg15.view.ty)
  (X16 : BufTy.Contents (Elt Ideal) arg16.view.ty)
  (X17 : BufTy.Contents (Elt Ideal) arg17.view.ty)
  (X18 : BufTy.Contents (Elt Ideal) arg18.view.ty)
  (X19 : BufTy.Contents (Elt Ideal) arg19.view.ty)

/-- The cleared running maximum. -/
theorem start_max (L : List (View.Piece (Elt Ideal) S1x4096 .f32)) (f : BufTy.Contents (Elt Ideal) arg18.view.ty) (inb : ∀ a, ![0, 0] a + ![1, 4096] a ≤ S1x4096.size a) (y : Fin 4096) :
    arg18.view.read (Elt Ideal) (arg18.view.writes (Elt Ideal) f (⟨Rect.unit (s := S1x4096) ![0, 0] ![1, 4096] inb, k0_pay262 (F := Ideal)⟩ :: L)) (ix2 0 y) = ⊥ := by
  refine (View.read_writes_cons_unit_of_mem arg18.view f inb _ L _ (ix2 0 y) rfl (by intro a; match a with | ⟨0, _⟩ => rfl | ⟨1, _⟩ => exact (Nat.zero_add _).symm)).trans ?_
  pointwise [k0_pay262]
  exact IdealRules.named_const.ideal_named_scalar _ _ _ _ rfl

/-- The loop past the first tile: it starts from what the point before staged. -/
theorem runNext_loop (hf : ¬isFirst i) (hs : ¬isStart i) :
    LoopRes c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 X5 X6 (runNext (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.1 X16 (runNext (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.1 X17 (runNext (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.1 (runNext (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.2.2.val := by
  unfold runNext
  dsimp only
  sl_unfold_run_names
  unfold LoopRes
  iterate 15 apply Exists.intro
  refine ⟨?_, ?_, ?_, ?_⟩
  · rw [rest_nil (hn := trips2_eq i), List.nil_append]
    rfl
  · rw [rest_nil (hn := trips2_eq i), List.nil_append]
    rfl
  · rw [rest_nil (hn := trips2_eq i), List.nil_append]
    rfl
  · exact fun y => start_max arg18 [] _ _ y

/-- The score of a query tile with staged columns `G` against key row `512 j + r`. -/
def scoreS (K : S1x8192x512.Idx → EReal) (C : S8192x128.Idx → EReal) (G : Fin 4 → Fin 1024 → Fin 256 → EReal) (j : Fin 16) (r : Fin 512) (y : Fin 4096) : EReal :=
  scoreG K C (fun z => G (z 1) (z 2) (z 3)) 0 j r y

theorem scoreG_eq_scoreS (K : S1x8192x512.Idx → EReal) (C : S8192x128.Idx → EReal) (W : S2x4x1024x256.Idx → EReal) (G : Fin 4 → Fin 1024 → Fin 256 → EReal) (sl : Fin 2)
    (h : ∀ h cl x, W (ix4 sl h cl x) = G h cl x) (j : Fin 16) (r : Fin 512) (y : Fin 4096) : scoreG K C W sl j r y = scoreS K C G j r y := by
  unfold scoreS scoreG
  simp only [h]
  rfl

/-- The first tile's staged queries, as the point's own stores left them. -/
def firstW (n : ℕ) : BufTy.Contents (Elt Ideal) arg15.view.ty :=
  arg15.view.writes (Elt Ideal) arg15.view.junk (firstPieces arg3 X3 n (by decide) (by decide) (by decide) (by decide) (by decide) (by decide) (by decide) (by decide))

theorem firstW_reads (n : ℕ) (hn : n < 16) (h : Fin 4) (cl : Fin 1024) (x : Fin 256) :
    arg15.view.read (Elt Ideal) (firstW arg3 arg15 X3 n) (ix4 0 h cl x) = wG (arg3.view.read (Elt Ideal) X3) n h cl x :=
  (first_reads arg3 arg15 X3 arg15.view.junk n hn _ _ _ _ _ _ _ _ 0 h cl x).trans (if_pos rfl)

/-- The loop at a first tile: it starts from the first block's scores, and their greatest, of the tile's own queries. -/
theorem runFirst_loop (hf : isFirst i) (hs : ¬isStart i) : ∃ f16 f17,
    LoopRes c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 X5 X6 (runFirst (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.1 f16 (runFirst (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.1 f17 (runFirst (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.1 (runFirst (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.2.2.val
    ∧ (∀ r y, arg16.view.read (Elt Ideal) f16 (ix2 r y) = scoreS (arg4.view.read (Elt Ideal) X4) (arg6.view.read (Elt Ideal) X6) (wG (arg3.view.read (Elt Ideal) X3) (i 2).val) 0 r y)
    ∧ (∀ y, arg17.view.read (Elt Ideal) f17 (ix2 0 y) = Finset.fold max ⊥ (fun r : Fin 512 => scoreS (arg4.view.read (Elt Ideal) X4) (arg6.view.read (Elt Ideal) X6) (wG (arg3.view.read (Elt Ideal) X3) (i 2).val) 0 r y) Finset.univ) := by
  unfold runFirst
  dsimp only
  sl_unfold_run_names
  iterate 2 apply Exists.intro
  refine ⟨?_, ?_, ?_⟩
  · unfold LoopRes
    iterate 15 apply Exists.intro
    refine ⟨?_, ?_, ?_, ?_⟩
    · rw [rest_nil (hn := trips2_eq i), List.nil_append, View.writes_append]
      rfl
    · rw [rest_nil (hn := trips2_eq i), List.nil_append, View.writes_append]
      rfl
    · rw [rest_nil (hn := trips2_eq i), List.nil_append]
      first
        | rfl
        | (rw [View.writes_append]; rfl)
    · exact fun y => start_max arg18 [] _ _ y
  · intro r y
    have cv : ∀ z : S512x4096.Idx, scoreG (arg4.view.read (Elt Ideal) X4) (arg6.view.read (Elt Ideal) X6) (arg15.view.read (Elt Ideal) (firstW arg3 arg15 X3 (i 2).val)) 0 0 (z 0) (z 1)
        = scoreS (arg4.view.read (Elt Ideal) X4) (arg6.view.read (Elt Ideal) X6) (wG (arg3.view.read (Elt Ideal) X3) (i 2).val) 0 (z 0) (z 1) :=
      fun z => scoreG_eq_scoreS _ _ _ _ _ (firstW_reads arg3 arg15 X3 (i 2).val (i 2).isLt) _ _ _
    refine View.read_writes_apply_of_pieces (Val := Elt Ideal) (v := arg16.view) _ (fun z : S512x4096.Idx => scoreS (arg4.view.read (Elt Ideal) X4) (arg6.view.read (Elt Ideal) X6) (wG (arg3.view.read (Elt Ideal) X3) (i 2).val) 0 (z 0) (z 1)) _ ?_ (ix2 r y)
      (View.cover_of_tiledL _ ![512, 256] (by sl_kernel_rfl) _)
    simp only [List.forall_mem_cons, List.not_mem_nil, false_imp_iff, implies_true, and_true]
    exact ⟨(fun x => (score_piece X4 X6 (firstW arg3 arg15 X3 (i 2).val) 3840 0 0 3 (by decide) rfl rfl rfl _ _ _ _ _ x).trans (cv _)),
      (fun x => (score_piece X4 X6 (firstW arg3 arg15 X3 (i 2).val) 3584 0 0 3 (by decide) rfl rfl rfl _ _ _ _ _ x).trans (cv _)),
      (fun x => (score_piece X4 X6 (firstW arg3 arg15 X3 (i 2).val) 3328 0 0 3 (by decide) rfl rfl rfl _ _ _ _ _ x).trans (cv _)),
      (fun x => (score_piece X4 X6 (firstW arg3 arg15 X3 (i 2).val) 3072 0 0 3 (by decide) rfl rfl rfl _ _ _ _ _ x).trans (cv _)),
      (fun x => (score_piece X4 X6 (firstW arg3 arg15 X3 (i 2).val) 2816 0 0 2 (by decide) rfl rfl rfl _ _ _ _ _ x).trans (cv _)),
      (fun x => (score_piece X4 X6 (firstW arg3 arg15 X3 (i 2).val) 2560 0 0 2 (by decide) rfl rfl rfl _ _ _ _ _ x).trans (cv _)),
      (fun x => (score_piece X4 X6 (firstW arg3 arg15 X3 (i 2).val) 2304 0 0 2 (by decide) rfl rfl rfl _ _ _ _ _ x).trans (cv _)),
      (fun x => (score_piece X4 X6 (firstW arg3 arg15 X3 (i 2).val) 2048 0 0 2 (by decide) rfl rfl rfl _ _ _ _ _ x).trans (cv _)),
      (fun x => (score_piece X4 X6 (firstW arg3 arg15 X3 (i 2).val) 1792 0 0 1 (by decide) rfl rfl rfl _ _ _ _ _ x).trans (cv _)),
      (fun x => (score_piece X4 X6 (firstW arg3 arg15 X3 (i 2).val) 1536 0 0 1 (by decide) rfl rfl rfl _ _ _ _ _ x).trans (cv _)),
      (fun x => (score_piece X4 X6 (firstW arg3 arg15 X3 (i 2).val) 1280 0 0 1 (by decide) rfl rfl rfl _ _ _ _ _ x).trans (cv _)),
      (fun x => (score_piece X4 X6 (firstW arg3 arg15 X3 (i 2).val) 1024 0 0 1 (by decide) rfl rfl rfl _ _ _ _ _ x).trans (cv _)),
      (fun x => (score_piece X4 X6 (firstW arg3 arg15 X3 (i 2).val) 768 0 0 0 (by decide) rfl rfl rfl _ _ _ _ _ x).trans (cv _)),
      (fun x => (score_piece X4 X6 (firstW arg3 arg15 X3 (i 2).val) 512 0 0 0 (by decide) rfl rfl rfl _ _ _ _ _ x).trans (cv _)),
      (fun x => (score_piece X4 X6 (firstW arg3 arg15 X3 (i 2).val) 256 0 0 0 (by decide) rfl rfl rfl _ _ _ _ _ x).trans (cv _)),
      (fun x => (score_piece X4 X6 (firstW arg3 arg15 X3 (i 2).val) 0 0 0 0 (by decide) rfl rfl rfl _ _ _ _ _ x).trans (cv _))⟩
  · intro y
    have cv : ∀ z : S1x4096.Idx, Finset.fold max ⊥ (fun r : Fin 512 => scoreG (arg4.view.read (Elt Ideal) X4) (arg6.view.read (Elt Ideal) X6) (arg15.view.read (Elt Ideal) (firstW arg3 arg15 X3 (i 2).val)) 0 0 r (z 1)) Finset.univ
        = Finset.fold max ⊥ (fun r : Fin 512 => scoreS (arg4.view.read (Elt Ideal) X4) (arg6.view.read (Elt Ideal) X6) (wG (arg3.view.read (Elt Ideal) X3) (i 2).val) 0 r (z 1)) Finset.univ :=
      fun z => Finset.fold_congr fun r _ => scoreG_eq_scoreS _ _ _ _ _ (firstW_reads arg3 arg15 X3 (i 2).val (i 2).isLt) _ _ _
    refine View.read_writes_apply_of_pieces (Val := Elt Ideal) (v := arg17.view) _ (fun z : S1x4096.Idx => Finset.fold max ⊥ (fun r : Fin 512 => scoreS (arg4.view.read (Elt Ideal) X4) (arg6.view.read (Elt Ideal) X6) (wG (arg3.view.read (Elt Ideal) X3) (i 2).val) 0 r (z 1)) Finset.univ) _ ?_ (ix2 0 y)
      (View.cover_of_tiledL _ ![1, 256] (by sl_kernel_rfl) _)
    simp only [List.forall_mem_cons, List.not_mem_nil, false_imp_iff, implies_true, and_true]
    exact ⟨(fun x => (max_piece X4 X6 (firstW arg3 arg15 X3 (i 2).val) 3840 0 0 3 (by decide) rfl rfl rfl _ _ _ _ x).trans (cv _)),
      (fun x => (max_piece X4 X6 (firstW arg3 arg15 X3 (i 2).val) 3584 0 0 3 (by decide) rfl rfl rfl _ _ _ _ x).trans (cv _)),
      (fun x => (max_piece X4 X6 (firstW arg3 arg15 X3 (i 2).val) 3328 0 0 3 (by decide) rfl rfl rfl _ _ _ _ x).trans (cv _)),
      (fun x => (max_piece X4 X6 (firstW arg3 arg15 X3 (i 2).val) 3072 0 0 3 (by decide) rfl rfl rfl _ _ _ _ x).trans (cv _)),
      (fun x => (max_piece X4 X6 (firstW arg3 arg15 X3 (i 2).val) 2816 0 0 2 (by decide) rfl rfl rfl _ _ _ _ x).trans (cv _)),
      (fun x => (max_piece X4 X6 (firstW arg3 arg15 X3 (i 2).val) 2560 0 0 2 (by decide) rfl rfl rfl _ _ _ _ x).trans (cv _)),
      (fun x => (max_piece X4 X6 (firstW arg3 arg15 X3 (i 2).val) 2304 0 0 2 (by decide) rfl rfl rfl _ _ _ _ x).trans (cv _)),
      (fun x => (max_piece X4 X6 (firstW arg3 arg15 X3 (i 2).val) 2048 0 0 2 (by decide) rfl rfl rfl _ _ _ _ x).trans (cv _)),
      (fun x => (max_piece X4 X6 (firstW arg3 arg15 X3 (i 2).val) 1792 0 0 1 (by decide) rfl rfl rfl _ _ _ _ x).trans (cv _)),
      (fun x => (max_piece X4 X6 (firstW arg3 arg15 X3 (i 2).val) 1536 0 0 1 (by decide) rfl rfl rfl _ _ _ _ x).trans (cv _)),
      (fun x => (max_piece X4 X6 (firstW arg3 arg15 X3 (i 2).val) 1280 0 0 1 (by decide) rfl rfl rfl _ _ _ _ x).trans (cv _)),
      (fun x => (max_piece X4 X6 (firstW arg3 arg15 X3 (i 2).val) 1024 0 0 1 (by decide) rfl rfl rfl _ _ _ _ x).trans (cv _)),
      (fun x => (max_piece X4 X6 (firstW arg3 arg15 X3 (i 2).val) 768 0 0 0 (by decide) rfl rfl rfl _ _ _ _ x).trans (cv _)),
      (fun x => (max_piece X4 X6 (firstW arg3 arg15 X3 (i 2).val) 512 0 0 0 (by decide) rfl rfl rfl _ _ _ _ x).trans (cv _)),
      (fun x => (max_piece X4 X6 (firstW arg3 arg15 X3 (i 2).val) 256 0 0 0 (by decide) rfl rfl rfl _ _ _ _ x).trans (cv _)),
      (fun x => (max_piece X4 X6 (firstW arg3 arg15 X3 (i 2).val) 0 0 0 0 (by decide) rfl rfl rfl _ _ _ _ x).trans (cv _))⟩

/-- The loop at the very first point: it starts from the first block's scores, and their greatest, of the tile's own queries. -/
theorem runStart_loop (hf : isFirst i) (hs : isStart i) : ∃ f16 f17,
    LoopRes c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 X5 X6 (runStart (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.1 f16 (runStart (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.1 f17 (runStart (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.1 (runStart (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.2.2.val
    ∧ (∀ r y, arg16.view.read (Elt Ideal) f16 (ix2 r y) = scoreS (arg4.view.read (Elt Ideal) X4) (arg6.view.read (Elt Ideal) X6) (wG (arg3.view.read (Elt Ideal) X3) (i 2).val) 0 r y)
    ∧ (∀ y, arg17.view.read (Elt Ideal) f17 (ix2 0 y) = Finset.fold max ⊥ (fun r : Fin 512 => scoreS (arg4.view.read (Elt Ideal) X4) (arg6.view.read (Elt Ideal) X6) (wG (arg3.view.read (Elt Ideal) X3) (i 2).val) 0 r y) Finset.univ) := by
  unfold runStart
  dsimp only
  sl_unfold_run_names
  iterate 2 apply Exists.intro
  refine ⟨?_, ?_, ?_⟩
  · unfold LoopRes
    iterate 15 apply Exists.intro
    refine ⟨?_, ?_, ?_, ?_⟩
    · rw [rest_nil (hn := trips2_eq i), List.nil_append, View.writes_append]
      rfl
    · rw [rest_nil (hn := trips2_eq i), List.nil_append, View.writes_append]
      rfl
    · rw [rest_nil (hn := trips2_eq i), List.nil_append]
      first
        | rfl
        | (rw [View.writes_append]; rfl)
    · exact fun y => start_max arg18 [] _ _ y
  · intro r y
    have cv : ∀ z : S512x4096.Idx, scoreG (arg4.view.read (Elt Ideal) X4) (arg6.view.read (Elt Ideal) X6) (arg15.view.read (Elt Ideal) (firstW arg3 arg15 X3 (i 2).val)) 0 0 (z 0) (z 1)
        = scoreS (arg4.view.read (Elt Ideal) X4) (arg6.view.read (Elt Ideal) X6) (wG (arg3.view.read (Elt Ideal) X3) (i 2).val) 0 (z 0) (z 1) :=
      fun z => scoreG_eq_scoreS _ _ _ _ _ (firstW_reads arg3 arg15 X3 (i 2).val (i 2).isLt) _ _ _
    refine View.read_writes_apply_of_pieces (Val := Elt Ideal) (v := arg16.view) _ (fun z : S512x4096.Idx => scoreS (arg4.view.read (Elt Ideal) X4) (arg6.view.read (Elt Ideal) X6) (wG (arg3.view.read (Elt Ideal) X3) (i 2).val) 0 (z 0) (z 1)) _ ?_ (ix2 r y)
      (View.cover_of_tiledL _ ![512, 256] (by sl_kernel_rfl) _)
    simp only [List.forall_mem_cons, List.not_mem_nil, false_imp_iff, implies_true, and_true]
    exact ⟨(fun x => (score_piece X4 X6 (firstW arg3 arg15 X3 (i 2).val) 3840 0 0 3 (by decide) rfl rfl rfl _ _ _ _ _ x).trans (cv _)),
      (fun x => (score_piece X4 X6 (firstW arg3 arg15 X3 (i 2).val) 3584 0 0 3 (by decide) rfl rfl rfl _ _ _ _ _ x).trans (cv _)),
      (fun x => (score_piece X4 X6 (firstW arg3 arg15 X3 (i 2).val) 3328 0 0 3 (by decide) rfl rfl rfl _ _ _ _ _ x).trans (cv _)),
      (fun x => (score_piece X4 X6 (firstW arg3 arg15 X3 (i 2).val) 3072 0 0 3 (by decide) rfl rfl rfl _ _ _ _ _ x).trans (cv _)),
      (fun x => (score_piece X4 X6 (firstW arg3 arg15 X3 (i 2).val) 2816 0 0 2 (by decide) rfl rfl rfl _ _ _ _ _ x).trans (cv _)),
      (fun x => (score_piece X4 X6 (firstW arg3 arg15 X3 (i 2).val) 2560 0 0 2 (by decide) rfl rfl rfl _ _ _ _ _ x).trans (cv _)),
      (fun x => (score_piece X4 X6 (firstW arg3 arg15 X3 (i 2).val) 2304 0 0 2 (by decide) rfl rfl rfl _ _ _ _ _ x).trans (cv _)),
      (fun x => (score_piece X4 X6 (firstW arg3 arg15 X3 (i 2).val) 2048 0 0 2 (by decide) rfl rfl rfl _ _ _ _ _ x).trans (cv _)),
      (fun x => (score_piece X4 X6 (firstW arg3 arg15 X3 (i 2).val) 1792 0 0 1 (by decide) rfl rfl rfl _ _ _ _ _ x).trans (cv _)),
      (fun x => (score_piece X4 X6 (firstW arg3 arg15 X3 (i 2).val) 1536 0 0 1 (by decide) rfl rfl rfl _ _ _ _ _ x).trans (cv _)),
      (fun x => (score_piece X4 X6 (firstW arg3 arg15 X3 (i 2).val) 1280 0 0 1 (by decide) rfl rfl rfl _ _ _ _ _ x).trans (cv _)),
      (fun x => (score_piece X4 X6 (firstW arg3 arg15 X3 (i 2).val) 1024 0 0 1 (by decide) rfl rfl rfl _ _ _ _ _ x).trans (cv _)),
      (fun x => (score_piece X4 X6 (firstW arg3 arg15 X3 (i 2).val) 768 0 0 0 (by decide) rfl rfl rfl _ _ _ _ _ x).trans (cv _)),
      (fun x => (score_piece X4 X6 (firstW arg3 arg15 X3 (i 2).val) 512 0 0 0 (by decide) rfl rfl rfl _ _ _ _ _ x).trans (cv _)),
      (fun x => (score_piece X4 X6 (firstW arg3 arg15 X3 (i 2).val) 256 0 0 0 (by decide) rfl rfl rfl _ _ _ _ _ x).trans (cv _)),
      (fun x => (score_piece X4 X6 (firstW arg3 arg15 X3 (i 2).val) 0 0 0 0 (by decide) rfl rfl rfl _ _ _ _ _ x).trans (cv _))⟩
  · intro y
    have cv : ∀ z : S1x4096.Idx, Finset.fold max ⊥ (fun r : Fin 512 => scoreG (arg4.view.read (Elt Ideal) X4) (arg6.view.read (Elt Ideal) X6) (arg15.view.read (Elt Ideal) (firstW arg3 arg15 X3 (i 2).val)) 0 0 r (z 1)) Finset.univ
        = Finset.fold max ⊥ (fun r : Fin 512 => scoreS (arg4.view.read (Elt Ideal) X4) (arg6.view.read (Elt Ideal) X6) (wG (arg3.view.read (Elt Ideal) X3) (i 2).val) 0 r (z 1)) Finset.univ :=
      fun z => Finset.fold_congr fun r _ => scoreG_eq_scoreS _ _ _ _ _ (firstW_reads arg3 arg15 X3 (i 2).val (i 2).isLt) _ _ _
    refine View.read_writes_apply_of_pieces (Val := Elt Ideal) (v := arg17.view) _ (fun z : S1x4096.Idx => Finset.fold max ⊥ (fun r : Fin 512 => scoreS (arg4.view.read (Elt Ideal) X4) (arg6.view.read (Elt Ideal) X6) (wG (arg3.view.read (Elt Ideal) X3) (i 2).val) 0 r (z 1)) Finset.univ) _ ?_ (ix2 0 y)
      (View.cover_of_tiledL _ ![1, 256] (by sl_kernel_rfl) _)
    simp only [List.forall_mem_cons, List.not_mem_nil, false_imp_iff, implies_true, and_true]
    exact ⟨(fun x => (max_piece X4 X6 (firstW arg3 arg15 X3 (i 2).val) 3840 0 0 3 (by decide) rfl rfl rfl _ _ _ _ x).trans (cv _)),
      (fun x => (max_piece X4 X6 (firstW arg3 arg15 X3 (i 2).val) 3584 0 0 3 (by decide) rfl rfl rfl _ _ _ _ x).trans (cv _)),
      (fun x => (max_piece X4 X6 (firstW arg3 arg15 X3 (i 2).val) 3328 0 0 3 (by decide) rfl rfl rfl _ _ _ _ x).trans (cv _)),
      (fun x => (max_piece X4 X6 (firstW arg3 arg15 X3 (i 2).val) 3072 0 0 3 (by decide) rfl rfl rfl _ _ _ _ x).trans (cv _)),
      (fun x => (max_piece X4 X6 (firstW arg3 arg15 X3 (i 2).val) 2816 0 0 2 (by decide) rfl rfl rfl _ _ _ _ x).trans (cv _)),
      (fun x => (max_piece X4 X6 (firstW arg3 arg15 X3 (i 2).val) 2560 0 0 2 (by decide) rfl rfl rfl _ _ _ _ x).trans (cv _)),
      (fun x => (max_piece X4 X6 (firstW arg3 arg15 X3 (i 2).val) 2304 0 0 2 (by decide) rfl rfl rfl _ _ _ _ x).trans (cv _)),
      (fun x => (max_piece X4 X6 (firstW arg3 arg15 X3 (i 2).val) 2048 0 0 2 (by decide) rfl rfl rfl _ _ _ _ x).trans (cv _)),
      (fun x => (max_piece X4 X6 (firstW arg3 arg15 X3 (i 2).val) 1792 0 0 1 (by decide) rfl rfl rfl _ _ _ _ x).trans (cv _)),
      (fun x => (max_piece X4 X6 (firstW arg3 arg15 X3 (i 2).val) 1536 0 0 1 (by decide) rfl rfl rfl _ _ _ _ x).trans (cv _)),
      (fun x => (max_piece X4 X6 (firstW arg3 arg15 X3 (i 2).val) 1280 0 0 1 (by decide) rfl rfl rfl _ _ _ _ x).trans (cv _)),
      (fun x => (max_piece X4 X6 (firstW arg3 arg15 X3 (i 2).val) 1024 0 0 1 (by decide) rfl rfl rfl _ _ _ _ x).trans (cv _)),
      (fun x => (max_piece X4 X6 (firstW arg3 arg15 X3 (i 2).val) 768 0 0 0 (by decide) rfl rfl rfl _ _ _ _ x).trans (cv _)),
      (fun x => (max_piece X4 X6 (firstW arg3 arg15 X3 (i 2).val) 512 0 0 0 (by decide) rfl rfl rfl _ _ _ _ x).trans (cv _)),
      (fun x => (max_piece X4 X6 (firstW arg3 arg15 X3 (i 2).val) 256 0 0 0 (by decide) rfl rfl rfl _ _ _ _ x).trans (cv _)),
      (fun x => (max_piece X4 X6 (firstW arg3 arg15 X3 (i 2).val) 0 0 0 0 (by decide) rfl rfl rfl _ _ _ _ x).trans (cv _))⟩

end

end Cert.KernelIdeal.Hand

end
-- ==== Proof.KernelIdeal.Attn.lean ====
module

public import proofs.«01_k».proof.Proof.KernelIdeal.Weights
public import proofs.«01_k».proof.Proof.KernelIdeal.LoopMath
public import proofs.«01_k».proof.Proof.KernelIdeal.Epilogue
public import proofs.«01_k».proof.Proof.KernelIdeal.BodyLoop

@[expose] public section

/-! # A query tile's attention, as sums of real numbers -/

noncomputable section

namespace Cert.KernelIdeal.Hand

open Cert.KernelIdeal Cert.KernelIdeal.Gen
open Idealize.ShloMosaic Idealize.ShloMosaic.TcCoe

/-- The tile row of a column. -/
def rowOf (y : Fin 4096) : Fin 512 := ⟨y.val % 1024 % 512, by omega⟩
/-- The component (of the two) of a column. -/
def compOf (y : Fin 4096) : Fin 2 := ⟨y.val % 1024 / 512, by omega⟩

/-- The logit of column `y` against key row `512 j + r`. -/
def zR (q : S1x512x512.Idx → EReal) (K : S1x8192x512.Idx → EReal) (j : Fin 16) (r : Fin 512) (y : Fin 4096) : ℝ :=
  ∑ f : Fin 64, (K (ix3 0 (⟨512 * j.val + r.val, by omega⟩ : Fin 8192) (⟨128 * (headOf y).val + (64 * (compOf y).val + f.val), by omega⟩ : Fin 512))).toReal
    * (q (ix3 0 (rowOf y) (⟨128 * (headOf y).val + (64 * (compOf y).val + f.val), by omega⟩ : Fin 512))).toReal

/-- Its weight: nothing for a key in a later chunk. -/
def eR (q : S1x512x512.Idx → EReal) (K : S1x8192x512.Idx → EReal) (T : ℕ) (j : Fin 16) (r : Fin 512) (y : Fin 4096) : ℝ :=
  if (T * 512 + (rowOf y).val) / 64 < (512 * j.val + r.val) / 64 then 0 else Real.exp (zR q K j r y / 8)

/-- The weighted value row `a` of column `y`. -/
def nR (q : S1x512x512.Idx → EReal) (K : S1x8192x512.Idx → EReal) (V : S1x4x16x144x512.Idx → EReal) (T : ℕ) (a : Fin 144) (y : Fin 4096) : ℝ :=
  ∑ j : Fin 16, ∑ r : Fin 512, eR q K T j r y * (V (ix5 0 (headOf y) j a r)).toReal

/-- The attention: the weighted value rows over the weighted row of ones. -/
def attnG (q : S1x512x512.Idx → EReal) (K : S1x8192x512.Idx → EReal) (V : S1x4x16x144x512.Idx → EReal) (T : ℕ) : S144x4096.Idx → EReal :=
  fun z => ((nR q K V T (z 0) (z 1) / nR q K V T (128 : Fin 144) (z 1) : ℝ) : EReal)

/-- A sum over 128 places of which one half of 64 counts. -/
theorem sum_comp (g : Fin 128 → EReal) (c : Fin 2) :
    ∑ x : Fin 128, (if x.val / 64 = c.val then g x else 0) = ∑ f : Fin 64, g ⟨64 * c.val + f.val, by omega⟩ := by
  refine (Fin.sum_univ_add (a := 64) (b := 64) _).trans ?_
  match c with
  | ⟨0, _⟩ =>
    refine (congr (congrArg _ (Finset.sum_congr rfl fun x _ => ?_)) (Finset.sum_eq_zero fun x _ => ?_)).trans (add_zero _)
    · rw [if_pos (by show x.val / 64 = 0; omega)]
      exact congrArg g (Fin.ext (by show x.val = 64 * 0 + x.val; omega))
    · rw [if_neg]
      show ¬ (64 + x.val) / 64 = 0
      omega
  | ⟨1, _⟩ =>
    refine (congr (congrArg _ (Finset.sum_eq_zero fun x _ => ?_)) (Finset.sum_congr rfl fun x _ => ?_)).trans (zero_add _)
    · rw [if_neg]
      show ¬ x.val / 64 = 1
      omega
    · rw [if_pos (by show (64 + x.val) / 64 = 1; omega)]
      exact congrArg g (Fin.ext (by show 64 + x.val = 64 * 1 + x.val; omega))

/-- The table that picks out a key's chunk. -/
def IsFeat (C : S8192x128.Idx → EReal) : Prop := ∀ (n : Fin 8192) (x : Fin 128), C (ix2 n x) = if n.val / 64 = x.val then 1 else 0
/-- Every element is a real number. -/
def RealAll {s : Shape} (f : s.Idx → EReal) : Prop := ∀ z, f z = ((f z).toReal : EReal)

variable (q : S1x512x512.Idx → EReal) (K : S1x8192x512.Idx → EReal) (C : S8192x128.Idx → EReal) (V : S1x4x16x144x512.Idx → EReal) (T : ℕ)

theorem mask_sum (hC : IsFeat C) (n : Fin 8192) (r : Fin 512) :
    ∑ x : Fin 128, C (ix2 n x) * maskG T r x = if (T * 512 + r.val) / 64 < n.val / 64 then ⊥ else 0 := by
  rw [Finset.sum_eq_single (⟨n.val / 64, by omega⟩ : Fin 128)]
  · rw [hC, if_pos rfl, one_mul]
    rfl
  · intro b _ hb
    rw [hC, if_neg (fun e => hb (Fin.ext e.symm)), zero_mul]
  · intro h
    exact absurd (Finset.mem_univ _) h

/-- A score is minus infinity for a masked key and otherwise the scaled logit. -/
theorem scoreS_eq (hC : IsFeat C) (hq : RealAll q) (hK : RealAll K) (j : Fin 16) (r : Fin 512) (y : Fin 4096) :
    scoreS K C (wG q T) j r y
      = ((zR q K j r y * (8 * Real.log 2)⁻¹ : ℝ) : EReal) + if (T * 512 + (rowOf y).val) / 64 < (512 * j.val + r.val) / 64 then ⊥ else 0 := by
  unfold scoreS scoreG
  refine congr (congrArg _ ?_) ?_
  · have hx : ∀ x : Fin 128, K (ix3 0 (⟨512 * j.val + r.val, by omega⟩ : Fin 8192) (⟨128 * (headOf y).val + x.val, by omega⟩ : Fin 512))
          * wG q T (headOf y) (colOf y) (⟨x.val, by omega⟩ : Fin 256)
        = if x.val / 64 = (compOf y).val then
            K (ix3 0 (⟨512 * j.val + r.val, by omega⟩ : Fin 8192) (⟨128 * (headOf y).val + x.val, by omega⟩ : Fin 512))
              * (q (ix3 0 (rowOf y) (⟨128 * (headOf y).val + x.val, by omega⟩ : Fin 512)) * (((8 * Real.log 2)⁻¹ : ℝ) : EReal)) else 0 := by
      intro x
      unfold wG
      rw [dif_pos (show x.val < 128 from x.isLt), mul_ite, mul_zero]
      rfl
    refine (Finset.sum_congr rfl fun x _ => hx x).trans ((sum_comp _ (compOf y)).trans ?_)
    have ht : ∀ f : Fin 64, K (ix3 0 (⟨512 * j.val + r.val, by omega⟩ : Fin 8192) (⟨128 * (headOf y).val + (64 * (compOf y).val + f.val), by omega⟩ : Fin 512))
              * (q (ix3 0 (rowOf y) (⟨128 * (headOf y).val + (64 * (compOf y).val + f.val), by omega⟩ : Fin 512)) * (((8 * Real.log 2)⁻¹ : ℝ) : EReal))
        = (((K (ix3 0 (⟨512 * j.val + r.val, by omega⟩ : Fin 8192) (⟨128 * (headOf y).val + (64 * (compOf y).val + f.val), by omega⟩ : Fin 512))).toReal
            * (q (ix3 0 (rowOf y) (⟨128 * (headOf y).val + (64 * (compOf y).val + f.val), by omega⟩ : Fin 512))).toReal * (8 * Real.log 2)⁻¹ : ℝ) : EReal) := by
      intro f
      rw [mul_assoc, EReal.coe_mul, EReal.coe_mul, ← hK, ← hq]
    refine (Finset.sum_congr rfl fun f _ => ht f).trans ?_
    rw [← coe_sum, ← Finset.sum_mul]
    rfl
  · refine (Finset.sum_congr rfl fun x _ => ?_).trans (mask_sum C T hC (⟨512 * j.val + r.val, by omega⟩ : Fin 8192) (rowOf y))
    refine congrArg _ ?_
    show wG q T (headOf y) (colOf y) (⟨128 + x.val, by omega⟩ : Fin 256) = _
    unfold wG
    rw [dif_neg (show ¬ 128 + x.val < 128 by omega)]
    exact congrArg (maskG T _) (Fin.ext (by show 128 + x.val - 128 = x.val; omega))

theorem two_rpow (z : ℝ) : (2 : ℝ) ^ (z * (8 * Real.log 2)⁻¹) = Real.exp (z / 8) := by
  rw [Real.rpow_def_of_pos two_pos]
  congr 1
  have : Real.log 2 ≠ 0 := (Real.log_pos one_lt_two).ne'
  field_simp

theorem scoreS_weighs (hC : IsFeat C) (hq : RealAll q) (hK : RealAll K) (j : Fin 16) (r : Fin 512) (y : Fin 4096) :
    Weighs (scoreS K C (wG q T) j r y) (eR q K T j r y) := by
  rw [scoreS_eq q K C T hC hq hK]
  unfold eR
  split
  · exact Or.inl ⟨EReal.add_bot _, rfl⟩
  · exact Or.inr ⟨_, add_zero _, (two_rpow _).symm⟩

theorem scoreS_first (hC : IsFeat C) (hq : RealAll q) (hK : RealAll K) (y : Fin 4096) : scoreS K C (wG q T) 0 0 y ≠ ⊥ := by
  rw [scoreS_eq q K C T hC hq hK, if_neg (by show ¬ _ < (512 * 0 + 0) / 64; omega), add_zero]
  exact EReal.coe_ne_bot _

theorem eR_late (j : Fin 16) (r : Fin 512) (y : Fin 4096) (h : ¬ j.val < T + 1) : eR q K T j r y = 0 := by
  unfold eR
  exact if_pos (by have := (rowOf y).isLt; omega)

theorem eR_nonneg (j : Fin 16) (r : Fin 512) (y : Fin 4096) : 0 ≤ eR q K T j r y := by
  unfold eR
  split
  · exact le_refl _
  · exact (Real.exp_pos _).le

/-- The rows of ones weigh something. -/
theorem nR_pos (h1 : ∀ h j r, V (ix5 0 h j (128 : Fin 144) r) = 1) (y : Fin 4096) : 0 < nR q K V T (128 : Fin 144) y := by
  unfold nR
  simp only [h1, EReal.toReal_one, mul_one]
  refine Finset.sum_pos' (fun j _ => Finset.sum_nonneg fun r _ => eR_nonneg q K T j r y) ⟨0, Finset.mem_univ _, ?_⟩
  refine Finset.sum_pos' (fun r _ => eR_nonneg q K T 0 r y) ⟨0, Finset.mem_univ _, ?_⟩
  unfold eR
  rw [if_neg (by show ¬ _ < (512 * 0 + 0) / 64; omega)]
  exact Real.exp_pos _

/-- Normalising takes the scale out. -/
theorem norm_scale (s n d : ℝ) (hs : 0 < s) (hd : 0 < d) : ((s * n : ℝ) : EReal) * Ideal.div 1 ((s * d : ℝ) : EReal) = ((n / d : ℝ) : EReal) := by
  have h : Ideal.div 1 ((s * d : ℝ) : EReal) = ((1 / (s * d) : ℝ) : EReal) := (Ideal.div_coe (mul_pos hs hd).ne' 1).trans (one_mul _)
  rw [h, ← EReal.coe_mul]
  congr 1
  field_simp

/-- The output block only sees the accumulator up to a scale in each column. -/
theorem outG_scale (A : S144x4096.Idx → EReal) (h1 : ∀ h j r, V (ix5 0 h j (128 : Fin 144) r) = 1)
    (hA : ∀ y, ∃ s : ℝ, 0 < s ∧ ∀ a, A (ix2 a y) = ((s * nR q K V T a y : ℝ) : EReal))
    (lam : S4x64.Idx → EReal) (sg : S1x128.Idx → EReal) (gd : S1x512x512.Idx → EReal) (wo : S1024x1024.Idx → EReal)
    (x : S1x512x1024.Idx → EReal) (mix : S1x512x512.Idx → EReal) (r : Fin 512) (c : Fin 1024) :
    outG A lam sg gd wo x mix r c = outG (attnG q K V T) lam sg gd wo x mix r c := by
  have e : ∀ (y : Fin 4096) (f : Fin 128), A (ix2 (⟨f.val, by omega⟩ : Fin 144) y) * Ideal.div 1 (A (ix2 (128 : Fin 144) y))
      = attnG q K V T (ix2 (⟨f.val, by omega⟩ : Fin 144) y) * Ideal.div 1 (attnG q K V T (ix2 (128 : Fin 144) y)) := by
    intro y f
    obtain ⟨s, hs, h⟩ := hA y
    have hp := nR_pos q K V T h1 y
    rw [h, h, norm_scale _ _ _ hs hp]
    show _ = ((nR q K V T (⟨f.val, by omega⟩ : Fin 144) y / nR q K V T (128 : Fin 144) y : ℝ) : EReal)
      * Ideal.div 1 ((nR q K V T (128 : Fin 144) y / nR q K V T (128 : Fin 144) y : ℝ) : EReal)
    have h2 := norm_scale 1 (nR q K V T (⟨f.val, by omega⟩ : Fin 144) y / nR q K V T (128 : Fin 144) y) 1 one_pos one_pos
    rw [one_mul, one_mul, div_one] at h2
    rw [div_self hp.ne', h2]
  have eo : ∀ (L : EReal) (p p' : Fin 4096) (f : Fin 128), otG A L p p' f = otG (attnG q K V T) L p p' f := by
    intro L p p' f
    unfold otG
    rw [e p f, e p' f]
  unfold outG headG
  simp only [eo]

end Cert.KernelIdeal.Hand

end
-- ==== Proof.KernelIdeal.BodyOut.lean ====
module

public import proofs.«01_k».proof.Proof.KernelIdeal.Run
public import proofs.«01_k».proof.Proof.KernelIdeal.Chunk
public import proofs.«01_k».proof.Proof.KernelIdeal.Epilogue
public import Idealize.ShloMosaic.Lib.WritesUnit

@[expose] public section

/-! # What a point stores to the output block -/

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic

/-- A window read whole in two axes. -/
theorem whole2 {sp : Space} {m n : ℕ} {e : EltTy} (v : View sig .tc sp ⟨2, ![m, n]⟩ e) (f : v.ty.Contents (Elt Ideal))
    (inb : ∀ a, ![0, 0] a + ![m, n] a ≤ (⟨2, ![m, n]⟩ : Shape).size a) :
    v.readAt (Elt Ideal) (Rect.unit (s := ⟨2, ![m, n]⟩) ![0, 0] ![m, n] inb).toLoadRect f = v.read (Elt Ideal) f :=
  funext fun x => readAt_unit_apply v f inb x x (by intro a; match a with | ⟨0, _⟩ => exact (Nat.zero_add _).symm | ⟨1, _⟩ => exact (Nat.zero_add _).symm)

/-- A window read whole in three axes. -/
theorem whole3 {sp : Space} {l m n : ℕ} {e : EltTy} (v : View sig .tc sp ⟨3, ![l, m, n]⟩ e) (f : v.ty.Contents (Elt Ideal))
    (inb : ∀ a, ![0, 0, 0] a + ![l, m, n] a ≤ (⟨3, ![l, m, n]⟩ : Shape).size a) :
    v.readAt (Elt Ideal) (Rect.unit (s := ⟨3, ![l, m, n]⟩) ![0, 0, 0] ![l, m, n] inb).toLoadRect f = v.read (Elt Ideal) f :=
  funext fun x => readAt_unit_apply v f inb x x (by
    intro a; match a with | ⟨0, _⟩ => exact (Nat.zero_add _).symm | ⟨1, _⟩ => exact (Nat.zero_add _).symm | ⟨2, _⟩ => exact (Nat.zero_add _).symm)

/-- A block stored whole and read back whole. -/
theorem stored3 {sp : Space} {l m n : ℕ} {e : EltTy} (v : View sig .tc sp ⟨3, ![l, m, n]⟩ e)
    (inb inb' : ∀ a, ![0, 0, 0] a + ![l, m, n] a ≤ (⟨3, ![l, m, n]⟩ : Shape).size a) (p : (⟨3, ![l, m, n]⟩ : Shape).Idx → Elt Ideal e) :
    v.readCov [(⟨Rect.unit (s := ⟨3, ![l, m, n]⟩) ![0, 0, 0] ![l, m, n] inb, p⟩ : View.Piece (Elt Ideal) ⟨3, ![l, m, n]⟩ e)]
      (Rect.unit (s := ⟨3, ![l, m, n]⟩) ![0, 0, 0] ![l, m, n] inb').toLoadRect = p :=
  (whole3 v _ inb').trans (funext fun x => View.read_writes_cons_unit_of_mem v _ inb p [] x x rfl (by
    intro a; match a with | ⟨0, _⟩ => exact (Nat.zero_add _).symm | ⟨1, _⟩ => exact (Nat.zero_add _).symm | ⟨2, _⟩ => exact (Nat.zero_add _).symm))

section

variable (c : Dev nD)
  (i : grid0.Coords)
  (arg3 : Memref sig .tc .vmem S1x512x512 .f32)
  (harg3 : arg3.IsWhole)
  (arg4 : Memref sig .tc .vmem S1x8192x512 .bf16)
  (harg4 : arg4.IsWhole)
  (arg5 : Memref sig .tc .vmem S1x4x16x144x512 .bf16)
  (harg5 : arg5.IsWhole)
  (arg6 : Memref sig .tc .vmem S8192x128 .bf16)
  (harg6 : arg6.IsWhole)
  (arg7 : Memref sig .tc .vmem S1024x1024 .bf16)
  (harg7 : arg7.IsWhole)
  (arg8 : Memref sig .tc .vmem S1x512x512 .f32)
  (harg8 : arg8.IsWhole)
  (arg9 : Memref sig .tc .vmem S1x512x512 .bf16)
  (harg9 : arg9.IsWhole)
  (arg10 : Memref sig .tc .vmem S1x128 .f32)
  (harg10 : arg10.IsWhole)
  (arg11 : Memref sig .tc .vmem S4x64 .f32)
  (harg11 : arg11.IsWhole)
  (arg12 : Memref sig .tc .vmem S1x512x1024 .f32)
  (harg12 : arg12.IsWhole)
  (arg13 : Memref sig .tc .vmem S1x512x512 .bf16)
  (harg13 : arg13.IsWhole)
  (arg14 : Memref sig .tc .vmem S1x512x1024 .f32)
  (harg14 : arg14.IsWhole)
  (arg15 : Memref sig .tc .vmem S2x4x1024x256 .bf16)
  (harg15 : arg15.IsWhole)
  (arg16 : Memref sig .tc .vmem S512x4096 .f32)
  (harg16 : arg16.IsWhole)
  (arg17 : Memref sig .tc .vmem S1x4096 .f32)
  (harg17 : arg17.IsWhole)
  (arg18 : Memref sig .tc .vmem S1x4096 .f32)
  (harg18 : arg18.IsWhole)
  (arg19 : Memref sig .tc .vmem S144x4096 .f32)
  (harg19 : arg19.IsWhole)
  (X3 : BufTy.Contents (Elt Ideal) arg3.view.ty)
  (X4 : BufTy.Contents (Elt Ideal) arg4.view.ty)
  (X5 : BufTy.Contents (Elt Ideal) arg5.view.ty)
  (X6 : BufTy.Contents (Elt Ideal) arg6.view.ty)
  (X7 : BufTy.Contents (Elt Ideal) arg7.view.ty)
  (X8 : BufTy.Contents (Elt Ideal) arg8.view.ty)
  (X9 : BufTy.Contents (Elt Ideal) arg9.view.ty)
  (X10 : BufTy.Contents (Elt Ideal) arg10.view.ty)
  (X11 : BufTy.Contents (Elt Ideal) arg11.view.ty)
  (X12 : BufTy.Contents (Elt Ideal) arg12.view.ty)
  (X13 : BufTy.Contents (Elt Ideal) arg13.view.ty)
  (X14 : BufTy.Contents (Elt Ideal) arg14.view.ty)
  (X15 : BufTy.Contents (Elt Ideal) arg15.view.ty)
  (X16 : BufTy.Contents (Elt Ideal) arg16.view.ty)
  (X17 : BufTy.Contents (Elt Ideal) arg17.view.ty)
  (X18 : BufTy.Contents (Elt Ideal) arg18.view.ty)
  (X19 : BufTy.Contents (Elt Ideal) arg19.view.ty)

/-- The output block's last store, from the windows' contents. -/
theorem out_apply (f19 : BufTy.Contents (Elt Ideal) arg19.view.ty) (iA : ∀ a, ![0, 0] a + ![144, 4096] a ≤ S144x4096.size a) (iL : ∀ a, ![0, 0] a + ![4, 64] a ≤ S4x64.size a) (iS : ∀ a, ![0, 0] a + ![1, 128] a ≤ S1x128.size a) (ix : ∀ a, ![0, 0, 0] a + ![1, 512, 1024] a ≤ S1x512x1024.size a) (im : ∀ a, ![0, 0, 0] a + ![1, 512, 512] a ≤ S1x512x512.size a) (ib : ∀ a, ![512, 0] a + ![512, 1024] a ≤ S1024x1024.size a) (it : ∀ a, ![0, 0] a + ![512, 1024] a ≤ S1024x1024.size a) (j0 : ∀ a, ![0, 0, 0] a + ![1, 512, 128] a ≤ S1x512x512.size a) (j1 : ∀ a, ![0, 0, 128] a + ![1, 512, 128] a ≤ S1x512x512.size a) (j2 : ∀ a, ![0, 0, 256] a + ![1, 512, 128] a ≤ S1x512x512.size a) (j3 : ∀ a, ![0, 0, 384] a + ![1, 512, 128] a ≤ S1x512x512.size a) (y0 : FVec Ideal S1x512x1024 .f32)
    (hy : y0 = k0_pay270 (F := Ideal) (k0_pay268 (arg12.view.readAt (Elt Ideal) (Rect.unit (s := S1x512x1024) ![0, 0, 0] ![1, 512, 1024] ix).toLoadRect X12)) (k0_pay269 (arg13.view.readAt (Elt Ideal) (Rect.unit (s := S1x512x512) ![0, 0, 0] ![1, 512, 512] im).toLoadRect X13)) (arg7.view.readAt (Elt Ideal) (Rect.unit (s := S1024x1024) ![512, 0] ![512, 1024] ib).toLoadRect X7)) (r : Fin 512) (cc : Fin 1024) :
    k0_pay1 (F := Ideal) (k0_pay275 (k0_pay273 (arg19.view.readAt (Elt Ideal) (Rect.unit (s := S144x4096) ![0, 0] ![144, 4096] iA).toLoadRect f19) (arg11.view.readAt (Elt Ideal) (Rect.unit (s := S4x64) ![0, 0] ![4, 64] iL).toLoadRect X11)) (k0_pay274 (arg19.view.readAt (Elt Ideal) (Rect.unit (s := S144x4096) ![0, 0] ![144, 4096] iA).toLoadRect f19) (arg11.view.readAt (Elt Ideal) (Rect.unit (s := S4x64) ![0, 0] ![4, 64] iL).toLoadRect X11)) (arg10.view.readAt (Elt Ideal) (Rect.unit (s := S1x128) ![0, 0] ![1, 128] iS).toLoadRect X10) (arg9.view.readAt (Elt Ideal) (Rect.unit (s := S1x512x512) ![0, 0, 0] ![1, 512, 128] j0).toLoadRect X9))
        (k0_pay276 (k0_pay271 (arg19.view.readAt (Elt Ideal) (Rect.unit (s := S144x4096) ![0, 0] ![144, 4096] iA).toLoadRect f19)) (k0_pay272 (arg11.view.readAt (Elt Ideal) (Rect.unit (s := S4x64) ![0, 0] ![4, 64] iL).toLoadRect X11)) (arg10.view.readAt (Elt Ideal) (Rect.unit (s := S1x128) ![0, 0] ![1, 128] iS).toLoadRect X10) (arg9.view.readAt (Elt Ideal) (Rect.unit (s := S1x512x512) ![0, 0, 128] ![1, 512, 128] j1).toLoadRect X9))
        (k0_pay278 (k0_pay277 (k0_pay271 (arg19.view.readAt (Elt Ideal) (Rect.unit (s := S144x4096) ![0, 0] ![144, 4096] iA).toLoadRect f19)) (k0_pay272 (arg11.view.readAt (Elt Ideal) (Rect.unit (s := S4x64) ![0, 0] ![4, 64] iL).toLoadRect X11))) (arg10.view.readAt (Elt Ideal) (Rect.unit (s := S1x128) ![0, 0] ![1, 128] iS).toLoadRect X10) (arg9.view.readAt (Elt Ideal) (Rect.unit (s := S1x512x512) ![0, 0, 256] ![1, 512, 128] j2).toLoadRect X9))
        (k0_pay279 (k0_pay271 (arg19.view.readAt (Elt Ideal) (Rect.unit (s := S144x4096) ![0, 0] ![144, 4096] iA).toLoadRect f19)) (k0_pay272 (arg11.view.readAt (Elt Ideal) (Rect.unit (s := S4x64) ![0, 0] ![4, 64] iL).toLoadRect X11)) (arg10.view.readAt (Elt Ideal) (Rect.unit (s := S1x128) ![0, 0] ![1, 128] iS).toLoadRect X10)) (arg9.view.readAt (Elt Ideal) (Rect.unit (s := S1x512x512) ![0, 0, 384] ![1, 512, 128] j3).toLoadRect X9) y0 (arg7.view.readAt (Elt Ideal) (Rect.unit (s := S1024x1024) ![0, 0] ![512, 1024] it).toLoadRect X7) (ix3 0 r cc)
      = outG (arg19.view.read (Elt Ideal) f19) (arg11.view.read (Elt Ideal) X11) (arg10.view.read (Elt Ideal) X10) (arg9.view.read (Elt Ideal) X9) (arg7.view.read (Elt Ideal) X7) (arg12.view.read (Elt Ideal) X12) (arg13.view.read (Elt Ideal) X13) r cc := by
  rw [hy]
  refine (last_apply (arg19.view.readAt (Elt Ideal) (Rect.unit (s := S144x4096) ![0, 0] ![144, 4096] iA).toLoadRect f19) (arg11.view.readAt (Elt Ideal) (Rect.unit (s := S4x64) ![0, 0] ![4, 64] iL).toLoadRect X11) (arg10.view.readAt (Elt Ideal) (Rect.unit (s := S1x128) ![0, 0] ![1, 128] iS).toLoadRect X10) (arg9.view.readAt (Elt Ideal) (Rect.unit (s := S1x512x512) ![0, 0, 0] ![1, 512, 128] j0).toLoadRect X9) (arg9.view.readAt (Elt Ideal) (Rect.unit (s := S1x512x512) ![0, 0, 128] ![1, 512, 128] j1).toLoadRect X9) (arg9.view.readAt (Elt Ideal) (Rect.unit (s := S1x512x512) ![0, 0, 256] ![1, 512, 128] j2).toLoadRect X9) (arg9.view.readAt (Elt Ideal) (Rect.unit (s := S1x512x512) ![0, 0, 384] ![1, 512, 128] j3).toLoadRect X9) (arg7.view.readAt (Elt Ideal) (Rect.unit (s := S1024x1024) ![0, 0] ![512, 1024] it).toLoadRect X7) (arg7.view.readAt (Elt Ideal) (Rect.unit (s := S1024x1024) ![512, 0] ![512, 1024] ib).toLoadRect X7) (arg12.view.readAt (Elt Ideal) (Rect.unit (s := S1x512x1024) ![0, 0, 0] ![1, 512, 1024] ix).toLoadRect X12) (arg13.view.readAt (Elt Ideal) (Rect.unit (s := S1x512x512) ![0, 0, 0] ![1, 512, 512] im).toLoadRect X13) (arg9.view.read (Elt Ideal) X9) (arg7.view.read (Elt Ideal) X7)
    (fun r f => readAt_unit_apply arg9.view X9 j0 (ix3 0 r f) _ (by intro d; match d with | ⟨0, _⟩ => rfl | ⟨1, _⟩ => exact (Nat.zero_add _).symm | ⟨2, _⟩ => exact (Nat.zero_add _).symm))
    (fun r f => readAt_unit_apply arg9.view X9 j1 (ix3 0 r f) _ (by intro d; match d with | ⟨0, _⟩ => rfl | ⟨1, _⟩ => exact (Nat.zero_add _).symm | ⟨2, _⟩ => rfl))
    (fun r f => readAt_unit_apply arg9.view X9 j2 (ix3 0 r f) _ (by intro d; match d with | ⟨0, _⟩ => rfl | ⟨1, _⟩ => exact (Nat.zero_add _).symm | ⟨2, _⟩ => rfl))
    (fun r f => readAt_unit_apply arg9.view X9 j3 (ix3 0 r f) _ (by intro d; match d with | ⟨0, _⟩ => rfl | ⟨1, _⟩ => exact (Nat.zero_add _).symm | ⟨2, _⟩ => rfl))
    (fun d c => readAt_unit_apply arg7.view X7 it (ix2 d c) _ (by intro a; match a with | ⟨0, _⟩ => exact (Nat.zero_add _).symm | ⟨1, _⟩ => exact (Nat.zero_add _).symm))
    (fun d c => readAt_unit_apply arg7.view X7 ib (ix2 d c) _ (by intro a; match a with | ⟨0, _⟩ => rfl | ⟨1, _⟩ => exact (Nat.zero_add _).symm)) r cc).trans ?_
  have e1 := whole2 arg19.view f19 iA
  have e2 := whole2 arg11.view X11 iL
  have e3 := whole2 arg10.view X10 iS
  have e4 := whole3 arg12.view X12 ix
  have e5 := whole3 arg13.view X13 im
  exact congr (congr (congrFun (congrFun (congr (congr (congrArg outG e1) e2) e3) _) _) e4) e5 ▸ rfl

/-- The output block past the first tile. -/
theorem runNext_out (hf : ¬isFirst i) (hs : ¬isStart i) (r : Fin 512) (cc : Fin 1024) :
    arg14.view.read (Elt Ideal) (runNext (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).1 (ix3 0 r cc)
      = outG (arg19.view.read (Elt Ideal) (runNext (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.2.2.val) (arg11.view.read (Elt Ideal) X11) (arg10.view.read (Elt Ideal) X10) (arg9.view.read (Elt Ideal) X9) (arg7.view.read (Elt Ideal) X7) (arg12.view.read (Elt Ideal) X12) (arg13.view.read (Elt Ideal) X13) r cc := by
  unfold runNext
  dsimp only
  sl_unfold_run_names
  refine (View.read_writes_cons_unit_of_mem arg14.view _ _ _ _ (ix3 0 r cc) (ix3 0 r cc) rfl (by
    intro a; match a with | ⟨0, _⟩ => rfl | ⟨1, _⟩ => exact (Nat.zero_add _).symm | ⟨2, _⟩ => exact (Nat.zero_add _).symm)).trans ?_
  exact out_apply arg7 arg9 arg10 arg11 arg12 arg13 arg19 X7 X9 X10 X11 X12 X13 _ (by decide) (by decide) (by decide) (by decide) (by decide) (by decide) (by decide) (by decide) (by decide) (by decide) (by decide) _ (stored3 arg14.view _ _ _) r cc

/-- The output block of a first tile. -/
theorem runFirst_out (hf : isFirst i) (hs : ¬isStart i) (r : Fin 512) (cc : Fin 1024) :
    arg14.view.read (Elt Ideal) (runFirst (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).1 (ix3 0 r cc)
      = outG (arg19.view.read (Elt Ideal) (runFirst (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.2.2.val) (arg11.view.read (Elt Ideal) X11) (arg10.view.read (Elt Ideal) X10) (arg9.view.read (Elt Ideal) X9) (arg7.view.read (Elt Ideal) X7) (arg12.view.read (Elt Ideal) X12) (arg13.view.read (Elt Ideal) X13) r cc := by
  unfold runFirst
  dsimp only
  sl_unfold_run_names
  refine (View.read_writes_cons_unit_of_mem arg14.view _ _ _ _ (ix3 0 r cc) (ix3 0 r cc) rfl (by
    intro a; match a with | ⟨0, _⟩ => rfl | ⟨1, _⟩ => exact (Nat.zero_add _).symm | ⟨2, _⟩ => exact (Nat.zero_add _).symm)).trans ?_
  exact out_apply arg7 arg9 arg10 arg11 arg12 arg13 arg19 X7 X9 X10 X11 X12 X13 _ (by decide) (by decide) (by decide) (by decide) (by decide) (by decide) (by decide) (by decide) (by decide) (by decide) (by decide) _ (stored3 arg14.view _ _ _) r cc

/-- The output block at the very first point. -/
theorem runStart_out (hf : isFirst i) (hs : isStart i) (r : Fin 512) (cc : Fin 1024) :
    arg14.view.read (Elt Ideal) (runStart (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).1 (ix3 0 r cc)
      = outG (arg19.view.read (Elt Ideal) (runStart (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.2.2.val) (arg11.view.read (Elt Ideal) X11) (arg10.view.read (Elt Ideal) X10) (arg9.view.read (Elt Ideal) X9) (arg7.view.read (Elt Ideal) X7) (arg12.view.read (Elt Ideal) X12) (arg13.view.read (Elt Ideal) X13) r cc := by
  unfold runStart
  dsimp only
  sl_unfold_run_names
  refine (View.read_writes_cons_unit_of_mem arg14.view _ _ _ _ (ix3 0 r cc) (ix3 0 r cc) rfl (by
    intro a; match a with | ⟨0, _⟩ => rfl | ⟨1, _⟩ => exact (Nat.zero_add _).symm | ⟨2, _⟩ => exact (Nat.zero_add _).symm)).trans ?_
  exact out_apply arg7 arg9 arg10 arg11 arg12 arg13 arg19 X7 X9 X10 X11 X12 X13 _ (by decide) (by decide) (by decide) (by decide) (by decide) (by decide) (by decide) (by decide) (by decide) (by decide) (by decide) _ (stored3 arg14.view _ _ _) r cc

end

end Cert.KernelIdeal.Hand

end
-- ==== Proof.KernelIdeal.BodyValue.lean ====
module

public import proofs.«01_k».proof.Proof.KernelIdeal.Attn
public import proofs.«01_k».proof.Proof.KernelIdeal.BodyOut

@[expose] public section

/-! # What a point leaves: its output block, and the next tile staged -/

set_option maxRecDepth 65536
set_option maxHeartbeats 4000000

noncomputable section

namespace Cert.KernelIdeal.Hand

open Cert.KernelIdeal Cert.KernelIdeal.Gen
open Idealize.ShloMosaic Idealize.ShloMosaic.TcCoe

/-- Query tile `T`, with contents `q`, is staged in slot `sl`: its columns, its scores against the first key block and their greatest. -/
def Staged (q : S1x512x512.Idx → EReal) (K : S1x8192x512.Idx → EReal) (C : S8192x128.Idx → EReal) (T : ℕ) (sl : Fin 2)
    (W : S2x4x1024x256.Idx → EReal) (S : S512x4096.Idx → EReal) (M : S1x4096.Idx → EReal) : Prop :=
  (∀ h cl x, W (ix4 sl h cl x) = wG q T h cl x) ∧ (∀ r y, S (ix2 r y) = scoreS K C (wG q T) 0 r y)
    ∧ ∀ y, M (ix2 0 y) = Finset.fold max ⊥ (fun r : Fin 512 => scoreS K C (wG q T) 0 r y) Finset.univ

theorem cur_ne_nxt (i : grid0.Coords) : curSlot i ≠ nxtSlot i := fun e => by
  have h : (i 2).val % 2 = 1 - (i 2).val % 2 := congrArg Fin.val e
  omega

section

variable (c : Dev nD)
  (i : grid0.Coords)
  (arg3 : Memref sig .tc .vmem S1x512x512 .f32)
  (harg3 : arg3.IsWhole)
  (arg4 : Memref sig .tc .vmem S1x8192x512 .bf16)
  (harg4 : arg4.IsWhole)
  (arg5 : Memref sig .tc .vmem S1x4x16x144x512 .bf16)
  (harg5 : arg5.IsWhole)
  (arg6 : Memref sig .tc .vmem S8192x128 .bf16)
  (harg6 : arg6.IsWhole)
  (arg7 : Memref sig .tc .vmem S1024x1024 .bf16)
  (harg7 : arg7.IsWhole)
  (arg8 : Memref sig .tc .vmem S1x512x512 .f32)
  (harg8 : arg8.IsWhole)
  (arg9 : Memref sig .tc .vmem S1x512x512 .bf16)
  (harg9 : arg9.IsWhole)
  (arg10 : Memref sig .tc .vmem S1x128 .f32)
  (harg10 : arg10.IsWhole)
  (arg11 : Memref sig .tc .vmem S4x64 .f32)
  (harg11 : arg11.IsWhole)
  (arg12 : Memref sig .tc .vmem S1x512x1024 .f32)
  (harg12 : arg12.IsWhole)
  (arg13 : Memref sig .tc .vmem S1x512x512 .bf16)
  (harg13 : arg13.IsWhole)
  (arg14 : Memref sig .tc .vmem S1x512x1024 .f32)
  (harg14 : arg14.IsWhole)
  (arg15 : Memref sig .tc .vmem S2x4x1024x256 .bf16)
  (harg15 : arg15.IsWhole)
  (arg16 : Memref sig .tc .vmem S512x4096 .f32)
  (harg16 : arg16.IsWhole)
  (arg17 : Memref sig .tc .vmem S1x4096 .f32)
  (harg17 : arg17.IsWhole)
  (arg18 : Memref sig .tc .vmem S1x4096 .f32)
  (harg18 : arg18.IsWhole)
  (arg19 : Memref sig .tc .vmem S144x4096 .f32)
  (harg19 : arg19.IsWhole)

/-- The loop's outcome from a staged tile. -/
theorem loop_value (X4 : BufTy.Contents (Elt Ideal) arg4.view.ty) (X5 : BufTy.Contents (Elt Ideal) arg5.view.ty) (X6 : BufTy.Contents (Elt Ideal) arg6.view.ty)
    (C15 : BufTy.Contents (Elt Ideal) arg15.view.ty) (f16 C16 : BufTy.Contents (Elt Ideal) arg16.view.ty) (f17 C17 : BufTy.Contents (Elt Ideal) arg17.view.ty)
    (C19 : BufTy.Contents (Elt Ideal) arg19.view.ty)
    (hl : LoopRes c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 X5 X6 C15 f16 C16 f17 C17 C19)
    (q nq : S1x512x512.Idx → EReal) (hC : IsFeat (arg6.view.read (Elt Ideal) X6)) (hq : RealAll q) (hK : RealAll (s := S1x8192x512) (arg4.view.read (Elt Ideal) X4))
    (hV : RealAll (s := S1x4x16x144x512) (arg5.view.read (Elt Ideal) X5))
    (hs : Staged q (arg4.view.read (Elt Ideal) X4) (arg6.view.read (Elt Ideal) X6) (i 2).val (curSlot i) (arg15.view.read (Elt Ideal) C15) (arg16.view.read (Elt Ideal) f16) (arg17.view.read (Elt Ideal) f17))
    (hn : ∀ h cl x, arg15.view.read (Elt Ideal) C15 (ix4 (nxtSlot i) h cl x) = wG nq ((i 2).val + 1) h cl x) :
    Staged nq (arg4.view.read (Elt Ideal) X4) (arg6.view.read (Elt Ideal) X6) ((i 2).val + 1) (nxtSlot i) (arg15.view.read (Elt Ideal) C15) (arg16.view.read (Elt Ideal) C16) (arg17.view.read (Elt Ideal) C17)
    ∧ ∀ y, ∃ s : ℝ, 0 < s ∧ ∀ a, arg19.view.read (Elt Ideal) C19 (ix2 a y) = ((s * nR q (arg4.view.read (Elt Ideal) X4) (arg5.view.read (Elt Ideal) X5) (i 2).val a y : ℝ) : EReal) := by
  obtain ⟨𝒱, bd, arg0, arg1, arg2, v0, v11, v12, v33, v47, v109, v110, v111, f18, f19, e16, e17, e19, h18⟩ := hl
  have R := loop_facts 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 arg2 v0 v11 v12 v33 v47 v109 v110 v111 X4 X5 X6 C15 f16 f17 f18 f19
    (fun j r y => scoreS (arg4.view.read (Elt Ideal) X4) (arg6.view.read (Elt Ideal) X6) (wG q (i 2).val) j r y)
    (fun j r y => eR q (arg4.view.read (Elt Ideal) X4) (i 2).val j r y)
    (fun j r y => scoreG_eq_scoreS _ _ _ _ _ hs.1 j r y)
    (fun j r y => scoreS_weighs q _ _ _ hC hq hK j r y) (fun y => ⟨0, scoreS_first q _ _ _ hC hq hK y⟩)
    (fun h j a r => (arg5.view.read (Elt Ideal) X5 (ix5 0 h j a r)).toReal) (fun h j a r => hV _)
    (fun j r y h => eR_late q _ _ j r y h) hs.2.1 hs.2.2 h18
  obtain ⟨r16, r17, r19⟩ := R
  refine ⟨⟨hn, fun r y => ?_, fun y => ?_⟩, fun y => ?_⟩
  · rw [e16, r16]
    exact scoreG_eq_scoreS _ _ _ _ _ hn 0 r y
  · rw [e17, r17]
    exact Finset.fold_congr fun r _ => scoreG_eq_scoreS _ _ _ _ _ hn 0 r y
  · obtain ⟨μ, h⟩ := r19 y
    refine ⟨2 ^ (-μ), Real.rpow_pos_of_pos two_pos _, fun a => ?_⟩
    rw [e19, h a]
    rfl

variable (X3 : BufTy.Contents (Elt Ideal) arg3.view.ty)
  (X4 : BufTy.Contents (Elt Ideal) arg4.view.ty)
  (X5 : BufTy.Contents (Elt Ideal) arg5.view.ty)
  (X6 : BufTy.Contents (Elt Ideal) arg6.view.ty)
  (X7 : BufTy.Contents (Elt Ideal) arg7.view.ty)
  (X8 : BufTy.Contents (Elt Ideal) arg8.view.ty)
  (X9 : BufTy.Contents (Elt Ideal) arg9.view.ty)
  (X10 : BufTy.Contents (Elt Ideal) arg10.view.ty)
  (X11 : BufTy.Contents (Elt Ideal) arg11.view.ty)
  (X12 : BufTy.Contents (Elt Ideal) arg12.view.ty)
  (X13 : BufTy.Contents (Elt Ideal) arg13.view.ty)
  (X14 : BufTy.Contents (Elt Ideal) arg14.view.ty)
  (X15 : BufTy.Contents (Elt Ideal) arg15.view.ty)
  (X16 : BufTy.Contents (Elt Ideal) arg16.view.ty)
  (X17 : BufTy.Contents (Elt Ideal) arg17.view.ty)
  (X18 : BufTy.Contents (Elt Ideal) arg18.view.ty)
  (X19 : BufTy.Contents (Elt Ideal) arg19.view.ty)

/-- A point past the first tile: its output block, and the next tile staged. -/
theorem runNext_value (hf : ¬isFirst i) (hs : ¬isStart i) (hC : IsFeat (arg6.view.read (Elt Ideal) X6)) (hq : RealAll (s := S1x512x512) (arg3.view.read (Elt Ideal) X3)) (hK : RealAll (s := S1x8192x512) (arg4.view.read (Elt Ideal) X4))
    (hV : RealAll (s := S1x4x16x144x512) (arg5.view.read (Elt Ideal) X5)) (h1 : ∀ h j r, (arg5.view.read (Elt Ideal) X5 : S1x4x16x144x512.Idx → EReal) (ix5 0 h j (128 : Fin 144) r) = 1)
    (hst : Staged (arg3.view.read (Elt Ideal) X3) (arg4.view.read (Elt Ideal) X4) (arg6.view.read (Elt Ideal) X6) (i 2).val (curSlot i) (arg15.view.read (Elt Ideal) X15) (arg16.view.read (Elt Ideal) X16) (arg17.view.read (Elt Ideal) X17)) :
    (∀ r cc, arg14.view.read (Elt Ideal) (runNext (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).1 (ix3 0 r cc)
      = outG (attnG (arg3.view.read (Elt Ideal) X3) (arg4.view.read (Elt Ideal) X4) (arg5.view.read (Elt Ideal) X5) (i 2).val) (arg11.view.read (Elt Ideal) X11) (arg10.view.read (Elt Ideal) X10) (arg9.view.read (Elt Ideal) X9) (arg7.view.read (Elt Ideal) X7) (arg12.view.read (Elt Ideal) X12) (arg13.view.read (Elt Ideal) X13) r cc)
    ∧ Staged (arg8.view.read (Elt Ideal) X8) (arg4.view.read (Elt Ideal) X4) (arg6.view.read (Elt Ideal) X6) ((i 2).val + 1) (nxtSlot i) (arg15.view.read (Elt Ideal) (runNext (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.1) (arg16.view.read (Elt Ideal) (runNext (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.1) (arg17.view.read (Elt Ideal) (runNext (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.1) := by
  have L := loop_value c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 X5 X6 _ X16 _ X17 _ _ (runNext_loop c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs) (arg3.view.read (Elt Ideal) X3) (arg8.view.read (Elt Ideal) X8) hC hq hK hV
    ⟨fun h cl x => ((runNext_stage c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs (curSlot i) h cl x).trans (if_neg (cur_ne_nxt i))).trans (hst.1 h cl x), hst.2⟩
    (fun h cl x => (runNext_stage c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs (nxtSlot i) h cl x).trans (if_pos rfl))
  refine ⟨fun r cc => ?_, L.1⟩
  exact (runNext_out c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs r cc).trans (outG_scale _ _ _ _ _ h1 L.2 _ _ _ _ _ _ r cc)

/-- A point of a first tile: its output block, and the next tile staged. -/
theorem runFirst_value (hf : isFirst i) (hs : ¬isStart i) (hC : IsFeat (arg6.view.read (Elt Ideal) X6)) (hq : RealAll (s := S1x512x512) (arg3.view.read (Elt Ideal) X3)) (hK : RealAll (s := S1x8192x512) (arg4.view.read (Elt Ideal) X4))
    (hV : RealAll (s := S1x4x16x144x512) (arg5.view.read (Elt Ideal) X5)) (h1 : ∀ h j r, (arg5.view.read (Elt Ideal) X5 : S1x4x16x144x512.Idx → EReal) (ix5 0 h j (128 : Fin 144) r) = 1) :
    (∀ r cc, arg14.view.read (Elt Ideal) (runFirst (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).1 (ix3 0 r cc)
      = outG (attnG (arg3.view.read (Elt Ideal) X3) (arg4.view.read (Elt Ideal) X4) (arg5.view.read (Elt Ideal) X5) (i 2).val) (arg11.view.read (Elt Ideal) X11) (arg10.view.read (Elt Ideal) X10) (arg9.view.read (Elt Ideal) X9) (arg7.view.read (Elt Ideal) X7) (arg12.view.read (Elt Ideal) X12) (arg13.view.read (Elt Ideal) X13) r cc)
    ∧ Staged (arg8.view.read (Elt Ideal) X8) (arg4.view.read (Elt Ideal) X4) (arg6.view.read (Elt Ideal) X6) ((i 2).val + 1) (nxtSlot i) (arg15.view.read (Elt Ideal) (runFirst (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.1) (arg16.view.read (Elt Ideal) (runFirst (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.1) (arg17.view.read (Elt Ideal) (runFirst (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.1) := by
  obtain ⟨f16, f17, hl, h16, h17⟩ := runFirst_loop c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs
  have L := loop_value c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 X5 X6 _ f16 _ f17 _ _ hl (arg3.view.read (Elt Ideal) X3) (arg8.view.read (Elt Ideal) X8) hC hq hK hV
    ⟨fun h cl x => (runFirst_stage c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs (curSlot i) h cl x).trans (if_neg (cur_ne_nxt i)), h16, h17⟩
    (fun h cl x => (runFirst_stage c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs (nxtSlot i) h cl x).trans (if_pos rfl))
  refine ⟨fun r cc => ?_, L.1⟩
  exact (runFirst_out c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs r cc).trans (outG_scale _ _ _ _ _ h1 L.2 _ _ _ _ _ _ r cc)

/-- A point at the very first point: its output block, and the next tile staged. -/
theorem runStart_value (hf : isFirst i) (hs : isStart i) (hC : IsFeat (arg6.view.read (Elt Ideal) X6)) (hq : RealAll (s := S1x512x512) (arg3.view.read (Elt Ideal) X3)) (hK : RealAll (s := S1x8192x512) (arg4.view.read (Elt Ideal) X4))
    (hV : RealAll (s := S1x4x16x144x512) (arg5.view.read (Elt Ideal) X5)) (h1 : ∀ h j r, (arg5.view.read (Elt Ideal) X5 : S1x4x16x144x512.Idx → EReal) (ix5 0 h j (128 : Fin 144) r) = 1) :
    (∀ r cc, arg14.view.read (Elt Ideal) (runStart (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).1 (ix3 0 r cc)
      = outG (attnG (arg3.view.read (Elt Ideal) X3) (arg4.view.read (Elt Ideal) X4) (arg5.view.read (Elt Ideal) X5) (i 2).val) (arg11.view.read (Elt Ideal) X11) (arg10.view.read (Elt Ideal) X10) (arg9.view.read (Elt Ideal) X9) (arg7.view.read (Elt Ideal) X7) (arg12.view.read (Elt Ideal) X12) (arg13.view.read (Elt Ideal) X13) r cc)
    ∧ Staged (arg8.view.read (Elt Ideal) X8) (arg4.view.read (Elt Ideal) X4) (arg6.view.read (Elt Ideal) X6) ((i 2).val + 1) (nxtSlot i) (arg15.view.read (Elt Ideal) (runStart (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.1) (arg16.view.read (Elt Ideal) (runStart (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.1) (arg17.view.read (Elt Ideal) (runStart (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs).2.2.2.1) := by
  obtain ⟨f16, f17, hl, h16, h17⟩ := runStart_loop c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs
  have L := loop_value c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 X5 X6 _ f16 _ f17 _ _ hl (arg3.view.read (Elt Ideal) X3) (arg8.view.read (Elt Ideal) X8) hC hq hK hV
    ⟨fun h cl x => (runStart_stage c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs (curSlot i) h cl x).trans (if_neg (cur_ne_nxt i)), h16, h17⟩
    (fun h cl x => (runStart_stage c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs (nxtSlot i) h cl x).trans (if_pos rfl))
  refine ⟨fun r cc => ?_, L.1⟩
  exact (runStart_out c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs r cc).trans (outG_scale _ _ _ _ _ h1 L.2 _ _ _ _ _ _ r cc)

end

end Cert.KernelIdeal.Hand

end
-- ==== Proof.KernelIdeal.Host.lean ====
module

public import proofs.«01_k».proof.Proof.KernelIdeal.Attn
public import Idealize.ShloMosaic.Lib.Pipeline.ValueKit.Geometry
public import Idealize.ShloMosaic.Lib.StableHlo.ReadAt

@[expose] public section

/-! # The host arrays and the windows' blocks, at an index -/

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The keys as staged are the argument. -/
theorem host_k (z : S8x8192x512.Idx) : V m c main_v0 z = m ((c : Thread nD τ).loc main_arg1) z := by
  unfold V; after_reads_at
theorem host_gd (z : S8x8192x512.Idx) : V m c main_v15 z = m ((c : Thread nD τ).loc main_arg3) z := by
  unfold V; after_reads_at
theorem host_mix (z : S8x8192x512.Idx) : V m c main_v16 z = m ((c : Thread nD τ).loc main_arg10) z := by
  unfold V; after_reads_at
theorem host_wo (a b : Fin 1024) : V m c main_v18 (ix2 a b) = m ((c : Thread nD τ).loc main_arg11) (ix3 0 a b) := by
  unfold V; after_reads_at
/-- The values as staged: the first 128 rows a head's values transposed, the others ones. -/
theorem host_v (b : Fin 8) (h : Fin 4) (j : Fin 16) (a : Fin 144) (r : Fin 512) :
    V m c main_v5 (ix5 b h j a r) = if ha : a.val < 128 then m ((c : Thread nD τ).loc main_arg2) (ix4 b (⟨512 * j.val + r.val, by omega⟩ : Fin 8192) h (⟨a.val, ha⟩ : Fin 128)) else (1 : EReal) := by
  unfold V; after_reads_at
  split
  · after_reads_at
    exact congrArg _ (congrArg (fun n => ix4 b n h _) (Fin.ext (by show j.val * 512 + r.val = 512 * j.val + r.val; omega)))
  · after_reads_at
/-- The four rows of parameters. -/
theorem host_lam (k : Fin 4) (x : Fin 64) :
    V m c main_v14 (ix2 k x) = (![m ((c : Thread nD τ).loc main_arg5), m ((c : Thread nD τ).loc main_arg6), m ((c : Thread nD τ).loc main_arg7), m ((c : Thread nD τ).loc main_arg8)] k : S1x64.Idx → EReal) (ix2 0 x) := by
  match k with
  | 0 => unfold V; after_reads_at; after_reads_at
  | 1 => unfold V; after_reads_at; after_reads_at
  | 2 => unfold V; after_reads_at; after_reads_at
  | 3 => unfold V; after_reads_at; after_reads_at
theorem shr_six : ∀ n : Fin 8192, IntOp.shrsi ArithUnit.host (BitVec.ofNat 32 n.val) 6#32 = BitVec.ofNat 32 (n.val / 64) := by decide +kernel
theorem host_feat : IsFeat (V m c main_v25) := fun n x => by
  unfold V; after_reads_at
  rw [shr_six]
  by_cases h : n.val / 64 = x.val
  · rw [if_pos h, h]
    simp [IntOp.cmpi, Scalar.select]
  · rw [if_neg h]
    have : BitVec.ofNat 32 (n.val / 64) ≠ BitVec.ofNat 32 x.val := fun e => h (by have := congrArg BitVec.toNat e; simp only [BitVec.toNat_ofNat] at this; omega)
    simp [IntOp.cmpi, Scalar.select, beq_eq_false_iff_ne.mpr this]

/-- The batch of a grid point. -/
def bOf (t : Fin cfg0.N) : Fin 8 := ⟨t.val / 16, by have := t.isLt; have : cfg0.N = 128 := N_0; omega⟩
/-- Row `r` of the query tile of a grid point. -/
def rowAt (t : Fin cfg0.N) (r : Fin 512) : Fin 8192 := ⟨512 * (t.val % 16) + r.val, by omega⟩
/-- Row `r` of the tile after it, or of the last one. -/
def nextRow (t : Fin cfg0.N) (r : Fin 512) : Fin 8192 := ⟨512 * min (t.val % 16 + 1) 15 + r.val, by omega⟩

theorem ix0 : ∀ t : Fin cfg0.N, win0_0.index t = ![t.val / 16, t.val % 16, 0] := (by decide +kernel : ∀ t : Fin grid0.N, _)
theorem ix1 : ∀ t : Fin cfg0.N, win0_1.index t = ![t.val / 16, 0, 0] := (by decide +kernel : ∀ t : Fin grid0.N, _)
theorem ix2' : ∀ t : Fin cfg0.N, win0_2.index t = ![t.val / 16, 0, 0, 0, 0] := (by decide +kernel : ∀ t : Fin grid0.N, _)
theorem ix5' : ∀ t : Fin cfg0.N, win0_5.index t = ![t.val / 16, min (t.val % 16 + 1) 15, 0] := (by decide +kernel : ∀ t : Fin grid0.N, _)
theorem ix6 : ∀ t : Fin cfg0.N, win0_6.index t = ![t.val / 16, t.val % 16, 0] := (by decide +kernel : ∀ t : Fin grid0.N, _)
theorem ix9 : ∀ t : Fin cfg0.N, win0_9.index t = ![t.val / 16, t.val % 16, 0] := (by decide +kernel : ∀ t : Fin grid0.N, _)
theorem ix10 : ∀ t : Fin cfg0.N, win0_10.index t = ![t.val / 16, t.val % 16, 0] := (by decide +kernel : ∀ t : Fin grid0.N, _)
theorem ix11 : ∀ t : Fin cfg0.N, win0_11.index t = ![t.val / 16, t.val % 16, 0] := (by decide +kernel : ∀ t : Fin grid0.N, _)

/-- The query block. -/
theorem blk_q (t : Fin cfg0.N) (z : S1x512x512.Idx) :
    iblk m c 0 t z = m ((c : Thread nD τ).loc main_arg0) (ix3 (bOf t) (rowAt t (z 1)) (z 2)) := by
  blk_simp [iblk]
  refine (congrFun (V_main_arg0 m c) _).trans (congrArg _ ?_)
  blk_ext [ix0, bOf, rowAt, nextRow]

/-- The batch of keys. -/
theorem blk_k (t : Fin cfg0.N) (z : S1x8192x512.Idx) :
    iblk m c 1 t z = m ((c : Thread nD τ).loc main_arg1) (ix3 (bOf t) (z 1) (z 2)) := by
  blk_simp [iblk]
  refine (host_k m c _).trans (congrArg _ ?_)
  blk_ext [ix1, bOf, rowAt, nextRow]

/-- The next query block. -/
theorem blk_next (t : Fin cfg0.N) (z : S1x512x512.Idx) :
    iblk m c 5 t z = m ((c : Thread nD τ).loc main_arg0) (ix3 (bOf t) (nextRow t (z 1)) (z 2)) := by
  blk_simp [iblk]
  refine (congrFun (V_main_arg0 m c) _).trans (congrArg _ ?_)
  blk_ext [ix5', bOf, rowAt, nextRow]

/-- The gate block. -/
theorem blk_gd (t : Fin cfg0.N) (z : S1x512x512.Idx) :
    iblk m c 6 t z = m ((c : Thread nD τ).loc main_arg3) (ix3 (bOf t) (rowAt t (z 1)) (z 2)) := by
  blk_simp [iblk]
  refine (host_gd m c _).trans (congrArg _ ?_)
  blk_ext [ix6, bOf, rowAt, nextRow]

/-- The input block. -/
theorem blk_x (t : Fin cfg0.N) (z : S1x512x1024.Idx) :
    iblk m c 9 t z = m ((c : Thread nD τ).loc main_arg9) (ix3 (bOf t) (rowAt t (z 1)) (z 2)) := by
  blk_simp [iblk]
  refine (congrFun (V_main_arg9 m c) _).trans (congrArg _ ?_)
  blk_ext [ix9, bOf, rowAt, nextRow]

/-- The mixing block. -/
theorem blk_mix (t : Fin cfg0.N) (z : S1x512x512.Idx) :
    iblk m c 10 t z = m ((c : Thread nD τ).loc main_arg10) (ix3 (bOf t) (rowAt t (z 1)) (z 2)) := by
  blk_simp [iblk]
  refine (host_mix m c _).trans (congrArg _ ?_)
  blk_ext [ix10, bOf, rowAt, nextRow]

theorem ix3' : ∀ t : Fin cfg0.N, win0_3.index t = ![0, 0] := (by decide +kernel : ∀ t : Fin grid0.N, _)
theorem ix4' : ∀ t : Fin cfg0.N, win0_4.index t = ![0, 0] := (by decide +kernel : ∀ t : Fin grid0.N, _)
theorem ix7 : ∀ t : Fin cfg0.N, win0_7.index t = ![0, 0] := (by decide +kernel : ∀ t : Fin grid0.N, _)
theorem ix8 : ∀ t : Fin cfg0.N, win0_8.index t = ![0, 0] := (by decide +kernel : ∀ t : Fin grid0.N, _)
/-- The norm scale. -/
theorem blk_sg (t : Fin cfg0.N) (f : Fin 128) : iblk m c 7 t (ix2 0 f) = m ((c : Thread nD τ).loc main_arg4) (ix2 0 f) := by
  blk_simp [iblk]
  refine (congrArg _ ?_).trans (congrFun (V_main_arg4 m c) _)
  blk_ext [ix7]

/-- The output weight. -/
theorem blk_wo (t : Fin cfg0.N) (a b : Fin 1024) : iblk m c 4 t (ix2 a b) = m ((c : Thread nD τ).loc main_arg11) (ix3 0 a b) := by
  blk_simp [iblk]
  refine (congrArg _ ?_).trans (host_wo m c a b)
  blk_ext [ix4']

/-- The parameter rows. -/
theorem blk_lam (t : Fin cfg0.N) (k : Fin 4) (x : Fin 64) : iblk m c 8 t (ix2 k x) = (![m ((c : Thread nD τ).loc main_arg5), m ((c : Thread nD τ).loc main_arg6), m ((c : Thread nD τ).loc main_arg7), m ((c : Thread nD τ).loc main_arg8)] k : S1x64.Idx → EReal) (ix2 0 x) := by
  blk_simp [iblk]
  refine (congrArg _ ?_).trans (host_lam m c k x)
  blk_ext [ix8]

/-- The chunk table. -/
theorem blk_feat (t : Fin cfg0.N) : IsFeat (iblk m c 3 t) := fun n x => by
  blk_simp [iblk]
  refine (congrArg _ ?_).trans (host_feat m c n x)
  blk_ext [ix3']

/-- The batch of values, with the rows of ones. -/
theorem blk_v (t : Fin cfg0.N) (h : Fin 4) (j : Fin 16) (a : Fin 144) (r : Fin 512) :
    iblk m c 2 t (ix5 0 h j a r) = if ha : a.val < 128 then m ((c : Thread nD τ).loc main_arg2) (ix4 (bOf t) (⟨512 * j.val + r.val, by omega⟩ : Fin 8192) h (⟨a.val, ha⟩ : Fin 128)) else (1 : EReal) := by
  blk_simp [iblk]
  refine (congrArg _ ?_).trans (host_v m c (bOf t) h j a r)
  blk_ext [ix2', bOf]

end Cert.KernelIdeal.Hand

end
-- ==== Proof.KernelIdeal.Tracked.lean ====
module

public import proofs.«01_k».proof.Proof.KernelIdeal.BodyValue
public import proofs.«01_k».proof.Proof.KernelIdeal.Frame
public import proofs.«01_k».proof.Proof.KernelIdeal.Host

@[expose] public section

/-! # The proof data of the launch with the output block named -/

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

section

variable (c : Dev nD) (i : grid0.Coords)
  (arg3 : Memref sig .tc .vmem S1x512x512 .f32) (harg3 : arg3.IsWhole) (arg4 : Memref sig .tc .vmem S1x8192x512 .bf16) (harg4 : arg4.IsWhole) (arg5 : Memref sig .tc .vmem S1x4x16x144x512 .bf16) (harg5 : arg5.IsWhole) (arg6 : Memref sig .tc .vmem S8192x128 .bf16) (harg6 : arg6.IsWhole) (arg7 : Memref sig .tc .vmem S1024x1024 .bf16) (harg7 : arg7.IsWhole) (arg8 : Memref sig .tc .vmem S1x512x512 .f32) (harg8 : arg8.IsWhole) (arg9 : Memref sig .tc .vmem S1x512x512 .bf16) (harg9 : arg9.IsWhole) (arg10 : Memref sig .tc .vmem S1x128 .f32) (harg10 : arg10.IsWhole) (arg11 : Memref sig .tc .vmem S4x64 .f32) (harg11 : arg11.IsWhole) (arg12 : Memref sig .tc .vmem S1x512x1024 .f32) (harg12 : arg12.IsWhole) (arg13 : Memref sig .tc .vmem S1x512x512 .bf16) (harg13 : arg13.IsWhole) (arg14 : Memref sig .tc .vmem S1x512x1024 .f32) (harg14 : arg14.IsWhole) (arg15 : Memref sig .tc .vmem S2x4x1024x256 .bf16) (harg15 : arg15.IsWhole) (arg16 : Memref sig .tc .vmem S512x4096 .f32) (harg16 : arg16.IsWhole) (arg17 : Memref sig .tc .vmem S1x4096 .f32) (harg17 : arg17.IsWhole) (arg18 : Memref sig .tc .vmem S1x4096 .f32) (harg18 : arg18.IsWhole) (arg19 : Memref sig .tc .vmem S144x4096 .f32) (harg19 : arg19.IsWhole)
  (d3 : S1x512x512.Idx → Elt Ideal .f32) (d4 : S1x8192x512.Idx → Elt Ideal .bf16) (d5 : S1x4x16x144x512.Idx → Elt Ideal .bf16) (d6 : S8192x128.Idx → Elt Ideal .bf16) (d7 : S1024x1024.Idx → Elt Ideal .bf16) (d8 : S1x512x512.Idx → Elt Ideal .f32) (d9 : S1x512x512.Idx → Elt Ideal .bf16) (d10 : S1x128.Idx → Elt Ideal .f32) (d11 : S4x64.Idx → Elt Ideal .f32) (d12 : S1x512x1024.Idx → Elt Ideal .f32) (d13 : S1x512x512.Idx → Elt Ideal .bf16)

/-- What a point leaves: its output block, and the next tile staged. -/
def Leaves (d3 : S1x512x512.Idx → EReal) (d4 : S1x8192x512.Idx → EReal) (d5 : S1x4x16x144x512.Idx → EReal) (d6 : S8192x128.Idx → EReal) (d7 : S1024x1024.Idx → EReal) (d8 d9 : S1x512x512.Idx → EReal) (d10 : S1x128.Idx → EReal) (d11 : S4x64.Idx → EReal) (d12 : S1x512x1024.Idx → EReal) (d13 : S1x512x512.Idx → EReal)
    (T : ℕ) (sl : Fin 2) (O : S1x512x1024.Idx → EReal) (W : S2x4x1024x256.Idx → EReal) (S : S512x4096.Idx → EReal) (M : S1x4096.Idx → EReal) : Prop :=
  (∀ r cc, O (ix3 0 r cc) = outG (attnG d3 d4 d5 T) d11 d10 d9 d7 d12 d13 r cc) ∧ Staged d8 d4 d6 (T + 1) sl W S M

/-- The step of the body, its outcome in words of what it finds. -/
theorem step_value (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty)
    (hC : IsFeat d6) (hq : RealAll (s := S1x512x512) d3) (hK : RealAll (s := S1x8192x512) d4) (hV : RealAll (s := S1x4x16x144x512) d5)
    (h1 : ∀ h j r, (d5 : S1x4x16x144x512.Idx → EReal) (ix5 0 h j (128 : Fin 144) r) = 1)
    (hst : ¬isFirst i → Staged d3 d4 d6 (i 2).val (curSlot i) (arg15.view.read (Elt Ideal) X15) (arg16.view.read (Elt Ideal) X16) (arg17.view.read (Elt Ideal) X17))
    (E : Set ℕ) (K : PUnit → sProp 𝕄) :
    iprop(owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d14, owns (c : Thread nD τ) arg14 fullShare d14) ∗ held c arg15 X15 ∗ held c arg16 X16 ∗ held c arg17 X17 ∗ held c arg18 X18 ∗ held c arg19 X19
        ∗ (iprop(owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ (C14 : BufTy.Contents (Elt Ideal) arg14.view.ty) (C15 : BufTy.Contents (Elt Ideal) arg15.view.ty) (C16 : BufTy.Contents (Elt Ideal) arg16.view.ty) (C17 : BufTy.Contents (Elt Ideal) arg17.view.ty) (C18 : BufTy.Contents (Elt Ideal) arg18.view.ty) (C19 : BufTy.Contents (Elt Ideal) arg19.view.ty), ⌜Leaves d3 d4 d5 d6 d7 d8 d9 d10 d11 d12 d13 (i 2).val (nxtSlot i) (arg14.view.read (Elt Ideal) C14) (arg15.view.read (Elt Ideal) C15) (arg16.view.read (Elt Ideal) C16) (arg17.view.read (Elt Ideal) C17)⌝ ∗ held c arg14 C14 ∗ held c arg15 C15 ∗ held c arg16 C16 ∗ held c arg17 C17 ∗ held c arg18 C18 ∗ held c arg19 C19)) -∗ K ⟨⟩))
      ⊢ wp frame (wpE (defs₀ (F := Ideal)) Variants.none (c : Thread nD τ) none) E (cc0_diff_attn_prompt (F := Ideal) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K :=
  bodyStep (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 d3 d4 d5 d6 d7 d8 d9 d10 d11 d12 d13 X15 X16 X17 X18 X19
    (fun C14 C15 C16 C17 _ _ => Leaves d3 d4 d5 d6 d7 d8 d9 d10 d11 d12 d13 (i 2).val (nxtSlot i) (arg14.view.read (Elt Ideal) C14) (arg15.view.read (Elt Ideal) C15) (arg16.view.read (Elt Ideal) C16) (arg17.view.read (Elt Ideal) C17))
    (by
      intro X3 X4 X5 X6 X7 X8 X9 X10 X11 X12 X13 X14 h3 h4 h5 h6 h7 h8 h9 h10 h11 h12 h13
      subst h3 h4 h5 h6 h7 h8 h9 h10 h11 h12 h13
      exact ⟨fun hf hs => runStart_value c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs hC hq hK hV h1, fun hf hs => runFirst_value c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs hC hq hK hV h1, fun hf hs => runNext_value c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X4 X5 X6 X7 X8 X9 X10 X11 X12 X13 X14 X15 X16 X17 X18 X19 hf hs hC hq hK hV h1 (hst hf)⟩) E K

end

variable (m : (ℓ : Loc nD τ sig) → Buf (Elt Ideal) ℓ) (ρ : Dev nD → PrngReg)

/-- The output block of a point. -/
def outT (c : Dev nD) (t : Fin cfg0.N) : S1x512x1024.Idx → EReal := fun z =>
  outG (attnG (iblk m c 0 t) (iblk m c 1 t) (iblk m c 2 t) (t.val % 16)) (iblk m c 8 t) (iblk m c 7 t) (iblk m c 6 t) (iblk m c 4 t) (iblk m c 9 t) (iblk m c 10 t) (z 1) (z 2)

/-- Before point `k`, unless it begins a batch, its query tile is staged. -/
def StagedAt (c : Dev nD) (k : ℕ) (W : S2x4x1024x256.Idx → EReal) (S : S512x4096.Idx → EReal) (M : S1x4096.Idx → EReal) : Prop :=
  ∀ t : Fin cfg0.N, t.val = k → t.val % 16 ≠ 0 →
    Staged (iblk m c 0 t) (iblk m c 1 t) (iblk m c 3 t) ((grid0.coords t) 2).val (curSlot (grid0.coords t)) W S M

/-- The scratches before point `k`. -/
def PhiV (c : Dev nD) (k : ℕ) : sProp 𝕄 :=
  iprop((∃ X15 X16 X17 X18 X19, ⌜StagedAt m c k ((Memref.whole cc0_scratch0).view.read (Elt Ideal) X15) ((Memref.whole cc0_scratch1).view.read (Elt Ideal) X16) ((Memref.whole cc0_scratch2).view.read (Elt Ideal) X17)⌝
      ∗ held c (Memref.whole cc0_scratch0) X15 ∗ held c (Memref.whole cc0_scratch1) X16 ∗ held c (Memref.whole cc0_scratch2) X17 ∗ held c (Memref.whole cc0_scratch3) X18 ∗ held c (Memref.whole cc0_scratch4) X19)
    ∗ (∃ r, prngReg c r))

/-- The proof data with the output block named. -/
def vdats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => outT m c t
  Φ k := PhiV m c k.val
  q w := Pipeline.shareOf spec0 w
  owed _ := 0

theorem vA_eq (c : Dev nD) (w : Fin cfg0.W) : (vdats m 0 c).A w = V m c (Pipeline.arrRef spec0 w) := by dsimp only [vdats]

theorem vbefore0_0 (c : Dev nD) (t : Fin cfg0.N) (d) : (vdats m 0 c).before 0 t d = iblk m c 0 t :=
  before0_0_of m (vdats m 0 c) (vA_eq m c 0) (fun _ => rfl) t d
theorem vbefore0_1 (c : Dev nD) (t : Fin cfg0.N) (d) : (vdats m 0 c).before 1 t d = iblk m c 1 t :=
  before0_1_of m (vdats m 0 c) (vA_eq m c 1) (fun _ => rfl) t d
theorem vbefore0_2 (c : Dev nD) (t : Fin cfg0.N) (d) : (vdats m 0 c).before 2 t d = iblk m c 2 t :=
  before0_2_of m (vdats m 0 c) (vA_eq m c 2) (fun _ => rfl) t d
theorem vbefore0_3 (c : Dev nD) (t : Fin cfg0.N) (d) : (vdats m 0 c).before 3 t d = iblk m c 3 t :=
  before0_3_of m (vdats m 0 c) (vA_eq m c 3) (fun _ => rfl) t d
theorem vbefore0_4 (c : Dev nD) (t : Fin cfg0.N) (d) : (vdats m 0 c).before 4 t d = iblk m c 4 t :=
  before0_4_of m (vdats m 0 c) (vA_eq m c 4) (fun _ => rfl) t d
theorem vbefore0_5 (c : Dev nD) (t : Fin cfg0.N) (d) : (vdats m 0 c).before 5 t d = iblk m c 5 t :=
  before0_5_of m (vdats m 0 c) (vA_eq m c 5) (fun _ => rfl) t d
theorem vbefore0_6 (c : Dev nD) (t : Fin cfg0.N) (d) : (vdats m 0 c).before 6 t d = iblk m c 6 t :=
  before0_6_of m (vdats m 0 c) (vA_eq m c 6) (fun _ => rfl) t d
theorem vbefore0_7 (c : Dev nD) (t : Fin cfg0.N) (d) : (vdats m 0 c).before 7 t d = iblk m c 7 t :=
  before0_7_of m (vdats m 0 c) (vA_eq m c 7) (fun _ => rfl) t d
theorem vbefore0_8 (c : Dev nD) (t : Fin cfg0.N) (d) : (vdats m 0 c).before 8 t d = iblk m c 8 t :=
  before0_8_of m (vdats m 0 c) (vA_eq m c 8) (fun _ => rfl) t d
theorem vbefore0_9 (c : Dev nD) (t : Fin cfg0.N) (d) : (vdats m 0 c).before 9 t d = iblk m c 9 t :=
  before0_9_of m (vdats m 0 c) (vA_eq m c 9) (fun _ => rfl) t d
theorem vbefore0_10 (c : Dev nD) (t : Fin cfg0.N) (d) : (vdats m 0 c).before 10 t d = iblk m c 10 t :=
  before0_10_of m (vdats m 0 c) (vA_eq m c 10) (fun _ => rfl) t d

theorem coords_two : ∀ t : Fin cfg0.N, ((grid0.coords t) 2).val = t.val % 16 := (by decide +kernel : ∀ t : Fin grid0.N, ((grid0.coords t) 2).val = t.val % 16)
theorem first_of : ∀ t : Fin cfg0.N, t.val % 16 = 0 → isFirst (grid0.coords t) := (by decide +kernel : ∀ t : Fin grid0.N, t.val % 16 = 0 → isFirst (grid0.coords t))

/-- The arrays the scores are of are made of real numbers. -/
structure Reals (c : Dev nD) : Prop where
  q : ∀ z, (m ((c : Thread nD τ).loc main_arg0) z : EReal) = ((m ((c : Thread nD τ).loc main_arg0) z : EReal).toReal : EReal)
  k : ∀ z, (m ((c : Thread nD τ).loc main_arg1) z : EReal) = ((m ((c : Thread nD τ).loc main_arg1) z : EReal).toReal : EReal)
  v : ∀ z, (m ((c : Thread nD τ).loc main_arg2) z : EReal) = ((m ((c : Thread nD τ).loc main_arg2) z : EReal).toReal : EReal)

variable (hr : ∀ c, Reals m c)

theorem real_q {c : Dev nD} (h : Reals m c) (t : Fin cfg0.N) : RealAll (s := S1x512x512) (iblk m c 0 t) := fun z => by rw [blk_q]; exact h.q _
theorem real_k {c : Dev nD} (h : Reals m c) (t : Fin cfg0.N) : RealAll (s := S1x8192x512) (iblk m c 1 t) := fun z => by rw [blk_k]; exact h.k _
theorem eq_ix5 (z : S1x4x16x144x512.Idx) : z = ix5 0 (z 1) (z 2) (z 3) (z 4) := by
  funext a
  match a with
  | ⟨0, _⟩ => exact Subsingleton.elim (α := Fin 1) _ _
  | ⟨1, _⟩ => rfl
  | ⟨2, _⟩ => rfl
  | ⟨3, _⟩ => rfl
  | ⟨4, _⟩ => rfl
theorem eq_ix3 (z : S1x512x1024.Idx) : z = ix3 0 (z 1) (z 2) := by
  funext a
  match a with
  | ⟨0, _⟩ => exact Subsingleton.elim (α := Fin 1) _ _
  | ⟨1, _⟩ => rfl
  | ⟨2, _⟩ => rfl
theorem real_of_eq {w u : EReal} (e : w = u) (h : u = (u.toReal : EReal)) : w = (w.toReal : EReal) := e ▸ h
theorem real_v {c : Dev nD} (h : Reals m c) (t : Fin cfg0.N) : RealAll (s := S1x4x16x144x512) (iblk m c 2 t) := fun z => by
  rw [eq_ix5 z]
  refine real_of_eq (blk_v m c t (z 1) (z 2) (z 3) (z 4)) ?_
  split
  · exact h.v _
  · rw [EReal.toReal_one, EReal.coe_one]
theorem ones_v (c : Dev nD) (t : Fin cfg0.N) (h : Fin 4) (j : Fin 16) (r : Fin 512) : iblk m c 2 t (ix5 0 h j (128 : Fin 144) r) = (1 : EReal) :=
  (blk_v m c t h j 128 r).trans (dif_neg (by decide))

/-- What a point leaves staged is what the next finds. -/
theorem staged_next (c : Dev nD) (t : Fin cfg0.N) (W : S2x4x1024x256.Idx → EReal) (S : S512x4096.Idx → EReal) (M : S1x4096.Idx → EReal)
    (h : Staged (iblk m c 5 t) (iblk m c 1 t) (iblk m c 3 t) (((grid0.coords t) 2).val + 1) (nxtSlot (grid0.coords t)) W S M) :
    StagedAt m c (t.val + 1) W S M := fun t' e hn => by
  have eb : bOf t' = bOf t := Fin.ext (by show t'.val / 16 = t.val / 16; omega)
  have e0 : (iblk m c 0 t' : S1x512x512.Idx → EReal) = iblk m c 5 t := funext fun z => by
    rw [blk_q, blk_next, eb]
    exact congrArg _ (congrArg (fun n => ix3 _ n _) (Fin.ext (by show 512 * (t'.val % 16) + _ = 512 * min (t.val % 16 + 1) 15 + _; congr 2; omega)))
  have e1 : (iblk m c 1 t' : S1x8192x512.Idx → EReal) = iblk m c 1 t := funext fun z => by rw [blk_k, blk_k, eb]
  have e3 : (iblk m c 3 t' : S8192x128.Idx → EReal) = iblk m c 3 t := funext fun z => by
    rw [show z = ix2 (z 0) (z 1) from funext fun a => match a with | ⟨0, _⟩ => rfl | ⟨1, _⟩ => rfl]
    exact (blk_feat m c t' _ _).trans (blk_feat m c t _ _).symm
  have e2 : ((grid0.coords t') 2).val = ((grid0.coords t) 2).val + 1 := by rw [coords_two, coords_two]; omega
  have es : curSlot (grid0.coords t') = nxtSlot (grid0.coords t) := Fin.ext (by
    show ((grid0.coords t') 2).val % 2 = 1 - ((grid0.coords t) 2).val % 2
    rw [e2]; omega)
  rw [e0, e1, e3, e2, es]
  exact h

/-- What the body is called with at point `t`. -/
def vbodyPre (c : Dev nD) (t : Fin cfg0.N) : sProp 𝕄 :=
  iprop((vdats m 0 c).Φ t.castSucc ∗ (vdats m 0 c).owesAt () t.castSucc
    ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ (∃ d, owns (c : Thread nD τ) (st0_11 t) fullShare d))
/-- What the body returns at point `t`. -/
def vbodyPost (c : Dev nD) (t : Fin cfg0.N) : sProp 𝕄 :=
  iprop((vdats m 0 c).Φ t.succ ∗ (vdats m 0 c).owesAt () t.succ
    ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (outT m c t))

end Cert.KernelIdeal.Hand

end
-- ==== Proof.KernelIdeal.Launch.lean ====
module

public import proofs.«01_k».proof.Proof.KernelIdeal.Tracked

@[expose] public section

/-! # The launch: the output array from the blocks the points leave -/

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- The body at any point. -/
theorem vsound_body (c : Dev nD) (h : Reals m c) (t : Fin cfg0.N) :
    vbodyPre m c t ⊢ wp frame (wpE (defs₀ (F := Ideal)) Variants.none c none) Set.univ (bodyAt0 t) (fun _ => vbodyPost m c t) := by
  unfold vbodyPre vbodyPost bodyAt0
  rw [show (vdats m 0 c).Φ t.succ = PhiV m c (t.val + 1) from rfl,
    show (vdats m 0 c).owesAt () t.succ = (vdats m 0 c).owesAt () t.castSucc from rfl,
    show (vdats m 0 c).Φ t.castSucc = PhiV m c t.val from rfl]
  unfold PhiV
  iintro ⟨⟨⟨%X15, %X16, %X17, %X18, %X19, %hS, H15, H16, H17, H18, H19⟩, Hg⟩, HO, H3, H4, H5, H6, H7, H8, H9, H10, H11, H12, H13, H14⟩
  iapply (step_value c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) X15 X16 X17 X18 X19
    (blk_feat m c t) (real_q m h t) (real_k m h t) (real_v m h t) (ones_v m c t)
    (fun hf => hS t rfl (fun e => hf (first_of t e))) Set.univ _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H3, H4, H5, H6, H7, H8, H9, H10, H11, H12, H13, ⟨%C14, %C15, %C16, %C17, %C18, %C19, %hL, H14, H15, H16, H17, H18, H19⟩⟩
  isplitl [H15 H16 H17 H18 H19 Hg]
  · isplitl [H15 H16 H17 H18 H19]
    · iexists C15, C16, C17, C18, C19
      isplitr
      · ipureintro
        exact staged_next m c t _ _ _ hL.2
      isplitl [H15]; · iexact H15
      isplitl [H16]; · iexact H16
      isplitl [H17]; · iexact H17
      isplitl [H18]; · iexact H18
      iexact H19
    iexact Hg
  isplitl [HO]; · iexact HO
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  rw [show outT m c t = (st0_11 t).view.read (Elt Ideal) C14 from funext fun z => by
    rw [eq_ix3 z]
    exact ((hL.1 _ _).trans (by rw [coords_two]; rfl)).symm]
  iapply (owns_of_held c (st0_11 t) C14)
  iexact H14

/-- The body obligation with every window named. -/
theorem vbody_obligation (c : Dev nD) (h : Reals m c) :
    BodyObligation (vdats m 0 c) (defs₀ (F := Ideal)) Variants.none () Set.univ := fun t => by
  rw [bigSep_W0, bigSep_W0, defs₀_row]
  refine triple_restated (vsound_body m c h t) rfl ?_ fun _ => .rfl
  unfold vbodyPre
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  isplitl [HΦ]; · iexact HΦ
  isplitl [HO]; · iexact HO

  isplitl [H0]; · rw [← vbefore0_0 m c t d0]; iexact H0
  isplitl [H1]; · rw [← vbefore0_1 m c t d1]; iexact H1
  isplitl [H2]; · rw [← vbefore0_2 m c t d2]; iexact H2
  isplitl [H3]; · rw [← vbefore0_3 m c t d3]; iexact H3
  isplitl [H4]; · rw [← vbefore0_4 m c t d4]; iexact H4
  isplitl [H5]; · rw [← vbefore0_5 m c t d5]; iexact H5
  isplitl [H6]; · rw [← vbefore0_6 m c t d6]; iexact H6
  isplitl [H7]; · rw [← vbefore0_7 m c t d7]; iexact H7
  isplitl [H8]; · rw [← vbefore0_8 m c t d8]; iexact H8
  isplitl [H9]; · rw [← vbefore0_9 m c t d9]; iexact H9
  isplitl [H10]; · rw [← vbefore0_10 m c t d10]; iexact H10
  iexists _; iexact H11

set_option backward.isDefEq.respectTransparency.types false in
/-- From any memory whose queries, keys and values are real the launch ends with the output array made of the points' blocks. -/
theorem run_value (hr : ∀ c, Reals m c) :
    θ_run defs (onTc (τ := τ) (main (F := Ideal))) (s₀ m ρ) (Pipeline.FramePost cfgs (vdats m) (0 : Fin 1) (V m)) :=
  Pipeline.θ_run_frame_track_shared cfgs (vdats m) (0 : Fin 1) launch₀0 defs₀ Variants.none m ρ main
    (hbody := fun c => (vbody_obligation m c (hr c)).loose) (hq := fun _ _ _ => rfl)
    (howed := fun _ _ => rfl) (V := V m) (hmain := hmain m Variants.none) (hA := vA_eq m)
    (hin := fun c => by
      rw [show (vdats m 0 c).Φ 0 = PhiV m c 0 from rfl]
      refine (Entails.of_eq (PhiA0_eq c)).trans ?_
      unfold PhiV
      iintro ⟨⟨⟨%X15, H15⟩, ⟨%X16, H16⟩, ⟨%X17, H17⟩, ⟨%X18, H18⟩, ⟨%X19, H19⟩⟩, Hg⟩
      isplitl [H15 H16 H17 H18 H19]
      · iexists X15, X16, X17, X18, X19
        isplitr
        · ipureintro
          exact fun t e hn => absurd (by rw [e]) hn
        isplitl [H15]; · iexact H15
        isplitl [H16]; · iexact H16
        isplitl [H17]; · iexact H17
        isplitl [H18]; · iexact H18
        iexact H19
      iexact Hg)
    (hout := fun c => by
      rw [show (vdats m 0 c).Φ (Fin.last _) = PhiV m c 128 from rfl]
      refine BIBase.Entails.trans ?_ (Entails.of_eq (PhiA0_eq c).symm)
      unfold PhiV
      iintro ⟨⟨%X15, %X16, %X17, %X18, %X19, -, H15, H16, H17, H18, H19⟩, Hg⟩
      isplitl [H15 H16 H17 H18 H19]
      · isplitl [H15]; · iexists _; iexact H15
        isplitl [H16]; · iexists _; iexact H16
        isplitl [H17]; · iexists _; iexact H17
        isplitl [H18]; · iexists _; iexact H18
        iexists _; iexact H19
      iexact Hg)

end Cert.KernelIdeal.Hand

end
-- ==== Proof.KernelIdeal.Result.lean ====
module

public import proofs.«01_k».proof.Proof.Layer
public import proofs.«01_k».proof.Proof.KernelIdeal.Launch

@[expose] public section

/-! # The launch's output array, element by element -/

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL.Sem

/-- A sum over the key rows, by blocks of 512. -/
theorem sum_rows (g : Fin 8192 → ℝ) : ∑ j : Fin 16, ∑ r : Fin 512, g ⟨512 * j.val + r.val, by omega⟩ = ∑ k : Fin 8192, g k := by
  rw [← Fintype.sum_prod_type' (f := fun (j : Fin 16) (r : Fin 512) => g ⟨512 * j.val + r.val, by omega⟩)]
  exact Fintype.sum_equiv (finProdFinEquiv (m := 16) (n := 512)) _ _ fun p => congrArg g (Fin.ext (Nat.add_comm _ _))

variable (m : (ℓ : Loc nD τ sig) → Buf (Elt Ideal) ℓ) (ρ : Dev nD → PrngReg)

/-- The queries of batch `b`, as reals. -/
def qR (c : Dev nD) (b : Fin 8) (n : Fin 8192) (f : Fin 512) : ℝ := (m ((c : Thread nD τ).loc main_arg0) (ix3 b n f) : EReal).toReal
/-- Its keys. -/
def kR (c : Dev nD) (b : Fin 8) (n : Fin 8192) (f : Fin 512) : ℝ := (m ((c : Thread nD τ).loc main_arg1) (ix3 b n f) : EReal).toReal
/-- Its values. -/
def vR (c : Dev nD) (b : Fin 8) (n : Fin 8192) (h : Fin 4) (e : Fin 128) : ℝ := (m ((c : Thread nD τ).loc main_arg2) (ix4 b n h e) : EReal).toReal

theorem zR_eq (c : Dev nD) (t : Fin cfg0.N) (j : Fin 16) (r : Fin 512) (y : Fin 4096) :
    zR (iblk m c 0 t) (iblk m c 1 t) j r y
      = Layer.logit (qR m c (bOf t)) (kR m c (bOf t)) (headOf y) (compOf y) (rowAt t (rowOf y)) ⟨512 * j.val + r.val, by omega⟩ := by
  unfold zR Layer.logit
  refine Finset.sum_congr rfl fun f _ => ?_
  rw [blk_q, blk_k]
  rfl

theorem eR_eq (c : Dev nD) (t : Fin cfg0.N) (j : Fin 16) (r : Fin 512) (y : Fin 4096) :
    eR (iblk m c 0 t) (iblk m c 1 t) (t.val % 16) j r y
      = Layer.weight (qR m c (bOf t)) (kR m c (bOf t)) (headOf y) (compOf y) (rowAt t (rowOf y)) ⟨512 * j.val + r.val, by omega⟩ := by
  unfold eR Layer.weight
  rw [zR_eq, show t.val % 16 * 512 + (rowOf y).val = (rowAt t (rowOf y)).val from by show _ = 512 * (t.val % 16) + (rowOf y).val; omega]

/-- A weighted value row. -/
theorem nR_value (c : Dev nD) (t : Fin cfg0.N) (f : Fin 128) (y : Fin 4096) :
    nR (iblk m c 0 t) (iblk m c 1 t) (iblk m c 2 t) (t.val % 16) (⟨f.val, by omega⟩ : Fin 144) y
      = ∑ k : Fin 8192, Layer.weight (qR m c (bOf t)) (kR m c (bOf t)) (headOf y) (compOf y) (rowAt t (rowOf y)) k * vR m c (bOf t) k (headOf y) f := by
  unfold nR
  refine Eq.trans ?_ (sum_rows _)
  refine Finset.sum_congr rfl fun j _ => Finset.sum_congr rfl fun r _ => ?_
  rw [eR_eq, blk_v, dif_pos f.isLt]
  rfl

/-- The weighted row of ones. -/
theorem nR_ones (c : Dev nD) (t : Fin cfg0.N) (y : Fin 4096) :
    nR (iblk m c 0 t) (iblk m c 1 t) (iblk m c 2 t) (t.val % 16) (128 : Fin 144) y
      = ∑ k : Fin 8192, Layer.weight (qR m c (bOf t)) (kR m c (bOf t)) (headOf y) (compOf y) (rowAt t (rowOf y)) k := by
  unfold nR
  refine Eq.trans ?_ (sum_rows _)
  refine Finset.sum_congr rfl fun j _ => Finset.sum_congr rfl fun r _ => ?_
  rw [eR_eq, blk_v, dif_neg (by decide), EReal.toReal_one, mul_one]

/-- A point's normalised attention in a column. -/
theorem attn_col (c : Dev nD) (t : Fin cfg0.N) (f : Fin 128) (y : Fin 4096) :
    attnG (iblk m c 0 t) (iblk m c 1 t) (iblk m c 2 t) (t.val % 16) (ix2 (⟨f.val, by omega⟩ : Fin 144) y)
        * Ideal.div 1 (attnG (iblk m c 0 t) (iblk m c 1 t) (iblk m c 2 t) (t.val % 16) (ix2 (128 : Fin 144) y))
      = (Layer.attn (qR m c (bOf t)) (kR m c (bOf t)) (vR m c (bOf t)) (headOf y) (compOf y) (rowAt t (rowOf y)) f : EReal) := by
  show ((nR (iblk m c 0 t) (iblk m c 1 t) (iblk m c 2 t) (t.val % 16) (⟨f.val, by omega⟩ : Fin 144) y
        / nR (iblk m c 0 t) (iblk m c 1 t) (iblk m c 2 t) (t.val % 16) (128 : Fin 144) y : ℝ) : EReal)
      * Ideal.div 1 ((nR (iblk m c 0 t) (iblk m c 1 t) (iblk m c 2 t) (t.val % 16) (128 : Fin 144) y
        / nR (iblk m c 0 t) (iblk m c 1 t) (iblk m c 2 t) (t.val % 16) (128 : Fin 144) y : ℝ) : EReal) = _
  rw [nR_value, nR_ones, div_self (Layer.sum_weight_pos _ _ _ _ _).ne', Ideal.div_coe one_ne_zero, one_mul, one_div_one, EReal.coe_one, mul_one]
  rfl

/-- The differential weight of a point's parameters. -/
def lamV (c : Dev nD) : EReal :=
  Layer.lam (fun x => m ((c : Thread nD τ).loc main_arg5) (ix2 0 x)) (fun x => m ((c : Thread nD τ).loc main_arg6) (ix2 0 x))
    (fun x => m ((c : Thread nD τ).loc main_arg7) (ix2 0 x)) (fun x => m ((c : Thread nD τ).loc main_arg8) (ix2 0 x))

theorem lamG_eq (c : Dev nD) (t : Fin cfg0.N) : lamG (iblk m c 8 t) = lamV m c := by
  unfold lamG
  simp only [blk_lam]
  rfl

/-- A query's differential attention. -/
theorem ot_eq (c : Dev nD) (t : Fin cfg0.N) (L : EReal) (r d : Fin 512) (f : Fin 128) :
    otG (attnG (iblk m c 0 t) (iblk m c 1 t) (iblk m c 2 t) (t.val % 16)) L (colAt 0 (by omega) r d) (colAt 512 (by omega) r d) f
      = Layer.diff (qR m c (bOf t)) (kR m c (bOf t)) (vR m c (bOf t)) L ⟨d.val / 128, by omega⟩ (rowAt t r) f := by
  unfold otG Layer.diff
  rw [attn_col, attn_col]
  have h0 : headOf (colAt 0 (by omega) r d) = (⟨d.val / 128, by omega⟩ : Fin 4) := Fin.ext (by show (1024 * (d.val / 128) + 0 + r.val) / 1024 = d.val / 128; omega)
  have h1 : headOf (colAt 512 (by omega) r d) = (⟨d.val / 128, by omega⟩ : Fin 4) := Fin.ext (by show (1024 * (d.val / 128) + 512 + r.val) / 1024 = d.val / 128; omega)
  have c0 : compOf (colAt 0 (by omega) r d) = 0 := Fin.ext (by show (1024 * (d.val / 128) + 0 + r.val) % 1024 / 512 = 0; omega)
  have c1 : compOf (colAt 512 (by omega) r d) = 1 := Fin.ext (by show (1024 * (d.val / 128) + 512 + r.val) % 1024 / 512 = 1; omega)
  have r0 : rowOf (colAt 0 (by omega) r d) = r := Fin.ext (by show (1024 * (d.val / 128) + 0 + r.val) % 1024 % 512 = r.val; omega)
  have r1 : rowOf (colAt 512 (by omega) r d) = r := Fin.ext (by show (1024 * (d.val / 128) + 512 + r.val) % 1024 % 512 = r.val; omega)
  rw [h0, h1, c0, c1, r0, r1]

/-- The layer's result from a memory's argument arrays. -/
def outV (c : Dev nD) (b : Fin 8) (n : Fin 8192) (a : Fin 1024) : EReal :=
  Layer.out (qR m c b) (kR m c b) (vR m c b) (lamV m c) (fun f => m ((c : Thread nD τ).loc main_arg4) (ix2 0 f))
    (fun d => m ((c : Thread nD τ).loc main_arg3) (ix3 b n d)) (fun d => m ((c : Thread nD τ).loc main_arg10) (ix3 b n d))
    (fun d => m ((c : Thread nD τ).loc main_arg11) (ix3 0 d a)) (m ((c : Thread nD τ).loc main_arg9) (ix3 b n a)) n

/-- A point's output block is its rows of the layer's result. -/
theorem outT_row (c : Dev nD) (t : Fin cfg0.N) (r : Fin 512) (a : Fin 1024) :
    outG (attnG (iblk m c 0 t) (iblk m c 1 t) (iblk m c 2 t) (t.val % 16)) (iblk m c 8 t) (iblk m c 7 t) (iblk m c 6 t) (iblk m c 4 t) (iblk m c 9 t) (iblk m c 10 t) r a
      = outV m c (bOf t) (rowAt t r) a := by
  unfold outV outG Layer.out headG Layer.head
  simp only [ot_eq, lamG_eq, blk_x, blk_mix, blk_wo, blk_gd, blk_sg]
  rfl

/-- The output array after every point. -/
theorem arr_value (c : Dev nD) : (vdats m 0 c).arrAt 11 cfg0.N = (fun z : S8x8192x1024.Idx => outV m c (z 0) (z 1) (z 2)) := by
  refine (vdats m 0 c).arrAt_eq_of_covers 11 _ (by decide +kernel) fun t hf y => ?_
  blk_simp
  refine (outT_row m c t (y 1) (y 2)).trans (congrArg (fun z : S8x8192x1024.Idx => outV m c (z 0) (z 1) (z 2)) (a₁ := ix3 (bOf t) (rowAt t (y 1)) (y 2)) ?_)
  blk_ext [ix11, bOf, rowAt]

/-- The kernel's run: the output array holds the layer's result, and the arguments are unchanged. -/
theorem value_main (hr : ∀ c, Reals m c) :
    θ_run defs (onTc (τ := τ) (main (F := Ideal))) ⟨m, fun _ => 0, ρ⟩ (fun r => ∀ c : Dev nD,
      r.2.mem ((c.tc : Thread nD τ).loc main_v26) = (fun z : S8x8192x1024.Idx => outV m c (z 0) (z 1) (z 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
    ((h c).1 11).trans (arr_value m c),
    (h.in_eq c 5 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (h.in_eq c 7 rfl).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    (h.in_eq c 9 rfl).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c)⟩) (run_value m ρ hr)

end Cert.KernelIdeal.Hand

end
-- ==== Proof.ReferenceIdeal.Scores.lean ====
module

public import proofs.«01_k».proof.Proof.Layer
public import proofs.«01_k».proof.Proof.Gen.ReferenceIdeal.Read
public import Idealize.ShloMosaic.Lib.Pointwise

@[expose] public section

/-! # The reference's masked scores and their softmax, element by element -/

set_option maxRecDepth 65536

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic

theorem sum_coe {ι : Type} (s : Finset ι) (g : ι → ℝ) : ∑ x ∈ s, (g x : EReal) = ((∑ x ∈ s, g x : ℝ) : EReal) := by
  classical
  induction s using Finset.induction_on with
  | empty => rw [Finset.sum_empty, Finset.sum_empty, EReal.coe_zero]
  | insert a t h ih => rw [Finset.sum_insert h, Finset.sum_insert h, EReal.coe_add, ih]

/-! ## Constants -/

theorem bits_neg : Ideal.ofBits .f32 0xFF800000#32 = ⊥ := by simp [Ideal.ofBits, Ideal.ieee]
theorem bits_zero : Ideal.ofBits .f32 0x00000000#32 = 0 := by simp [Ideal.ofBits, Ideal.ieee]
theorem bits_eighth : Ideal.ofBits .f32 0x3E000000#32 = ((1 / 8 : ℝ) : EReal) := by
  simp [Ideal.ofBits, Ideal.ieee, -EReal.coe_mul]; norm_num
theorem bits_init : Ideal.ofBits .f32 0x3E4CCCCD#32 = ((13421773 / 67108864 : ℝ) : EReal) := by
  simp [Ideal.ofBits, Ideal.ieee, -EReal.coe_mul]; norm_num

/-! ## The chunk mask -/

theorem chunk_of : ∀ n : Fin 8192, IntOp.divsi ArithUnit.host (BitVec.ofNat 32 n.val) 64#32 = BitVec.ofNat 32 (n.val / 64) := by decide +kernel

theorem chunk_le : ∀ a b : Fin 128, IntOp.cmpi .sle (BitVec.ofNat 32 a.val) (BitVec.ofNat 32 b.val) = if b.val < a.val then 0#1 else 1#1 := by decide +kernel

theorem chunk_at (n : Fin 8192) : val_main_v4 (F := Ideal) (ix1 n) = BitVec.ofNat 32 (n.val / 64) := by
  rw [val_main_v4_apply, val_main_v2_apply, val_main_v3_apply, val_main_c_apply]
  exact chunk_of n

theorem mask_at (n j : Fin 8192) : val_main_v24 (F := Ideal) (ix2 n j) = if n.val / 64 < j.val / 64 then 0#1 else 1#1 := by
  rw [val_main_v24_apply, val_main_v22_apply, val_main_v23_apply, val_main_v20_apply, val_main_v21_apply]
  have e1 : idx_main_v20 (idx_main_v22 (ix2 n j)) = ix1 j := by ext a; match a with | ⟨0, _⟩ => rfl
  have e2 : idx_main_v21 (idx_main_v23 (ix2 n j)) = ix1 n := by ext a; match a with | ⟨0, _⟩ => rfl
  rw [e1, e2, chunk_at, chunk_at]
  exact chunk_le ⟨j.val / 64, by omega⟩ ⟨n.val / 64, by omega⟩

/-! ## The scores -/

variable (x0 x1 : S8x8192x512.Idx → EReal)

/-- The rows of batch `b`, as reals. -/
def rows (x : S8x8192x512.Idx → EReal) (b : Fin 8) (n : Fin 8192) (f : Fin 512) : ℝ := (x (ix3 b n f)).toReal

theorem split_q (b : Fin 8) (n : Fin 8192) (h : Fin 4) (c : Fin 2) (f : Fin 64) :
    val_main_v0 (F := Ideal) x0 (ix5 b n h c f) = x0 (ix3 b n (⟨128 * h.val + (64 * c.val + f.val), by omega⟩ : Fin 512)) := by
  rw [val_main_v0_apply]
  refine congrArg x0 (funext fun a => Fin.ext ?_)
  match a with
  | ⟨0, _⟩ => show ((((b.val * 8192 + n.val) * 4 + h.val) * 2 + c.val) * 64 + f.val) / 4194304 = b.val; omega
  | ⟨1, _⟩ => show ((((b.val * 8192 + n.val) * 4 + h.val) * 2 + c.val) * 64 + f.val) / 512 % 8192 = n.val; omega
  | ⟨2, _⟩ => show ((((b.val * 8192 + n.val) * 4 + h.val) * 2 + c.val) * 64 + f.val) % 512 = 128 * h.val + (64 * c.val + f.val); omega

theorem split_k (b : Fin 8) (n : Fin 8192) (h : Fin 4) (c : Fin 2) (f : Fin 64) :
    val_main_v1 (F := Ideal) x1 (ix5 b n h c f) = x1 (ix3 b n (⟨128 * h.val + (64 * c.val + f.val), by omega⟩ : Fin 512)) :=
  split_q x1 b n h c f

variable (r0 : ∀ z, x0 z = ((x0 z).toReal : EReal)) (r1 : ∀ z, x1 z = ((x1 z).toReal : EReal))

include r0 r1 in
theorem score_at (b : Fin 8) (h : Fin 4) (c : Fin 2) (n j : Fin 8192) :
    val_main_v19 (F := Ideal) x0 x1 (ix5 b h c n j) = ((Layer.logit (rows x0 b) (rows x1 b) h c n j / 8 : ℝ) : EReal) := by
  rw [val_main_v19_apply, val_main_v17_apply, val_main_v18_apply, val_main_cst_2_apply]
  have t : ∀ f : Fin 64, val_main_v0 (F := Ideal) x0 (lidx_main_v17 (ix5 b h c n j) f) * val_main_v1 (F := Ideal) x1 (ridx_main_v17 (ix5 b h c n j) f)
      = ((rows x1 b j ⟨128 * h.val + (64 * c.val + f.val), by omega⟩ * rows x0 b n ⟨128 * h.val + (64 * c.val + f.val), by omega⟩ : ℝ) : EReal) := by
    intro f
    have e1 : lidx_main_v17 (ix5 b h c n j) f = ix5 b n h c f := by
      funext a; match a with | ⟨0, _⟩ => rfl | ⟨1, _⟩ => rfl | ⟨2, _⟩ => rfl | ⟨3, _⟩ => rfl | ⟨4, _⟩ => rfl
    have e2 : ridx_main_v17 (ix5 b h c n j) f = ix5 b j h c f := by
      funext a; match a with | ⟨0, _⟩ => rfl | ⟨1, _⟩ => rfl | ⟨2, _⟩ => rfl | ⟨3, _⟩ => rfl | ⟨4, _⟩ => rfl
    rw [e1, e2, split_q, split_k, r0, r1, mul_comm, ← EReal.coe_mul]
    rfl
  rw [Finset.sum_congr rfl fun f _ => t f, sum_coe]
  show ((Layer.logit (rows x0 b) (rows x1 b) h c n j : ℝ) : EReal) * Ideal.ofBits .f32 0x3E000000#32 = _
  rw [bits_eighth, ← EReal.coe_mul, mul_one_div]

include r0 r1 in
theorem masked_at (b : Fin 8) (h : Fin 4) (c : Fin 2) (n j : Fin 8192) :
    val_main_v26 (F := Ideal) x0 x1 (ix5 b h c n j)
      = if n.val / 64 < j.val / 64 then ⊥ else ((Layer.logit (rows x0 b) (rows x1 b) h c n j / 8 : ℝ) : EReal) := by
  rw [val_main_v26_apply, val_main_call0_v1_apply, val_main_call0_v2_apply, val_main_v25_apply, score_at x0 x1 r0 r1]
  have e : idx_main_v25 (idx_main_call0_v1 (ix5 b h c n j)) = ix2 n j := by
    funext a; match a with | ⟨0, _⟩ => rfl | ⟨1, _⟩ => rfl
  rw [e, mask_at]
  by_cases hm : n.val / 64 < j.val / 64
  · rw [if_pos hm, if_pos hm]
    exact bits_neg
  · rw [if_neg hm, if_neg hm]
    rfl

/-! ## The softmax -/

/-- The greatest of masked real scores, at least one of them unmasked, is a real number. -/
theorem fold_real (g : Fin 8192 → EReal) (ht : ∀ j, g j ≠ ⊤) (hb : g 0 ≠ ⊥) :
    ∃ M : ℝ, max ⊥ ((Finset.univ : Finset (Fin 8192)).fold max ⊥ g) = (M : EReal) := by
  have e : (Finset.univ : Finset (Fin 8192)).fold max ⊥ g = Finset.univ.sup g := rfl
  rw [e, max_eq_right bot_le]
  have h1 : Finset.univ.sup g ≠ ⊤ := ((Finset.sup_lt_iff bot_lt_top).2 fun j _ => lt_top_iff_ne_top.2 (ht j)).ne
  have h2 : Finset.univ.sup g ≠ ⊥ := fun h => hb (le_bot_iff.1 (h ▸ Finset.le_sup (f := g) (Finset.mem_univ 0)))
  exact ⟨_, (EReal.coe_toReal h1 h2).symm⟩

include r0 r1 in
theorem top_at (b : Fin 8) (h : Fin 4) (c : Fin 2) (n : Fin 8192) :
    ∃ M : ℝ, val_main_v29 (F := Ideal) x0 x1 (ix4 b h c n) = (M : EReal) := by
  obtain ⟨M, hM⟩ := fold_real (fun j => val_main_v26 (F := Ideal) x0 x1 (ix5 b h c n j))
    (fun j => by
      rw [masked_at x0 x1 r0 r1]
      split
      · exact bot_ne_top
      · exact EReal.coe_ne_top _)
    (by
      rw [masked_at x0 x1 r0 r1, if_neg (by show ¬ n.val / 64 < 0 / 64; omega)]
      exact EReal.coe_ne_bot _)
  refine ⟨M, Eq.trans ?_ hM⟩
  rw [val_main_v29_apply, val_main_v28_apply, val_main_cst_5_apply]
  unfold val_main_v27
  generalize val_main_v26 (F := Ideal) x0 x1 = y
  pointwise [val_main_cst_4]
  simp only [bits_neg]

include r0 r1 in
theorem exp_at (b : Fin 8) (h : Fin 4) (c : Fin 2) (n : Fin 8192) :
    ∃ M : ℝ, ∀ j, val_main_v33 (F := Ideal) x0 x1 (ix5 b h c n j) = ((Real.exp (-M) * Layer.weight (rows x0 b) (rows x1 b) h c n j : ℝ) : EReal) := by
  obtain ⟨M, hM⟩ := top_at x0 x1 r0 r1 b h c n
  refine ⟨M, fun j => ?_⟩
  rw [val_main_v33_apply, val_main_v32_apply, val_main_v31_apply, val_main_v30_apply]
  have e : idx_main_v30 (idx_main_v31 (ix5 b h c n j)) = ix4 b h c n := by
    funext a; match a with | ⟨0, _⟩ => rfl | ⟨1, _⟩ => rfl | ⟨2, _⟩ => rfl | ⟨3, _⟩ => rfl
  rw [e, hM, masked_at x0 x1 r0 r1]
  unfold Layer.weight
  show Ideal.exp ((if _ then _ else _) - (M : EReal)) = _
  by_cases hm : n.val / 64 < j.val / 64
  · rw [if_pos hm, if_pos hm, show (⊥ : EReal) - (M : EReal) = ⊥ from rfl, Ideal.exp_bot, mul_zero, EReal.coe_zero]
  · rw [if_neg hm, if_neg hm, ← EReal.coe_sub, Ideal.exp_coe, sub_eq_neg_add, Real.exp_add]

include r0 r1 in
/-- The softmax is each weight over the weights' sum. -/
theorem soft_at (b : Fin 8) (h : Fin 4) (c : Fin 2) (n j : Fin 8192) :
    val_main_v37 (F := Ideal) x0 x1 (ix5 b h c n j)
      = ((Layer.weight (rows x0 b) (rows x1 b) h c n j / ∑ k, Layer.weight (rows x0 b) (rows x1 b) h c n k : ℝ) : EReal) := by
  obtain ⟨M, hM⟩ := exp_at x0 x1 r0 r1 b h c n
  rw [val_main_v37_apply, val_main_v36_apply, val_main_v35_apply, val_main_v34_apply, val_main_cst_6_apply, hM]
  have e : ∀ k, idx_main_v34 (idx_main_v35 (idx_main_v36 (ix5 b h c n j))) k = ix5 b h c n k := by
    intro k; funext a; match a with | ⟨0, _⟩ => rfl | ⟨1, _⟩ => rfl | ⟨2, _⟩ => rfl | ⟨3, _⟩ => rfl | ⟨4, _⟩ => rfl
  rw [Finset.sum_congr rfl fun k _ => (congrArg _ (e k)).trans (hM k), sum_coe, ← Finset.mul_sum]
  have hp := Layer.sum_weight_pos (rows x0 b) (rows x1 b) h c n
  show Ideal.div _ (Ideal.ofBits .f32 0x00000000#32 + _) = _
  rw [bits_zero, zero_add, Ideal.div_coe (mul_pos (Real.exp_pos _) hp).ne', ← EReal.coe_mul, mul_one_div, mul_div_mul_left _ _ (Real.exp_pos _).ne']

end Cert.ReferenceIdeal.Hand

end
-- ==== Proof.ReferenceIdeal.Output.lean ====
module

public import proofs.«01_k».proof.Proof.ReferenceIdeal.Scores

@[expose] public section

/-! # The reference's result, element by element -/

set_option maxRecDepth 65536

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic

variable (x0 x1 : S8x8192x512.Idx → EReal) (x2 : S8x8192x4x128.Idx → EReal) (x3 : S8x8192x512.Idx → EReal) (x4 : S1x128.Idx → EReal)
  (x5 x6 x7 x8 : S1x64.Idx → EReal) (x9 : S8x8192x1024.Idx → EReal) (x10 : S8x8192x512.Idx → EReal) (x11 : S1x1024x1024.Idx → EReal)

/-! ## The differential weight -/

/-- The differential weight of the four parameter arrays. -/
def lamOf : EReal := Layer.lam (fun x => x5 (ix2 0 x)) (fun x => x6 (ix2 0 x)) (fun x => x7 (ix2 0 x)) (fun x => x8 (ix2 0 x))

theorem sum_row (g : S64.Idx → EReal) : ∑ j : S64.Idx, g j = ∑ x : Fin 64, g (ix1 x) :=
  (Fintype.sum_equiv ⟨fun x : Fin 64 => (ix1 x : S64.Idx), fun j => j 0, fun _ => rfl, fun j => by funext a; match a with | ⟨0, _⟩ => rfl⟩
    _ _ fun _ => rfl).symm

theorem row_at (x : S1x64.Idx → EReal) (k : Fin 64) : val_main_v5 (F := Ideal) x (ix1 k) = x (ix2 0 k) := by
  rw [val_main_v5_apply]
  refine congrArg x (funext fun a => Fin.ext ?_)
  match a with
  | ⟨0, _⟩ => rfl
  | ⟨1, _⟩ => show k.val % 64 = k.val; omega

theorem dot_row (x y : S1x64.Idx → EReal) (i : S_.Idx) : val_main_v8 (F := Ideal) x y i = ∑ k : Fin 64, x (ix2 0 k) * y (ix2 0 k) := by
  rw [val_main_v8_apply, sum_row, val_main_cst_apply]
  refine (congrArg (· + _) bits_zero).trans ((zero_add _).trans (Finset.sum_congr rfl fun k _ => ?_))
  rw [val_main_v7_apply, row_at, show val_main_v6 (F := Ideal) y (ix1 k) = y (ix2 0 k) from row_at y k]
  rfl

theorem lam_at (i : S_.Idx) : val_main_v16 (F := Ideal) x5 x6 x7 x8 i = lamOf x5 x6 x7 x8 := by
  rw [val_main_v16_apply, val_main_v15_apply, val_main_v9_apply, val_main_v14_apply, dot_row,
    show val_main_v13 (F := Ideal) x7 x8 i = _ from dot_row x7 x8 i, val_main_cst_1_apply]
  rfl

variable (r5 : ∀ z, x5 z = ((x5 z).toReal : EReal)) (r6 : ∀ z, x6 z = ((x6 z).toReal : EReal))
  (r7 : ∀ z, x7 z = ((x7 z).toReal : EReal)) (r8 : ∀ z, x8 z = ((x8 z).toReal : EReal))

theorem dot_real (x y : S1x64.Idx → EReal) (rx : ∀ z, x z = ((x z).toReal : EReal)) (ry : ∀ z, y z = ((y z).toReal : EReal)) :
    ∃ s : ℝ, ∑ k : Fin 64, x (ix2 0 k) * y (ix2 0 k) = (s : EReal) := by
  refine ⟨∑ k : Fin 64, (x (ix2 0 k)).toReal * (y (ix2 0 k)).toReal, (Finset.sum_congr rfl fun k _ => ?_).trans (sum_coe _ _)⟩
  rw [EReal.coe_mul, ← rx, ← ry]

include r5 r6 r7 r8 in
/-- Real parameters give a real weight. -/
theorem lam_real : ∃ l : ℝ, lamOf x5 x6 x7 x8 = (l : EReal) := by
  obtain ⟨s, hs⟩ := dot_real x5 x6 r5 r6
  obtain ⟨s', hs'⟩ := dot_real x7 x8 r7 r8
  refine ⟨Real.exp s - Real.exp s' + 13421773 / 67108864, ?_⟩
  unfold lamOf Layer.lam
  rw [hs, hs', Ideal.exp_coe, Ideal.exp_coe, bits_init, EReal.coe_add, EReal.coe_sub]

/-! ## The heads -/

/-- The values of batch `b`, as reals. -/
def valRows (b : Fin 8) (n : Fin 8192) (h : Fin 4) (e : Fin 128) : ℝ := (x2 (ix4 b n h e)).toReal

variable (r0 : ∀ z, x0 z = ((x0 z).toReal : EReal)) (r1 : ∀ z, x1 z = ((x1 z).toReal : EReal)) (r2 : ∀ z, x2 z = ((x2 z).toReal : EReal))

include r0 r1 in
theorem mix_at (b : Fin 8) (h : Fin 4) (n j : Fin 8192) :
    val_main_v44 (F := Ideal) x0 x1 x5 x6 x7 x8 (ix4 b h n j)
      = ((Layer.weight (rows x0 b) (rows x1 b) h 0 n j / ∑ k, Layer.weight (rows x0 b) (rows x1 b) h 0 n k : ℝ) : EReal)
        - lamOf x5 x6 x7 x8 * ((Layer.weight (rows x0 b) (rows x1 b) h 1 n j / ∑ k, Layer.weight (rows x0 b) (rows x1 b) h 1 n k : ℝ) : EReal) := by
  rw [val_main_v44_apply, val_main_v43_apply, val_main_v42_apply, val_main_v41_apply, val_main_v40_apply, val_main_v39_apply, val_main_v38_apply]
  have e0 : idx_main_v38 (idx_main_v39 (ix4 b h n j)) = ix5 b h 0 n j := by
    funext a
    refine Fin.ext ?_
    match a with
    | ⟨0, _⟩ => show (((b.val * 4 + h.val) * 8192 + n.val) * 8192 + j.val) / 268435456 = b.val; omega
    | ⟨1, _⟩ => show (((b.val * 4 + h.val) * 8192 + n.val) * 8192 + j.val) / 67108864 % 4 = h.val; omega
    | ⟨2, _⟩ => rfl
    | ⟨3, _⟩ => show (((b.val * 4 + h.val) * 8192 + n.val) * 8192 + j.val) / 8192 % 8192 = n.val; omega
    | ⟨4, _⟩ => show (((b.val * 4 + h.val) * 8192 + n.val) * 8192 + j.val) % 8192 = j.val; omega
  have e1 : idx_main_v40 (idx_main_v41 (ix4 b h n j)) = ix5 b h 1 n j := by
    funext a
    refine Fin.ext ?_
    match a with
    | ⟨0, _⟩ => show (((b.val * 4 + h.val) * 8192 + n.val) * 8192 + j.val) / 268435456 = b.val; omega
    | ⟨1, _⟩ => show (((b.val * 4 + h.val) * 8192 + n.val) * 8192 + j.val) / 67108864 % 4 = h.val; omega
    | ⟨2, _⟩ => rfl
    | ⟨3, _⟩ => show (((b.val * 4 + h.val) * 8192 + n.val) * 8192 + j.val) / 8192 % 8192 = n.val; omega
    | ⟨4, _⟩ => show (((b.val * 4 + h.val) * 8192 + n.val) * 8192 + j.val) % 8192 = j.val; omega
  rw [e0, e1, soft_at x0 x1 r0 r1, soft_at x0 x1 r0 r1, lam_at]
  rfl

/-- Weighing the values by the difference of two normalised weights is the difference of the two attentions. -/
theorem sum_diff {ι : Type} [Fintype ι] (v w w' : ι → ℝ) (s s' l : ℝ) :
    ∑ k, v k * (w k / s - l * (w' k / s')) = (∑ k, w k * v k) / s - l * ((∑ k, w' k * v k) / s') := by
  rw [Finset.sum_div, Finset.sum_div, Finset.mul_sum, ← Finset.sum_sub_distrib]
  exact Finset.sum_congr rfl fun k _ => by ring

include r0 r1 r2 r5 r6 r7 r8 in
theorem ot_at (b : Fin 8) (n : Fin 8192) (h : Fin 4) (e : Fin 128) :
    val_main_v46 (F := Ideal) x0 x1 x2 x5 x6 x7 x8 (ix4 b n h e)
      = Layer.diff (rows x0 b) (rows x1 b) (valRows x2 b) (lamOf x5 x6 x7 x8) h n e := by
  obtain ⟨l, hl⟩ := lam_real x5 x6 x7 x8 r5 r6 r7 r8
  rw [val_main_v46_apply, val_main_v45_apply]
  have t : ∀ k : Fin 8192, x2 (lidx_main_v45 (idx_main_v46 (ix4 b n h e)) k)
        * val_main_v44 (F := Ideal) x0 x1 x5 x6 x7 x8 (ridx_main_v45 (idx_main_v46 (ix4 b n h e)) k)
      = ((valRows x2 b k h e * (Layer.weight (rows x0 b) (rows x1 b) h 0 n k / (∑ k, Layer.weight (rows x0 b) (rows x1 b) h 0 n k)
          - l * (Layer.weight (rows x0 b) (rows x1 b) h 1 n k / ∑ k, Layer.weight (rows x0 b) (rows x1 b) h 1 n k)) : ℝ) : EReal) := by
    intro k
    have e1 : lidx_main_v45 (idx_main_v46 (ix4 b n h e)) k = ix4 b k h e := by
      funext a; match a with | ⟨0, _⟩ => rfl | ⟨1, _⟩ => rfl | ⟨2, _⟩ => rfl | ⟨3, _⟩ => rfl
    have e2 : ridx_main_v45 (idx_main_v46 (ix4 b n h e)) k = ix4 b h n k := by
      funext a; match a with | ⟨0, _⟩ => rfl | ⟨1, _⟩ => rfl | ⟨2, _⟩ => rfl | ⟨3, _⟩ => rfl
    rw [e1, e2, mix_at x0 x1 x5 x6 x7 x8 r0 r1, hl, ← EReal.coe_mul, ← EReal.coe_sub, r2, ← EReal.coe_mul]
    rfl
  rw [Finset.sum_congr rfl fun k _ => t k, sum_coe, sum_diff]
  unfold Layer.diff Layer.attn
  rw [hl, ← EReal.coe_mul, ← EReal.coe_sub]

theorem sg_at (b : Fin 8) (n : Fin 8192) (h : Fin 4) (e : Fin 128) : val_main_v59 (F := Ideal) x4 (ix4 b n h e) = x4 (ix2 0 e) := by
  rw [val_main_v59_apply, val_main_v58_apply, val_main_v47_apply]
  refine congrArg x4 (funext fun a => Fin.ext ?_)
  match a with
  | ⟨0, _⟩ => rfl
  | ⟨1, _⟩ => show e.val % 128 = e.val; omega

/-- A head's normalised and scaled output. -/
theorem norm_at (b : Fin 8) (n : Fin 8192) (h : Fin 4) (e : Fin 128) (o : Fin 128 → EReal)
    (ho : ∀ e, val_main_v46 (F := Ideal) x0 x1 x2 x5 x6 x7 x8 (ix4 b n h e) = o e) (g : EReal) :
    val_main_v62 (F := Ideal) x0 x1 x2 x4 x5 x6 x7 x8 (ix4 b n h e) * g = Layer.head o (x4 (ix2 0 e)) g e := by
  rw [val_main_v62_apply, val_main_v60_apply, val_main_v57_apply, val_main_v56_apply, val_main_v55_apply, val_main_v54_apply, val_main_v52_apply,
    val_main_v50_apply, val_main_v49_apply, val_main_v51_apply, val_main_v53_apply, val_main_v61_apply, sg_at, ho]
  have t : ∀ k, val_main_v48 (F := Ideal) x0 x1 x2 x5 x6 x7 x8 (idx_main_v49 (idx_main_v50 (idx_main_v56 (ix4 b n h e))) k) = o k * o k := by
    intro k
    have e1 : idx_main_v49 (idx_main_v50 (idx_main_v56 (ix4 b n h e))) k = ix4 b n h k := by
      funext a; match a with | ⟨0, _⟩ => rfl | ⟨1, _⟩ => rfl | ⟨2, _⟩ => rfl | ⟨3, _⟩ => rfl
    rw [e1, val_main_v48_apply, ho]
    rfl
  rw [Finset.sum_congr rfl fun k _ => t k]
  unfold Layer.head
  show o e * Ideal.rsqrt (Ideal.div (Ideal.ofBits .f32 0x00000000#32 + ∑ k, o k * o k) (Ideal.ofBits .f32 0x43000000#32) + Ideal.ofBits .f32 0x358637BD#32)
    * x4 (ix2 0 e) * Ideal.ofBits .f32 0x3F4CCCCD#32 * g = _
  rw [bits_zero, zero_add, mul_assoc (o e * _) (x4 (ix2 0 e))]

include r0 r1 r2 r5 r6 r7 r8 in
theorem head_at (b : Fin 8) (n : Fin 8192) (d : Fin 512) :
    val_main_v64 (F := Ideal) x0 x1 x2 x3 x4 x5 x6 x7 x8 (ix3 b n d)
      = Layer.head (Layer.diff (rows x0 b) (rows x1 b) (valRows x2 b) (lamOf x5 x6 x7 x8) ⟨d.val / 128, by omega⟩ n)
          (x4 (ix2 0 (⟨d.val % 128, by omega⟩ : Fin 128))) (x3 (ix3 b n d)) ⟨d.val % 128, by omega⟩ := by
  rw [val_main_v64_apply, val_main_v63_apply]
  have e : idx_main_v63 (ix3 b n d) = ix4 b n (⟨d.val / 128, by omega⟩ : Fin 4) (⟨d.val % 128, by omega⟩ : Fin 128) := by
    funext a
    refine Fin.ext ?_
    match a with
    | ⟨0, _⟩ => show ((b.val * 8192 + n.val) * 512 + d.val) / 4194304 = b.val; omega
    | ⟨1, _⟩ => show ((b.val * 8192 + n.val) * 512 + d.val) / 512 % 8192 = n.val; omega
    | ⟨2, _⟩ => show ((b.val * 8192 + n.val) * 512 + d.val) / 128 % 4 = d.val / 128; omega
    | ⟨3, _⟩ => show ((b.val * 8192 + n.val) * 512 + d.val) % 128 = d.val % 128; omega
  rw [e]
  exact norm_at x0 x1 x2 x4 x5 x6 x7 x8 b n _ _ _ (fun f => ot_at x0 x1 x2 x5 x6 x7 x8 r5 r6 r7 r8 r0 r1 r2 b n _ f) _

/-! ## The projection -/

theorem concat_at (b : Fin 8) (n : Fin 8192) (d : Fin 1024) :
    val_main_v65 (F := Ideal) x0 x1 x2 x3 x4 x5 x6 x7 x8 x10 (ix3 b n d)
      = if hd : d.val < 512 then val_main_v64 (F := Ideal) x0 x1 x2 x3 x4 x5 x6 x7 x8 (ix3 b n (⟨d.val, hd⟩ : Fin 512))
        else x10 (ix3 b n (⟨d.val - 512, by omega⟩ : Fin 512)) := by
  unfold val_main_v65
  generalize val_main_v64 (F := Ideal) x0 x1 x2 x3 x4 x5 x6 x7 x8 = y
  pointwise

theorem wo_at (d a : Fin 1024) : val_main_v66 (F := Ideal) x11 (ix2 d a) = x11 (ix3 0 d a) := by
  rw [val_main_v66_apply]
  refine congrArg x11 (funext fun k => Fin.ext ?_)
  match k with
  | ⟨0, _⟩ => rfl
  | ⟨1, _⟩ => show (d.val * 1024 + a.val) / 1024 % 1024 = d.val; omega
  | ⟨2, _⟩ => show (d.val * 1024 + a.val) % 1024 = a.val; omega

include r0 r1 r2 r5 r6 r7 r8 in
/-- The reference's result at an index, where its queries, keys, values and parameters are real. -/
theorem out_at (b : Fin 8) (n : Fin 8192) (a : Fin 1024) :
    val_main_v68 (F := Ideal) x0 x1 x2 x3 x4 x5 x6 x7 x8 x9 x10 x11 (ix3 b n a)
      = Layer.out (rows x0 b) (rows x1 b) (valRows x2 b) (lamOf x5 x6 x7 x8) (fun f => x4 (ix2 0 f)) (fun d => x3 (ix3 b n d))
          (fun d => x10 (ix3 b n d)) (fun d => x11 (ix3 0 d a)) (x9 (ix3 b n a)) n := by
  rw [val_main_v68_apply, val_main_v67_apply]
  have t : ∀ k : Fin 1024, val_main_v65 (F := Ideal) x0 x1 x2 x3 x4 x5 x6 x7 x8 x10 (lidx_main_v67 (ix3 b n a) k) * val_main_v66 (F := Ideal) x11 (ridx_main_v67 (ix3 b n a) k)
      = (if hd : k.val < 512 then val_main_v64 (F := Ideal) x0 x1 x2 x3 x4 x5 x6 x7 x8 (ix3 b n (⟨k.val, hd⟩ : Fin 512))
          else x10 (ix3 b n (⟨k.val - 512, by omega⟩ : Fin 512))) * x11 (ix3 0 k a) := by
    intro k
    have e1 : lidx_main_v67 (ix3 b n a) k = ix3 b n k := by
      funext i; match i with | ⟨0, _⟩ => rfl | ⟨1, _⟩ => rfl | ⟨2, _⟩ => rfl
    have e2 : ridx_main_v67 (ix3 b n a) k = ix2 k a := by
      funext i; match i with | ⟨0, _⟩ => rfl | ⟨1, _⟩ => rfl
    rw [e1, e2, concat_at, wo_at]
  rw [Finset.sum_congr rfl fun k _ => t k]
  refine (congrArg (x9 (ix3 b n a) + ·) ((Fin.sum_univ_add (a := 512) (b := 512) _).trans (add_comm _ _))).trans ?_
  unfold Layer.out
  refine (add_assoc _ _ _).symm.trans ?_
  refine congr (congrArg _ (congrArg _ (Finset.sum_congr rfl fun d _ => ?_))) (Finset.sum_congr rfl fun d _ => ?_)
  · rw [dif_neg (by show ¬ 512 + d.val < 512; omega)]
    refine congr (congrArg _ (congrArg (fun k : Fin 512 => x10 (ix3 b n k)) (Fin.ext ?_))) rfl
    show 512 + d.val - 512 = d.val
    omega
  · rw [dif_pos (show (Fin.castAdd 512 d).val < 512 from d.isLt)]
    exact congrArg (· * _) (head_at x0 x1 x2 x3 x4 x5 x6 x7 x8 r5 r6 r7 r8 r0 r1 r2 b n d)

end Cert.ReferenceIdeal.Hand

end
-- ==== Proof.Finite.lean ====
module

public import proofs.«01_k».proof.Proof.Gen.Pre_finite
public import Idealize.ShloMosaic.Lib.ReduceAll
public import Idealize.ShloMosaic.PureOps.Ideal.Laws

@[expose] public section

/-! # What the precondition says: the queries, keys, values and parameters are real numbers -/

noncomputable section

namespace Cert.Pre_finite.Hand

open Cert.Pre_finite Cert.Pre_finite.Gen
open Idealize.ShloMosaic

theorem bits_inf : Ideal.ofBits .f32 0x7F800000#32 = ⊤ := by simp [Ideal.ofBits, Ideal.ieee]

/-- An absolute value below infinity is a real number's. -/
theorem real_of_lt (x : EReal) (h : Ideal.cmp .olt (max x (-x)) (Ideal.ofBits .f32 0x7F800000#32) = 1#1) : x = (x.toReal : EReal) := by
  rw [bits_inf] at h
  have h' : max x (-x) < ⊤ := by
    by_contra hn
    simp [Ideal.cmp, hn] at h
  have h1 : x ≠ ⊤ := (lt_of_le_of_lt (le_max_left _ _) h').ne
  have h2 : x ≠ ⊥ := fun e => by
    rw [e] at h'
    exact absurd h' (by simp)
  exact (EReal.coe_toReal h1 h2).symm

theorem and_parts {f g : S_.Idx → BitVec 1} {j : S_.Idx} (h : andi f g j = 1#1) : f j = 1#1 ∧ g j = 1#1 := IntOp.andi_eq_one.1 h

instance : Subsingleton S_.Idx := ⟨fun a b => funext fun i => i.elim0⟩

variable {a0 a1 : FVec Ideal S8x8192x512 .f32} {a2 : FVec Ideal S8x8192x4x128 .f32} {a3 : FVec Ideal S8x8192x512 .f32} {a4 : FVec Ideal S1x128 .f32}
  {a5 a6 a7 a8 : FVec Ideal S1x64 .f32} {a9 : FVec Ideal S8x8192x1024 .f32} {a10 : FVec Ideal S8x8192x512 .f32} {a11 : FVec Ideal S1x1024x1024 .f32}

/-- Under the precondition every element of the seven arrays is a real number. -/
theorem reals (h : fn (F := Ideal) a0 a1 a2 a3 a4 a5 a6 a7 a8 a9 a10 a11 = fun _ => 1#1) :
    (∀ z, (a0 z : EReal) = ((a0 z : EReal).toReal : EReal)) ∧ (∀ z, (a1 z : EReal) = ((a1 z : EReal).toReal : EReal))
    ∧ (∀ z, (a2 z : EReal) = ((a2 z : EReal).toReal : EReal)) ∧ (∀ z, (a5 z : EReal) = ((a5 z : EReal).toReal : EReal))
    ∧ (∀ z, (a6 z : EReal) = ((a6 z : EReal).toReal : EReal)) ∧ (∀ z, (a7 z : EReal) = ((a7 z : EReal).toReal : EReal))
    ∧ (∀ z, (a8 z : EReal) = ((a8 z : EReal).toReal : EReal)) := by
  have e := congrFun h (Shape.Idx.first h_S_)
  dsimp only [fn, fn_part1] at e
  obtain ⟨e, e8⟩ := and_parts e
  obtain ⟨e, e7⟩ := and_parts e
  obtain ⟨e, e6⟩ := and_parts e
  obtain ⟨e, e5⟩ := and_parts e
  obtain ⟨e, e2⟩ := and_parts e
  obtain ⟨e0, e1⟩ := and_parts e
  exact ⟨fun z => real_of_lt _ (Host.reduce_andi_all _ _ _ _ _ e0 z), fun z => real_of_lt _ (Host.reduce_andi_all _ _ _ _ _ e1 z),
    fun z => real_of_lt _ (Host.reduce_andi_all _ _ _ _ _ e2 z), fun z => real_of_lt _ (Host.reduce_andi_all _ _ _ _ _ e5 z),
    fun z => real_of_lt _ (Host.reduce_andi_all _ _ _ _ _ e6 z), fun z => real_of_lt _ (Host.reduce_andi_all _ _ _ _ _ e7 z),
    fun z => real_of_lt _ (Host.reduce_andi_all _ _ _ _ _ e8 z)⟩

end Cert.Pre_finite.Hand

end
-- ==== Proof.Value.lean ====
module

public import proofs.«01_k».proof.Defs
public import proofs.«01_k».proof.Proof.KernelIdeal.Result
public import proofs.«01_k».proof.Proof.ReferenceIdeal.Output
public import proofs.«01_k».proof.Proof.Finite
public import proofs.«01_k».proof.Proof.Gen.ReferenceIdeal

@[expose] public section

/-! # The kernel and the reference compute the same array -/

noncomputable section

namespace Cert.Proof

open Idealize.ShloMosaic Idealize.SL.Sem

/-- From memories that agree on the arguments, the queries, keys, values and parameters real, both programs end with the layer's result. -/
theorem algebraic : Cert.algebraic_KernelIdeal_ReferenceIdeal_pre_finite := by
  intro m ρ m' ρ' hpre hag
  have R := fun c => Cert.Pre_finite.Hand.reals (hpre c)
  refine ⟨fun c => (fun z : Cert.KernelIdeal.S8x8192x1024.Idx => Cert.KernelIdeal.Hand.outV m c (z 0) (z 1) (z 2)),
    Cert.KernelIdeal.Hand.value_main m ρ (fun c => ⟨(R c).1, (R c).2.1, (R c).2.2.1⟩), ?_⟩
  refine (θ_run Cert.ReferenceIdeal.defs _ _).mono (fun _ h c => ⟨(h c).1.trans ?_, (h c).2⟩) (Cert.ReferenceIdeal.Value.run (F := Ideal) m' ρ')
  obtain ⟨a0, a1, a2, a3, a4, a5, a6, a7, a8, a9, a10, a11⟩ := hag c
  obtain ⟨r0, r1, r2, r5, r6, r7, r8⟩ := R c
  rw [Cert.ReferenceIdeal.Read.val_main_v68_eq, a0, a1, a2, a3, a4, a5, a6, a7, a8, a9, a10, a11]
  funext z
  have ez : z = ix3 (z 0) (z 1) (z 2) := funext fun a => match a with | ⟨0, _⟩ => rfl | ⟨1, _⟩ => rfl | ⟨2, _⟩ => rfl
  rw [ez]
  exact Cert.ReferenceIdeal.Hand.out_at _ _ _ _ _ _ _ _ _ _ _ _ r5 r6 r7 r8 r0 r1 r2 (z 0) (z 1) (z 2)

end Cert.Proof

end
-- ==== Proof.Memory.Groups.lean ====
module

public import proofs.«01_k».proof.Kernel2Ideal
public import Mathlib.Tactic.IntervalCases

@[expose] public section

/-! # The memory's group matrix: one where row and column lie in one group of 64, zero elsewhere

The 256 × 256 entries are printed as leaves of 128: a row is two leaves, a quarter of the leaves is the 64 rows of a group. -/

set_option maxRecDepth 65536

namespace Cert.Kernel2Ideal.Hand

open Cert.Kernel2Ideal Idealize.ShloMosaic

/-- An entry by the group of its row and the group of its column. -/
abbrev groupBits (g h : ℕ) : BitVec 16 := if g = h then 0x3F80#16 else 0x0000#16

/-- A leaf reads its index modulo 128, so its 128 entries decide it. -/
theorem leaf_of (f : ℕ → BitVec 16) (g e : ℕ) (hf : ∀ i, f i = f (i % 128)) (hd : ∀ r : Fin 128, f r.val = groupBits g (2 * e + r.val / 64))
    (i : ℕ) : f i = groupBits g (2 * e + i % 128 / 64) :=
  (hf i).trans (hd ⟨i % 128, Nat.mod_lt _ (by decide)⟩)

theorem leaf00 (i : ℕ) : lit0t0_0 i = groupBits 0 (2 * 0 + i % 128 / 64) := leaf_of lit0t0_0 0 0 (fun i => by unfold lit0t0_0; rw [Nat.mod_mod]) (by decide +kernel) i
theorem leaf01 (i : ℕ) : lit0t0_1 i = groupBits 0 (2 * 1 + i % 128 / 64) := leaf_of lit0t0_1 0 1 (fun i => by unfold lit0t0_1; rw [Nat.mod_mod]) (by decide +kernel) i
theorem leaf10 (i : ℕ) : lit0t0_128 i = groupBits 1 (2 * 0 + i % 128 / 64) := leaf_of lit0t0_128 1 0 (fun i => by unfold lit0t0_128; rw [Nat.mod_mod]) (by decide +kernel) i
theorem leaf11 (i : ℕ) : lit0t0_129 i = groupBits 1 (2 * 1 + i % 128 / 64) := leaf_of lit0t0_129 1 1 (fun i => by unfold lit0t0_129; rw [Nat.mod_mod]) (by decide +kernel) i
theorem leaf20 (i : ℕ) : lit0t0_256 i = groupBits 2 (2 * 0 + i % 128 / 64) := leaf_of lit0t0_256 2 0 (fun i => by unfold lit0t0_256; rw [Nat.mod_mod]) (by decide +kernel) i
theorem leaf21 (i : ℕ) : lit0t0_257 i = groupBits 2 (2 * 1 + i % 128 / 64) := leaf_of lit0t0_257 2 1 (fun i => by unfold lit0t0_257; rw [Nat.mod_mod]) (by decide +kernel) i
theorem leaf30 (i : ℕ) : lit0t0_384 i = groupBits 3 (2 * 0 + i % 128 / 64) := leaf_of lit0t0_384 3 0 (fun i => by unfold lit0t0_384; rw [Nat.mod_mod]) (by decide +kernel) i
theorem leaf31 (i : ℕ) : lit0t0_385 i = groupBits 3 (2 * 1 + i % 128 / 64) := leaf_of lit0t0_385 3 1 (fun i => by unfold lit0t0_385; rw [Nat.mod_mod]) (by decide +kernel) i

/-! A quarter's leaves are its first two, in turn. -/

theorem quarter0 (i : ℕ) : lit0t1_0 i = groupBits 0 (2 * (i / 128 % 128 % 2) + i % 128 / 64) := by
  have hd : i / 128 % 128 < 128 := Nat.mod_lt _ (by decide)
  unfold lit0t1_0
  generalize i / 128 % 128 = d at *
  interval_cases d <;> first | exact leaf00 i | exact leaf01 i

theorem quarter1 (i : ℕ) : lit0t1_1 i = groupBits 1 (2 * (i / 128 % 128 % 2) + i % 128 / 64) := by
  have hd : i / 128 % 128 < 128 := Nat.mod_lt _ (by decide)
  unfold lit0t1_1
  generalize i / 128 % 128 = d at *
  interval_cases d <;> first | exact leaf10 i | exact leaf11 i

theorem quarter2 (i : ℕ) : lit0t1_2 i = groupBits 2 (2 * (i / 128 % 128 % 2) + i % 128 / 64) := by
  have hd : i / 128 % 128 < 128 := Nat.mod_lt _ (by decide)
  unfold lit0t1_2
  generalize i / 128 % 128 = d at *
  interval_cases d <;> first | exact leaf20 i | exact leaf21 i

theorem quarter3 (i : ℕ) : lit0t1_3 i = groupBits 3 (2 * (i / 128 % 128 % 2) + i % 128 / 64) := by
  have hd : i / 128 % 128 < 128 := Nat.mod_lt _ (by decide)
  unfold lit0t1_3
  generalize i / 128 % 128 = d at *
  interval_cases d <;> first | exact leaf30 i | exact leaf31 i

/-- The printed entry at a row and a column. -/
theorem group_bits (p q : Fin 256) (h : 256 * p.val + q.val < 65536) : lit0 ⟨256 * p.val + q.val, h⟩ = groupBits (p.val / 64) (q.val / 64) := by
  show lit0t (256 * p.val + q.val) = _
  have e : 2 * ((256 * p.val + q.val) / 128 % 128 % 2) + (256 * p.val + q.val) % 128 / 64 = q.val / 64 := by omega
  have eg : (256 * p.val + q.val) / 16384 = p.val / 64 := by omega
  have hg : p.val / 64 < 4 := by omega
  unfold lit0t
  rw [eg]
  generalize p.val / 64 = g at *
  interval_cases g
  · exact (quarter0 _).trans (by rw [e])
  · exact (quarter1 _).trans (by rw [e])
  · exact (quarter2 _).trans (by rw [e])
  · exact (quarter3 _).trans (by rw [e])

end Cert.Kernel2Ideal.Hand
-- ==== Proof.Memory.Kernel.lean ====
module

public import proofs.«01_k».proof.Defs
public import proofs.«01_k».proof.Proof.Memory.Groups
public import proofs.«01_k».proof.Proof.Gen.Kernel2Ideal.Value
public import Idealize.ShloMosaic.Lib.Pointwise
public import Idealize.ShloMosaic.Lib.Pipeline.ValueKit.Geometry
public import Idealize.ShloMosaic.Lib.StableHlo.ReadAt

@[expose] public section

/-! # The memory's keys and values: what the kernel writes

The memory is normed row by row and goes through one weight of 512 columns. The first 256 columns are the keys: four groups of 64,
each under its own root-mean-square norm, whose sums the kernel takes by a product with the group matrix. The last 256 are the values. -/

set_option maxRecDepth 65536

noncomputable section

namespace Cert.Kernel2Ideal.Hand

open Cert.Kernel2Ideal Cert.Kernel2Ideal.Gen
open Idealize.ShloMosaic Idealize.ShloMosaic.TcCoe Idealize.ShloMosaic.Tactic
open Idealize.SL.Sem

/-! ## The functions of a row -/

/-- A row under a root-mean-square norm with scale `g`, through a column `w`. -/
def normed (x g w : Fin 1024 → EReal) : EReal :=
  ∑ d, x d * Ideal.rsqrt (Ideal.div (∑ e, x e * x e) (Ideal.ofBits .f32 0x44800000#32) + Ideal.ofBits .f32 0x358637BD#32) * g d * w d

/-- Column `64 g + x` of a group `g`. -/
def inGroup (j : Fin 256) (x : Fin 64) : Fin 256 := ⟨64 * (j.val / 64) + x.val, by omega⟩

/-- A key under the norm of its group of 64 columns, with scale `s`. -/
def groupNormed (k : Fin 256 → EReal) (s : EReal) (j : Fin 256) : EReal :=
  k j * Ideal.rsqrt (Ideal.div (∑ x, k (inGroup j x) * k (inGroup j x)) (Ideal.ofBits .f32 0x42800000#32) + Ideal.ofBits .f32 0x358637BD#32) * s

/-! ## The group sums -/

theorem bits_sixty_four : Ideal.ofBits .f32 0x42800000#32 = ((64 : ℝ) : EReal) := by
  simp [Ideal.ofBits, Ideal.ieee]; rw [← EReal.coe_mul]; norm_num
theorem bits_recip : Ideal.ofBits .f32 0x3C800000#32 = ((1 / 64 : ℝ) : EReal) := by
  simp [Ideal.ofBits, Ideal.ieee]; rw [← EReal.coe_mul]; norm_num
theorem bits_one : Ideal.ofBits .bf16 0x3F80#16 = 1 := by simp [Ideal.ofBits, Ideal.ieee]; rw [← EReal.coe_mul]; norm_num
theorem bits_nought : Ideal.ofBits .bf16 0x0000#16 = 0 := by simp [Ideal.ofBits, Ideal.ieee]

theorem mean_eq (s : EReal) : s * Ideal.ofBits .f32 0x3C800000#32 = Ideal.div s (Ideal.ofBits .f32 0x42800000#32) := by
  rw [bits_sixty_four, bits_recip, Ideal.div_coe (by norm_num)]

/-- A product with a column of the group matrix sums the column's group. -/
theorem group_sum (f : Fin 256 → EReal) (j : Fin 256) :
    ∑ p : Fin 256, f p * Ideal.ofBits .bf16 (groupBits (p.val / 64) (j.val / 64)) = ∑ x : Fin 64, f (inGroup j x) := by
  have t : ∀ p : Fin 256, f p * Ideal.ofBits .bf16 (groupBits (p.val / 64) (j.val / 64)) = if p.val / 64 = j.val / 64 then f p else 0 := by
    intro p
    by_cases h : p.val / 64 = j.val / 64
    · rw [if_pos h, groupBits, if_pos h, bits_one, mul_one]
    · rw [if_neg h, groupBits, if_neg h, bits_nought, mul_zero]
  rw [Finset.sum_congr rfl fun p _ => t p, ← Finset.sum_filter]
  refine (Finset.sum_bij (fun x _ => inGroup j x) (fun x _ => ?_) (fun x _ y _ e => ?_) (fun p hp => ?_) fun _ _ => rfl).symm
  · rw [Finset.mem_filter]
    exact ⟨Finset.mem_univ _, by show (64 * (j.val / 64) + x.val) / 64 = j.val / 64; omega⟩
  · have e := congrArg Fin.val e
    refine Fin.ext ?_
    have e' : 64 * (j.val / 64) + x.val = 64 * (j.val / 64) + y.val := e
    omega
  · have h := (Finset.mem_filter.mp hp).2
    exact ⟨⟨p.val % 64, Nat.mod_lt _ (by decide)⟩, Finset.mem_univ _, Fin.ext (by show 64 * (j.val / 64) + p.val % 64 = p.val; omega)⟩

/-! ## The blocks a point writes, from its blocks -/

variable (x : Vec Ideal S1x256x1024 .f32) (g : Vec Ideal S1x1024 .f32) (w : Vec Ideal S1024x512 .bf16) (s : Vec Ideal S1x256 .f32)
  (o : Vec Ideal S256x256 .bf16)

theorem kv_at (n : Fin 256) (j : Fin 512) :
    k0_pay3 (F := Ideal) x g w (ix2 n j) = normed (fun d => x (ix3 0 n d)) (fun d => g (ix2 0 d)) (fun d => w (ix2 d j)) := by
  pointwise [k0_pay3]
  rfl

theorem key_at (ho : ∀ p q : Fin 256, o (ix2 p q) = Ideal.ofBits .bf16 (groupBits (p.val / 64) (q.val / 64))) (n j : Fin 256) :
    k0_pay4 (F := Ideal) x g w o s (ix2 j n)
      = groupNormed (fun j => normed (fun d => x (ix3 0 n d)) (fun d => g (ix2 0 d)) (fun d => w (ix2 d (⟨j.val, by omega⟩ : Fin 512)))) (s (ix2 0 j)) j := by
  have hk : ∀ j : Fin 256, normed (fun d => x (ix3 0 n d)) (fun d => g (ix2 0 d)) (fun d => w (ix2 d (⟨j.val, by omega⟩ : Fin 512)))
      = k0_pay3 (F := Ideal) x g w (ix2 n (⟨j.val, by omega⟩ : Fin 512)) := fun j => (kv_at x g w n _).symm
  simp only [hk]
  unfold k0_pay4
  generalize k0_pay3 (F := Ideal) x g w = kv
  unfold groupNormed
  rw [← mean_eq, ← group_sum (fun p => kv (ix2 n (⟨p.val, by omega⟩ : Fin 512)) * kv (ix2 n (⟨p.val, by omega⟩ : Fin 512))) j]
  simp only [← ho]
  pointwise

/-! ## The host arrays and the windows' blocks -/

variable (m : (ℓ : Loc nD τ sig) → Buf (Elt Ideal) ℓ) (c : Dev nD)

theorem host_g (d : Fin 1024) : V m c main_v1 (ix2 0 d) = m ((c : Thread nD τ).loc main_arg1) (ix2 0 d) := by
  unfold V; after_reads_at
theorem host_w (a : Fin 1024) (b : Fin 512) : V m c main_v3 (ix2 a b) = m ((c : Thread nD τ).loc main_arg2) (ix3 0 a b) := by
  unfold V; after_reads_at
theorem host_s (j : Fin 256) : V m c main_v8 (ix2 0 j) = m ((c : Thread nD τ).loc main_arg3) (ix2 0 (⟨j.val % 64, Nat.mod_lt _ (by decide)⟩ : Fin 64)) := by
  unfold V; after_reads_at
theorem host_o (p q : Fin 256) : V m c main_cst (ix2 p q) = Ideal.ofBits .bf16 (groupBits (p.val / 64) (q.val / 64)) := by
  unfold V
  after_reads_at
  refine congrArg (Ideal.ofBits .bf16) ((congrArg lit0 (Fin.ext ?_)).trans (group_bits p q (by omega)))
  refine (Shape.rowMajor_val_two _).trans ?_
  show p.val * 256 + q.val = 256 * p.val + q.val
  omega

theorem ix0 : ∀ t : Fin cfg0.N, win0_0.index t = ![t.val, 0, 0] := (by decide +kernel : ∀ t : Fin grid0.N, _)
theorem ix1' : ∀ t : Fin cfg0.N, win0_1.index t = ![0, 0] := (by decide +kernel : ∀ t : Fin grid0.N, _)
theorem ix2' : ∀ t : Fin cfg0.N, win0_2.index t = ![0, 0] := (by decide +kernel : ∀ t : Fin grid0.N, _)
theorem ix3' : ∀ t : Fin cfg0.N, win0_3.index t = ![0, 0] := (by decide +kernel : ∀ t : Fin grid0.N, _)
theorem ix4' : ∀ t : Fin cfg0.N, win0_4.index t = ![0, 0] := (by decide +kernel : ∀ t : Fin grid0.N, _)
theorem ix5' : ∀ t : Fin cfg0.N, win0_5.index t = ![t.val, 0, 0] := (by decide +kernel : ∀ t : Fin grid0.N, _)
theorem ix6 : ∀ t : Fin cfg0.N, win0_6.index t = ![t.val, 0, 0] := (by decide +kernel : ∀ t : Fin grid0.N, _)

/-- The batch of a grid point. -/
def bOf (t : Fin cfg0.N) : Fin 8 := ⟨t.val, by have := t.isLt; have : cfg0.N = 8 := N_0; omega⟩

theorem blk_x (t : Fin cfg0.N) (n : Fin 256) (d : Fin 1024) : iblk m c 0 t (ix3 0 n d) = m ((c : Thread nD τ).loc main_arg0) (ix3 (bOf t) n d) := by
  blk_simp [iblk]
  refine (congrFun (V_main_arg0 m c) _).trans (congrArg _ ?_)
  blk_ext [ix0, bOf]
theorem blk_g (t : Fin cfg0.N) (d : Fin 1024) : iblk m c 1 t (ix2 0 d) = m ((c : Thread nD τ).loc main_arg1) (ix2 0 d) := by
  blk_simp [iblk]
  refine (congrArg _ ?_).trans (host_g m c d)
  blk_ext [ix1']
theorem blk_w (t : Fin cfg0.N) (a : Fin 1024) (b : Fin 512) : iblk m c 2 t (ix2 a b) = m ((c : Thread nD τ).loc main_arg2) (ix3 0 a b) := by
  blk_simp [iblk]
  refine (congrArg _ ?_).trans (host_w m c a b)
  blk_ext [ix2']
theorem blk_s (t : Fin cfg0.N) (j : Fin 256) : iblk m c 3 t (ix2 0 j) = m ((c : Thread nD τ).loc main_arg3) (ix2 0 (⟨j.val % 64, Nat.mod_lt _ (by decide)⟩ : Fin 64)) := by
  blk_simp [iblk]
  refine (congrArg _ ?_).trans (host_s m c j)
  blk_ext [ix3']
theorem blk_o (t : Fin cfg0.N) (p q : Fin 256) : iblk m c 4 t (ix2 p q) = Ideal.ofBits .bf16 (groupBits (p.val / 64) (q.val / 64)) := by
  blk_simp [iblk]
  refine (congrArg _ ?_).trans (host_o m c p q)
  blk_ext [ix4']

/-! ## The arrays after every point -/

/-- A column of the normed memory through the weight. -/
def column (x : S8x256x1024.Idx → EReal) (g : S1x1024.Idx → EReal) (w : S1x1024x512.Idx → EReal) (b : Fin 8) (n : Fin 256) (j : Fin 512) : EReal :=
  normed (fun d => x (ix3 b n d)) (fun d => g (ix2 0 d)) (fun d => w (ix3 0 d j))

/-- A key of the memory. -/
def keyOf (x : S8x256x1024.Idx → EReal) (g : S1x1024.Idx → EReal) (w : S1x1024x512.Idx → EReal) (s : S1x64.Idx → EReal) (b : Fin 8) (j n : Fin 256) : EReal :=
  groupNormed (fun j => column x g w b n (⟨j.val, by omega⟩ : Fin 512)) (s (ix2 0 (⟨j.val % 64, Nat.mod_lt _ (by decide)⟩ : Fin 64))) j

/-- A value of the memory. -/
def valueOf (x : S8x256x1024.Idx → EReal) (g : S1x1024.Idx → EReal) (w : S1x1024x512.Idx → EReal) (b : Fin 8) (j n : Fin 256) : EReal :=
  column x g w b n (⟨256 + j.val, by omega⟩ : Fin 512)

/-- The keys from a memory's argument arrays. -/
def keysV (c : Dev nD) (z : S8x256x256.Idx) : EReal :=
  keyOf (m ((c : Thread nD τ).loc main_arg0)) (m ((c : Thread nD τ).loc main_arg1)) (m ((c : Thread nD τ).loc main_arg2))
    (m ((c : Thread nD τ).loc main_arg3)) (z 0) (z 1) (z 2)

/-- The values from a memory's argument arrays. -/
def valuesV (c : Dev nD) (z : S8x256x256.Idx) : EReal :=
  valueOf (m ((c : Thread nD τ).loc main_arg0)) (m ((c : Thread nD τ).loc main_arg1)) (m ((c : Thread nD τ).loc main_arg2)) (z 0) (z 1) (z 2)

theorem keys_point (t : Fin cfg0.N) (j n : Fin 256) :
    out0_5 (iblk m c 0 t) (iblk m c 1 t) (iblk m c 2 t) (iblk m c 3 t) (iblk m c 4 t) (ix3 0 j n) = keysV m c (ix3 (bOf t) j n) := by
  have z3 : (![0, 0, 0] : Fin 3 → ℕ) = fun _ => 0 := funext fun i => by fin_cases i <;> rfl
  have z2 : (![0, 0] : Fin 2 → ℕ) = fun _ => 0 := funext fun i => by fin_cases i <;> rfl
  unfold out0_5
  rw [Value.canon5_eq, View.ld_unit_zero z3, View.ld_unit_zero z2, View.ld_unit_zero z2, View.ld_unit_zero z2, View.ld_unit_zero z2]
  have e : Value.ix5_0 (ix3 0 j n) = ix2 j n := by
    funext a; match a with | ⟨0, _⟩ => rfl | ⟨1, _⟩ => rfl
  show k0_pay4 (F := Ideal) _ _ _ _ _ (Value.ix5_0 (ix3 0 j n)) = _
  rw [e, key_at _ _ _ _ _ (blk_o m c t)]
  simp only [blk_x, blk_g, blk_w, blk_s]
  rfl

theorem values_point (t : Fin cfg0.N) (j n : Fin 256) :
    out0_6 (iblk m c 0 t) (iblk m c 1 t) (iblk m c 2 t) (iblk m c 3 t) (iblk m c 4 t) (ix3 0 j n) = valuesV m c (ix3 (bOf t) j n) := by
  have z3 : (![0, 0, 0] : Fin 3 → ℕ) = fun _ => 0 := funext fun i => by fin_cases i <;> rfl
  have z2 : (![0, 0] : Fin 2 → ℕ) = fun _ => 0 := funext fun i => by fin_cases i <;> rfl
  unfold out0_6
  rw [Value.canon6_eq, View.ld_unit_zero z3, View.ld_unit_zero z2, View.ld_unit_zero z2]
  have e : Value.ix6_0 (ix3 0 j n) = ix2 n (⟨256 + j.val, by omega⟩ : Fin 512) := by
    funext a; match a with | ⟨0, _⟩ => rfl | ⟨1, _⟩ => exact Fin.ext (Nat.add_comm _ _)
  show k0_pay3 (F := Ideal) _ _ _ (Value.ix6_0 (ix3 0 j n)) = _
  rw [e, kv_at]
  simp only [blk_x, blk_g, blk_w]
  rfl

theorem unit_block (y : S1x256x256.Idx) : y = ix3 0 (y 1) (y 2) :=
  funext fun a => match a with
    | ⟨0, _⟩ => Fin.ext (by have : (y 0).val < 1 := (y 0).isLt; show (y 0).val = 0; omega)
    | ⟨1, _⟩ => rfl
    | ⟨2, _⟩ => rfl

theorem keys_value : (dats m 0 c).arrAt 5 cfg0.N = keysV m c := by
  refine (dats m 0 c).arrAt_eq_of_covers 5 _ (by decide +kernel) fun t hf y => ?_
  blk_simp
  rw [after0_5, unit_block y]
  refine (keys_point m c t (y 1) (y 2)).trans (congrArg (keysV m c) ?_)
  blk_ext [ix5', bOf]

theorem values_value : (dats m 0 c).arrAt 6 cfg0.N = valuesV m c := by
  refine (dats m 0 c).arrAt_eq_of_covers 6 _ (by decide +kernel) fun t hf y => ?_
  blk_simp
  rw [after0_6, unit_block y]
  refine (values_point m c t (y 1) (y 2)).trans (congrArg (valuesV m c) ?_)
  blk_ext [ix6, bOf]

end Cert.Kernel2Ideal.Hand

end
-- ==== Proof.Memory.Reference.lean ====
module

public import proofs.«01_k».proof.Proof.Memory.Kernel
public import proofs.«01_k».proof.Proof.Gen.Reference2Ideal.Read

@[expose] public section

/-! # The memory's keys and values: what the reference computes, and the two runs -/

set_option maxRecDepth 65536

noncomputable section

namespace Cert.Reference2Ideal.Hand

open Cert.Reference2Ideal Cert.Reference2Ideal.Gen Cert.Reference2Ideal.Read
open Idealize.ShloMosaic Idealize.ShloMosaic.TcCoe Idealize.ShloMosaic.Tactic
open Cert.Kernel2Ideal.Hand (normed inGroup groupNormed column keyOf valueOf)

variable (x0 : S8x256x1024.Idx → EReal) (x1 : S1x1024.Idx → EReal) (x2 : S1x1024x512.Idx → EReal) (x3 : S1x64.Idx → EReal)

theorem bits_zero : Ideal.ofBits .f32 0x00000000#32 = 0 := by simp [Ideal.ofBits, Ideal.ieee]

/-! ## The normed memory through the weight -/

theorem g_at (i : S8x256x1024.Idx) : val_main_v12 (F := Ideal) x1 i = x1 (ix2 0 (i 2)) := by
  rw [val_main_v12_apply, val_main_v11_apply, val_main_v0_apply]
  refine congrArg x1 (funext fun a => Fin.ext ?_)
  match a with
  | ⟨0, _⟩ => rfl
  | ⟨1, _⟩ => exact Nat.mod_eq_of_lt (i 2).isLt

theorem w_at (d : Fin 1024) (j : Fin 512) : val_main_v14 (F := Ideal) x2 (ix2 d j) = x2 (ix3 0 d j) := by
  rw [val_main_v14_apply]
  refine congrArg x2 (funext fun a => Fin.ext ?_)
  match a with
  | ⟨0, _⟩ => rfl
  | ⟨1, _⟩ => show (d.val * 512 + j.val) / 512 % 1024 = d.val; omega
  | ⟨2, _⟩ => show (d.val * 512 + j.val) % 512 = j.val; omega

/-- The reciprocal root of a row's mean square. -/
theorem scale_at (b : Fin 8) (n : Fin 256) (d : Fin 1024) :
    val_main_v9 (F := Ideal) x0 (ix3 b n d)
      = Ideal.rsqrt (Ideal.div (∑ e : Fin 1024, x0 (ix3 b n e) * x0 (ix3 b n e)) (Ideal.ofBits .f32 0x44800000#32) + Ideal.ofBits .f32 0x358637BD#32) := by
  rw [val_main_v9_apply, val_main_v8_apply, val_main_v7_apply, val_main_v5_apply, val_main_v3_apply, val_main_v2_apply, val_main_v4_apply,
    val_main_v6_apply, val_main_cst_apply, val_main_cst_0_apply, val_main_cst_1_apply]
  have e : ∀ k : Fin 1024, idx_main_v2 (idx_main_v3 (idx_main_v9 (ix3 b n d))) k = ix3 b n k := by
    intro k; funext a; match a with | ⟨0, _⟩ => rfl | ⟨1, _⟩ => rfl | ⟨2, _⟩ => rfl
  have t : FloatOps.ofBits (F := Ideal) .f32 0x00000000#32 + ∑ k : Fin 1024, val_main_v1 (F := Ideal) x0 (idx_main_v2 (idx_main_v3 (idx_main_v9 (ix3 b n d))) k)
      = (∑ k : Fin 1024, x0 (ix3 b n k) * x0 (ix3 b n k) : EReal) := by
    refine (congrArg (· + _) bits_zero).trans ((zero_add _).trans (Finset.sum_congr rfl fun k _ => ?_))
    rw [e, val_main_v1_apply]
    rfl
  exact congrArg (fun q => Ideal.rsqrt (Ideal.div q (Ideal.ofBits .f32 0x44800000#32) + Ideal.ofBits .f32 0x358637BD#32)) t

theorem kv_at (b : Fin 8) (n : Fin 256) (j : Fin 512) : val_main_v15 (F := Ideal) x0 x1 x2 (ix3 b n j) = column x0 x1 x2 b n j := by
  rw [val_main_v15_apply]
  unfold column normed
  refine Finset.sum_congr rfl fun d _ => ?_
  have e1 : lidx_main_v15 (ix3 b n j) d = ix3 b n d := by
    funext a; match a with | ⟨0, _⟩ => rfl | ⟨1, _⟩ => rfl | ⟨2, _⟩ => rfl
  have e2 : ridx_main_v15 (ix3 b n j) d = ix2 d j := by
    funext a; match a with | ⟨0, _⟩ => rfl | ⟨1, _⟩ => rfl
  rw [e1, e2, w_at, val_main_v13_apply, g_at, val_main_v10_apply, scale_at]
  rfl

/-! ## The two results -/

theorem value_at (b : Fin 8) (j n : Fin 256) : val_main_v35 (F := Ideal) x0 x1 x2 (ix3 b j n) = valueOf x0 x1 x2 b j n := by
  rw [val_main_v35_apply, val_main_v34_apply]
  have e : idx_main_v34 (idx_main_v35 (ix3 b j n)) = ix3 b n (⟨256 + j.val, by omega⟩ : Fin 512) := by
    funext a; match a with | ⟨0, _⟩ => rfl | ⟨1, _⟩ => rfl | ⟨2, _⟩ => rfl
  rw [e, kv_at]
  rfl

/-- A key before its norm, by group and place in the group. -/
theorem raw_at (b : Fin 8) (n : Fin 256) (h : Fin 4) (x : Fin 64) :
    val_main_v17 (F := Ideal) x0 x1 x2 (ix4 b n h x) = column x0 x1 x2 b n (⟨64 * h.val + x.val, by omega⟩ : Fin 512) := by
  rw [val_main_v17_apply, val_main_v16_apply, ← kv_at]
  refine congrArg _ (funext fun a => Fin.ext ?_)
  match a with
  | ⟨0, _⟩ => show (((b.val * 256 + n.val) * 4 + h.val) * 64 + x.val) / 65536 = b.val; omega
  | ⟨1, _⟩ => show (((b.val * 256 + n.val) * 4 + h.val) * 64 + x.val) / 256 % 256 = n.val; omega
  | ⟨2, _⟩ => show (((b.val * 256 + n.val) * 4 + h.val) * 64 + x.val) % 256 = 64 * h.val + x.val; omega

theorem s_at (i : S8x256x4x64.Idx) : val_main_v30 (F := Ideal) x3 i = x3 (ix2 0 (i 3)) := by
  rw [val_main_v30_apply, val_main_v29_apply, val_main_v18_apply]
  refine congrArg x3 (funext fun a => Fin.ext ?_)
  match a with
  | ⟨0, _⟩ => rfl
  | ⟨1, _⟩ => exact Nat.mod_eq_of_lt (i 3).isLt

/-- The reciprocal root of a group's mean square. -/
theorem group_scale_at (b : Fin 8) (n : Fin 256) (h : Fin 4) (x : Fin 64) :
    val_main_v27 (F := Ideal) x0 x1 x2 (ix4 b n h x)
      = Ideal.rsqrt (Ideal.div (∑ y : Fin 64, column x0 x1 x2 b n (⟨64 * h.val + y.val, by omega⟩ : Fin 512) * column x0 x1 x2 b n (⟨64 * h.val + y.val, by omega⟩ : Fin 512))
          (Ideal.ofBits .f32 0x42800000#32) + Ideal.ofBits .f32 0x358637BD#32) := by
  rw [val_main_v27_apply, val_main_v26_apply, val_main_v25_apply, val_main_v23_apply, val_main_v21_apply, val_main_v20_apply, val_main_v22_apply,
    val_main_v24_apply, val_main_cst_2_apply, val_main_cst_3_apply, val_main_cst_4_apply]
  have e : ∀ k : Fin 64, idx_main_v20 (idx_main_v21 (idx_main_v27 (ix4 b n h x))) k = ix4 b n h k := by
    intro k; funext a; match a with | ⟨0, _⟩ => rfl | ⟨1, _⟩ => rfl | ⟨2, _⟩ => rfl | ⟨3, _⟩ => rfl
  have t : FloatOps.ofBits (F := Ideal) .f32 0x00000000#32
        + ∑ k : Fin 64, val_main_v19 (F := Ideal) x0 x1 x2 (idx_main_v20 (idx_main_v21 (idx_main_v27 (ix4 b n h x))) k)
      = (∑ y : Fin 64, column x0 x1 x2 b n (⟨64 * h.val + y.val, by omega⟩ : Fin 512) * column x0 x1 x2 b n (⟨64 * h.val + y.val, by omega⟩ : Fin 512) : EReal) := by
    refine (congrArg (· + _) bits_zero).trans ((zero_add _).trans (Finset.sum_congr rfl fun k _ => ?_))
    rw [e, val_main_v19_apply, raw_at]
    rfl
  exact congrArg (fun q => Ideal.rsqrt (Ideal.div q (Ideal.ofBits .f32 0x42800000#32) + Ideal.ofBits .f32 0x358637BD#32)) t

theorem key_at (b : Fin 8) (j n : Fin 256) : val_main_v33 (F := Ideal) x0 x1 x2 x3 (ix3 b j n) = keyOf x0 x1 x2 x3 b j n := by
  rw [val_main_v33_apply, val_main_v32_apply]
  have e : idx_main_v32 (idx_main_v33 (ix3 b j n)) = ix4 b n (⟨j.val / 64, by omega⟩ : Fin 4) (⟨j.val % 64, Nat.mod_lt _ (by decide)⟩ : Fin 64) := by
    funext a
    refine Fin.ext ?_
    match a with
    | ⟨0, _⟩ => show ((b.val * 256 + n.val) * 256 + j.val) / 65536 = b.val; omega
    | ⟨1, _⟩ => show ((b.val * 256 + n.val) * 256 + j.val) / 256 % 256 = n.val; omega
    | ⟨2, _⟩ => show ((b.val * 256 + n.val) * 256 + j.val) / 64 % 4 = j.val / 64; omega
    | ⟨3, _⟩ => show ((b.val * 256 + n.val) * 256 + j.val) % 64 = j.val % 64; omega
  have ej : (⟨64 * (j.val / 64) + j.val % 64, by omega⟩ : Fin 512) = ⟨j.val, by omega⟩ := Fin.ext (by show 64 * (j.val / 64) + j.val % 64 = j.val; omega)
  rw [e, val_main_v31_apply, val_main_v28_apply, raw_at, group_scale_at, s_at, ej]
  rfl

end Cert.Reference2Ideal.Hand

namespace Cert.Proof

open Idealize.ShloMosaic Idealize.SL.Sem

/-- From memories that agree on the arguments, both programs end with the memory's keys and values. -/
theorem algebraic_memory : Cert.algebraic_Kernel2Ideal_Reference2Ideal (hKernel2Ideal := Cert.Kernel2Ideal.Gen.facts) (hReference2Ideal := Cert.Reference2Ideal.Gen.facts) := by
  intro m ρ m' ρ' hpre hag
  refine ⟨fun c => Cert.Kernel2Ideal.Hand.keysV m c, fun c => Cert.Kernel2Ideal.Hand.valuesV m c,
    (θ_run Cert.Kernel2Ideal.defs _ _).mono (fun _ h c => ⟨(h c).1.trans (Cert.Kernel2Ideal.Hand.keys_value m c),
      (h c).2.1.trans (Cert.Kernel2Ideal.Hand.values_value m c), (h c).2.2⟩) (Cert.Kernel2Ideal.Value.run_blocks (F := Ideal) m ρ), ?_⟩
  refine (θ_run Cert.Reference2Ideal.defs _ _).mono (fun _ h c => ⟨(h c).1.trans ?_, (h c).2.1.trans ?_, (h c).2.2⟩) (Cert.Reference2Ideal.Value.run (F := Ideal) m' ρ')
  all_goals
    obtain ⟨a0, a1, a2, a3⟩ := hag c
    first | rw [Cert.Reference2Ideal.Read.val_main_v33_eq, a0, a1, a2, a3] | rw [Cert.Reference2Ideal.Read.val_main_v35_eq, a0, a1, a2]
    funext z
    have ez : z = ix3 (z 0) (z 1) (z 2) := funext fun a => match a with | ⟨0, _⟩ => rfl | ⟨1, _⟩ => rfl | ⟨2, _⟩ => rfl
    rw [ez]
  · exact Cert.Reference2Ideal.Hand.key_at _ _ _ _ (z 0) (z 1) (z 2)
  · exact Cert.Reference2Ideal.Hand.value_at _ _ _ (z 0) (z 1) (z 2)

end Cert.Proof

end
-- ==== Proof.Sample.lean ====
module

public import proofs.«01_k».proof.Defs
public import proofs.«01_k».proof.Proof.Gen.Kernel3Ideal.Value
public import proofs.«01_k».proof.Proof.Gen.Reference3Ideal.Read
public import Idealize.ShloMosaic.Lib.Pointwise
public import Idealize.ShloMosaic.Lib.Pipeline.ValueKit.Geometry
public import Idealize.ShloMosaic.Lib.StableHlo.ReadAt

@[expose] public section

/-! # The sample's projection: the output product in two halves against one product of the joined branches -/

set_option maxRecDepth 65536

noncomputable section

namespace Cert.Kernel3Ideal.Hand

open Cert.Kernel3Ideal Cert.Kernel3Ideal.Gen
open Idealize.ShloMosaic Idealize.ShloMosaic.TcCoe Idealize.ShloMosaic.Tactic
open Idealize.SL.Sem

/-- An element of the sample's result: the input plus the attention branch through the first half of a column of the output weight
    and the mixing branch through the second. -/
def proj (x : S32x32x1024.Idx → EReal) (a b : S32x32x512.Idx → EReal) (w : S1x1024x1024.Idx → EReal) (s n : Fin 32) (o : Fin 1024) : EReal :=
  x (ix3 s n o) + ∑ d : Fin 512, a (ix3 s n d) * w (ix3 0 (⟨d.val, by omega⟩ : Fin 1024) o)
    + ∑ d : Fin 512, b (ix3 s n d) * w (ix3 0 (⟨512 + d.val, by omega⟩ : Fin 1024) o)

/-- The block a point writes, from its blocks. -/
theorem block_at (x : Vec Ideal S1x32x1024 .f32) (a b : Vec Ideal S1x32x512 .bf16) (w : Vec Ideal S1024x1024 .bf16) (n : Fin 32) (o : Fin 1024) :
    out0_4 (F := Ideal) x a b w (ix3 0 n o)
      = (x (ix3 0 n o) + ∑ d : Fin 512, a (ix3 0 n d) * w (ix2 (⟨d.val, by omega⟩ : Fin 1024) o)
          + ∑ d : Fin 512, b (ix3 0 n d) * w (ix2 (⟨512 + d.val, by omega⟩ : Fin 1024) o) : EReal) := by
  have z3 : (![0, 0, 0] : Fin 3 → ℕ) = fun _ => 0 := funext fun i => by fin_cases i <;> rfl
  unfold out0_4
  rw [View.canon_unit_zero z3, View.ld_unit_zero z3, View.ld_unit_zero z3, View.ld_unit_zero z3]
  have h0 : ∀ (d : Fin 512), View.ld w r0_2 (ix2 d o) = w (ix2 (⟨d.val, by omega⟩ : Fin 1024) o) := fun d =>
    congrArg w (funext fun i => Fin.ext (match i with | ⟨0, _⟩ => by show 0 + 1 * d.val = d.val; omega | ⟨1, _⟩ => by show 0 + 1 * o.val = o.val; omega))
  have h1 : ∀ (d : Fin 512), View.ld w r0_3 (ix2 d o) = w (ix2 (⟨512 + d.val, by omega⟩ : Fin 1024) o) := fun d =>
    congrArg w (funext fun i => Fin.ext (match i with | ⟨0, _⟩ => by show 512 + 1 * d.val = 512 + d.val; omega | ⟨1, _⟩ => by show 0 + 1 * o.val = o.val; omega))
  simp only [← h0, ← h1]
  generalize View.ld w r0_2 = wt
  generalize View.ld w r0_3 = wb
  pointwise [k0_pay1]

variable (m : (ℓ : Loc nD τ sig) → Buf (Elt Ideal) ℓ) (ρ : Dev nD → PrngReg) (c : Dev nD)

theorem host_a (z : S32x32x512.Idx) : V m c main_v0 z = m ((c : Thread nD τ).loc main_arg1) z := by
  unfold V; after_reads_at
theorem host_b (z : S32x32x512.Idx) : V m c main_v1 z = m ((c : Thread nD τ).loc main_arg2) z := by
  unfold V; after_reads_at
theorem host_w (a b : Fin 1024) : V m c main_v3 (ix2 a b) = m ((c : Thread nD τ).loc main_arg3) (ix3 0 a b) := by
  unfold V; after_reads_at

theorem ix0 : ∀ t : Fin cfg0.N, win0_0.index t = ![t.val, 0, 0] := (by decide +kernel : ∀ t : Fin grid0.N, _)
theorem ix1 : ∀ t : Fin cfg0.N, win0_1.index t = ![t.val, 0, 0] := (by decide +kernel : ∀ t : Fin grid0.N, _)
theorem ix2' : ∀ t : Fin cfg0.N, win0_2.index t = ![t.val, 0, 0] := (by decide +kernel : ∀ t : Fin grid0.N, _)
theorem ix3' : ∀ t : Fin cfg0.N, win0_3.index t = ![0, 0] := (by decide +kernel : ∀ t : Fin grid0.N, _)
theorem ix4' : ∀ t : Fin cfg0.N, win0_4.index t = ![t.val, 0, 0] := (by decide +kernel : ∀ t : Fin grid0.N, _)

/-- The sample of a grid point. -/
def sOf (t : Fin cfg0.N) : Fin 32 := ⟨t.val, by have := t.isLt; have : cfg0.N = 32 := N_0; omega⟩

theorem blk_x (t : Fin cfg0.N) (z : S1x32x1024.Idx) : iblk m c 0 t z = m ((c : Thread nD τ).loc main_arg0) (ix3 (sOf t) (z 1) (z 2)) := by
  blk_simp [iblk]
  refine (congrFun (V_main_arg0 m c) _).trans (congrArg _ ?_)
  blk_ext [ix0, sOf]
theorem blk_a (t : Fin cfg0.N) (z : S1x32x512.Idx) : iblk m c 1 t z = m ((c : Thread nD τ).loc main_arg1) (ix3 (sOf t) (z 1) (z 2)) := by
  blk_simp [iblk]
  refine (host_a m c _).trans (congrArg _ ?_)
  blk_ext [ix1, sOf]
theorem blk_b (t : Fin cfg0.N) (z : S1x32x512.Idx) : iblk m c 2 t z = m ((c : Thread nD τ).loc main_arg2) (ix3 (sOf t) (z 1) (z 2)) := by
  blk_simp [iblk]
  refine (host_b m c _).trans (congrArg _ ?_)
  blk_ext [ix2', sOf]
theorem blk_w (t : Fin cfg0.N) (a b : Fin 1024) : iblk m c 3 t (ix2 a b) = m ((c : Thread nD τ).loc main_arg3) (ix3 0 a b) := by
  blk_simp [iblk]
  refine (congrArg _ ?_).trans (host_w m c a b)
  blk_ext [ix3']

/-- The sample's result from a memory's argument arrays. -/
def outV (c : Dev nD) (z : S32x32x1024.Idx) : EReal :=
  proj (m ((c : Thread nD τ).loc main_arg0)) (m ((c : Thread nD τ).loc main_arg1)) (m ((c : Thread nD τ).loc main_arg2))
    (m ((c : Thread nD τ).loc main_arg3)) (z 0) (z 1) (z 2)

theorem point_at (t : Fin cfg0.N) (n : Fin 32) (o : Fin 1024) :
    out0_4 (iblk m c 0 t) (iblk m c 1 t) (iblk m c 2 t) (iblk m c 3 t) (ix3 0 n o) = outV m c (ix3 (sOf t) n o) := by
  rw [block_at]
  simp only [blk_x, blk_a, blk_b, blk_w]
  rfl

/-- The output array after every point. -/
theorem arr_value : (dats m 0 c).arrAt 4 cfg0.N = outV m c := by
  refine (dats m 0 c).arrAt_eq_of_covers 4 _ (by decide +kernel) fun t hf y => ?_
  blk_simp
  rw [after0_4]
  have ey : y = ix3 0 (y 1) (y 2) := funext fun a => match a with | ⟨0, _⟩ => Fin.ext (by have : (y 0).val < 1 := (y 0).isLt; show (y 0).val = 0; omega) | ⟨1, _⟩ => rfl | ⟨2, _⟩ => rfl
  rw [ey]
  refine (point_at m c t (y 1) (y 2)).trans (congrArg (outV m c) ?_)
  blk_ext [ix4', sOf]

end Cert.Kernel3Ideal.Hand

namespace Cert.Reference3Ideal.Hand

open Cert.Reference3Ideal Cert.Reference3Ideal.Gen Cert.Reference3Ideal.Read
open Idealize.ShloMosaic Idealize.ShloMosaic.TcCoe Idealize.ShloMosaic.Tactic

variable (x0 : S32x32x1024.Idx → EReal) (x1 x2 : S32x32x512.Idx → EReal) (x3 : S1x1024x1024.Idx → EReal)

theorem concat_at (s n : Fin 32) (d : Fin 1024) :
    val_main_v0 (F := Ideal) x1 x2 (ix3 s n d)
      = if hd : d.val < 512 then x1 (ix3 s n (⟨d.val, hd⟩ : Fin 512)) else x2 (ix3 s n (⟨d.val - 512, by omega⟩ : Fin 512)) := by
  unfold val_main_v0
  pointwise

theorem w_at (d a : Fin 1024) : val_main_v1 (F := Ideal) x3 (ix2 d a) = x3 (ix3 0 d a) := by
  rw [val_main_v1_apply]
  refine congrArg x3 (funext fun k => Fin.ext ?_)
  match k with
  | ⟨0, _⟩ => rfl
  | ⟨1, _⟩ => show (d.val * 1024 + a.val) / 1024 % 1024 = d.val; omega
  | ⟨2, _⟩ => show (d.val * 1024 + a.val) % 1024 = a.val; omega

/-- The reference's result at an index: one sum over the joined branches, split at the join. -/
theorem out_at (s n : Fin 32) (o : Fin 1024) :
    val_main_v3 (F := Ideal) x0 x1 x2 x3 (ix3 s n o) = Cert.Kernel3Ideal.Hand.proj x0 x1 x2 x3 s n o := by
  rw [val_main_v3_apply, val_main_v2_apply]
  have t : ∀ k : Fin 1024, val_main_v0 (F := Ideal) x1 x2 (lidx_main_v2 (ix3 s n o) k) * val_main_v1 (F := Ideal) x3 (ridx_main_v2 (ix3 s n o) k)
      = (if hd : k.val < 512 then x1 (ix3 s n (⟨k.val, hd⟩ : Fin 512)) else x2 (ix3 s n (⟨k.val - 512, by omega⟩ : Fin 512))) * x3 (ix3 0 k o) := by
    intro k
    have e1 : lidx_main_v2 (ix3 s n o) k = ix3 s n k := by
      funext i; match i with | ⟨0, _⟩ => rfl | ⟨1, _⟩ => rfl | ⟨2, _⟩ => rfl
    have e2 : ridx_main_v2 (ix3 s n o) k = ix2 k o := by
      funext i; match i with | ⟨0, _⟩ => rfl | ⟨1, _⟩ => rfl
    rw [e1, e2, concat_at, w_at]
  rw [Finset.sum_congr rfl fun k _ => t k]
  refine (congrArg (x0 (ix3 s n o) + ·) (Fin.sum_univ_add (a := 512) (b := 512) _)).trans ?_
  unfold Cert.Kernel3Ideal.Hand.proj
  refine (add_assoc _ _ _).symm.trans ?_
  refine congr (congrArg _ (congrArg _ (Finset.sum_congr rfl fun d _ => ?_))) (Finset.sum_congr rfl fun d _ => ?_)
  · rw [dif_pos (show (Fin.castAdd 512 d).val < 512 from d.isLt)]
    rfl
  · rw [dif_neg (by show ¬ 512 + d.val < 512; omega)]
    refine congr (congrArg _ (congrArg (fun k : Fin 512 => x2 (ix3 s n k)) (Fin.ext ?_))) rfl
    show 512 + d.val - 512 = d.val
    omega

end Cert.Reference3Ideal.Hand

namespace Cert.Proof

open Idealize.ShloMosaic Idealize.SL.Sem

/-- From memories that agree on the arguments, both programs end with the sample's result. -/
theorem algebraic_sample : Cert.algebraic_Kernel3Ideal_Reference3Ideal (hKernel3Ideal := Cert.Kernel3Ideal.Gen.facts) (hReference3Ideal := Cert.Reference3Ideal.Gen.facts) := by
  intro m ρ m' ρ' hpre hag
  refine ⟨fun c => Cert.Kernel3Ideal.Hand.outV m c,
    (θ_run Cert.Kernel3Ideal.defs _ _).mono (fun _ h c => ⟨(h c).1.trans (Cert.Kernel3Ideal.Hand.arr_value m c), (h c).2⟩) (Cert.Kernel3Ideal.Value.run_blocks (F := Ideal) m ρ), ?_⟩
  refine (θ_run Cert.Reference3Ideal.defs _ _).mono (fun _ h c => ⟨(h c).1.trans ?_, (h c).2⟩) (Cert.Reference3Ideal.Value.run (F := Ideal) m' ρ')
  obtain ⟨a0, a1, a2, a3⟩ := hag c
  rw [Cert.Reference3Ideal.Read.val_main_v3_eq, a0, a1, a2, a3]
  funext z
  have ez : z = ix3 (z 0) (z 1) (z 2) := funext fun a => match a with | ⟨0, _⟩ => rfl | ⟨1, _⟩ => rfl | ⟨2, _⟩ => rfl
  rw [ez]
  exact Cert.Reference3Ideal.Hand.out_at _ _ _ _ (z 0) (z 1) (z 2)

end Cert.Proof

end
-- ==== Proof.lean ====
module

public import proofs.«01_k».proof.Defs
public import proofs.«01_k».proof.Proof.Kernel.Frame
public import proofs.«01_k».proof.Proof.KernelIdeal.Frame
public import proofs.«01_k».proof.Proof.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Memory.Reference
public import proofs.«01_k».proof.Proof.Sample
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Pre_finite.Gen.facts,
  fun m ρ _ => Cert.Kernel.Hand.frame_main m ρ,
  fun m ρ _ => Cert.KernelIdeal.Hand.frame_main m ρ,
  fun m ρ _ => Cert.KernelIdeal.Hand.frame_main m ρ,
  fun m ρ _ => (θ_run Cert.ReferenceIdeal.defs _ _).mono (fun r h => ⟨fun c => (h c).2, Idealize.ShloMosaic.sem_eq_zero_of_no_sems (by decide) r.2⟩)
    (Cert.ReferenceIdeal.Value.run (F := Ideal) m ρ),
  fun m ρ _ => (θ_run Cert.ReferenceIdeal.defs _ _).mono (fun r h => ⟨fun c => (h c).2, Idealize.ShloMosaic.sem_eq_zero_of_no_sems (by decide) r.2⟩)
    (Cert.ReferenceIdeal.Value.run (F := Ideal) m ρ),
  fun m ρ _ => Cert.Kernel2.Gen.frame m ρ,
  fun m ρ _ => Cert.Kernel2Ideal.Gen.frame m ρ,
  fun m ρ _ => (θ_run Cert.Reference2Ideal.defs _ _).mono (fun r h => ⟨fun c => (h c).2.2, Idealize.ShloMosaic.sem_eq_zero_of_no_sems (by decide) r.2⟩)
    (Cert.Reference2Ideal.Value.run (F := Ideal) m ρ),
  fun m ρ _ => Cert.Kernel3.Gen.frame m ρ,
  fun m ρ _ => Cert.Kernel3Ideal.Gen.frame m ρ,
  fun m ρ _ => (θ_run Cert.Reference3Ideal.defs _ _).mono (fun r h => ⟨fun c => (h c).2, Idealize.ShloMosaic.sem_eq_zero_of_no_sems (by decide) r.2⟩)
    (Cert.Reference3Ideal.Value.run (F := Ideal) m ρ),
  ⟨IdealRules.named_const.statement Cert.KernelIdeal.κ "mask" .f32 0xF149F2CA#32 ⊥ rfl,
    IdealRules.named_const.statement Cert.KernelIdeal.κ "scale" .f32 0x3E38AA3B#32 (((8 * Real.log 2)⁻¹ : ℝ) : EReal) rfl⟩,
  algebraic, trivial, algebraic_memory, trivial, algebraic_sample⟩

end Cert.Proof

end
